-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv7" .f32 0x3E124925#32 ((1 / 7 : ℝ) : EReal)

def algebraic_KernelIdeal_ReferenceIdeal_on_on_pre_pre [hKernelIdeal : Cert.KernelIdeal.Facts] [hReferenceIdeal : Cert.ReferenceIdeal.Facts] [hPre_pre : Cert.Pre_pre.Facts] [hOn_on : Cert.On_on.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 768, 7680]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v6) i = v0 c i)
          ∧ (∀ i : (⟨1, ![80]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v5_1) i = v1 c i)
          ∧ (∀ i : (⟨3, ![2, 768, 80]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v7) i = v2 c i)
          ∧ (∀ i : (⟨4, ![2, 768, 80, 96]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v8) i = v3 c i)
          ∧ (∀ i : (⟨3, ![2, 768, 80]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v9) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 768, 7680]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v65) i = v0 c i)
          ∧ (∀ i : (⟨1, ![80]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v50) i = v1 c i)
          ∧ (∀ i : (⟨3, ![2, 768, 80]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v49) i = v2 c i)
          ∧ (∀ i : (⟨4, ![2, 768, 80, 96]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v35_0) i = v3 c i)
          ∧ (∀ i : (⟨3, ![2, 768, 80]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v26) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts) (hOn_on : Cert.On_on.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_on_on_pre_pre (hKernelIdeal := hKernelIdeal) (hReferenceIdeal := hReferenceIdeal) (hPre_pre := hPre_pre) (hOn_on := hOn_on)
-- ==== On_on.lean ====
abbrev S2x768x7680 : Shape := ⟨3, ![2, 768, 7680]⟩
abbrev S2x768x48 : Shape := ⟨3, ![2, 768, 48]⟩
abbrev S80 : Shape := ⟨1, ![80]⟩
abbrev S2x768x80x96 : Shape := ⟨4, ![2, 768, 80, 96]⟩
abbrev S2x768x80 : Shape := ⟨3, ![2, 768, 80]⟩
abbrev S_ : Shape := ⟨0, ![]⟩

class Facts : Prop where
  bcast_S_S2x768x7680 : S_.BroadcastsInDim S2x768x7680 (![] : Fin 0 → Fin S2x768x7680.rank)
  bcast_S_S80 : S_.BroadcastsInDim S80 (![] : Fin 0 → Fin S80.rank)
  bcast_S_S2x768x80 : S_.BroadcastsInDim S2x768x80 (![] : Fin 0 → Fin S2x768x80.rank)
  bcast_S_S2x768x80x96 : S_.BroadcastsInDim S2x768x80x96 (![] : Fin 0 → Fin S2x768x80x96.rank)

variable [Facts]

def fn {F : FTy → Type} [FloatOps F] (main_arg0 : FVec F S2x768x7680 .bf16) (main_arg1 : FVec F S2x768x48 .f32) (main_arg2 : FVec F S2x768x48 .f32) (main_arg3 : FVec F S80 .f32) (main_arg4 : FVec F S2x768x80x96 .fp8e5m2) (main_arg5 : FVec F S2x768x80 .f32) : IVec S2x768x7680 1 × IVec S80 1 × IVec S2x768x80 1 × IVec S2x768x80x96 1 × IVec S2x768x80 1 :=
  let main_c : IVec S_ 1 := constantI S_ 1 1#1
  let main_v0 : IVec S2x768x7680 1 := broadcastInDim S2x768x7680 ![] bcast_S_S2x768x7680 main_c
  let main_c_0 : IVec S_ 1 := constantI S_ 1 0#1
  let main_v1 : IVec S80 1 := broadcastInDim S80 ![] bcast_S_S80 main_c_0
  let main_c_1 : IVec S_ 1 := constantI S_ 1 0#1
  let main_v2 : IVec S2x768x80 1 := broadcastInDim S2x768x80 ![] bcast_S_S2x768x80 main_c_1
  let main_c_2 : IVec S_ 1 := constantI S_ 1 1#1
  let main_v3 : IVec S2x768x80x96 1 := broadcastInDim S2x768x80x96 ![] bcast_S_S2x768x80x96 main_c_2
  let main_c_3 : IVec S_ 1 := constantI S_ 1 1#1
  let main_v4 : IVec S2x768x80 1 := broadcastInDim S2x768x80 ![] bcast_S_S2x768x80 main_c_3
  (main_v0, main_v1, main_v2, main_v3, main_v4)
-- ==== Pre_pre.lean ====
abbrev S2x768x7680 : Shape := ⟨3, ![2, 768, 7680]⟩
abbrev S2x768x48 : Shape := ⟨3, ![2, 768, 48]⟩
abbrev S80 : Shape := ⟨1, ![80]⟩
abbrev S2x768x80x96 : Shape := ⟨4, ![2, 768, 80, 96]⟩
abbrev S2x768x80 : Shape := ⟨3, ![2, 768, 80]⟩
abbrev S_ : Shape := ⟨0, ![]⟩

class Facts : Prop where
  bcast_S_S80 : S_.BroadcastsInDim S80 (![] : Fin 0 → Fin S80.rank)
  bcast_S_S2x768x80 : S_.BroadcastsInDim S2x768x80 (![] : Fin 0 → Fin S2x768x80.rank)

variable [Facts]

def fn {F : FTy → Type} [FloatOps F] (main_arg0 : FVec F S2x768x7680 .bf16) (main_arg1 : FVec F S2x768x48 .f32) (main_arg2 : FVec F S2x768x48 .f32) (main_arg3 : FVec F S80 .f32) (main_arg4 : FVec F S2x768x80x96 .fp8e5m2) (main_arg5 : FVec F S2x768x80 .f32) : IVec S80 1 × IVec S2x768x80 1 × IVec S2x768x80 1 :=
  let main_cst : FVec F S_ .f32 := constant S_ .f32 0x00000000#32
  let main_v0 : FVec F S80 .f32 := broadcastInDim S80 ![] bcast_S_S80 main_cst
  let main_v1 : IVec S80 1 := cmpf .une main_arg3 main_v0
  let main_cst_0 : FVec F S_ .f32 := constant S_ .f32 0x00000000#32
  let main_v2 : FVec F S2x768x80 .f32 := broadcastInDim S2x768x80 ![] bcast_S_S2x768x80 main_cst_0
  let main_v3 : IVec S2x768x80 1 := cmpf .oge main_arg5 main_v2
  let main_cst_1 : FVec F S_ .f32 := constant S_ .f32 0x7F800000#32
  let main_v4 : FVec F S2x768x80 .f32 := broadcastInDim S2x768x80 ![] bcast_S_S2x768x80 main_cst_1
  let main_v5 : IVec S2x768x80 1 := cmpf .olt main_arg5 main_v4
  (main_v1, main_v3, main_v5)
-- ==== Kernel.lean ====
abbrev S2x768x7680 : Shape := ⟨3, ![2, 768, 7680]⟩
abbrev S2x768x48 : Shape := ⟨3, ![2, 768, 48]⟩
abbrev S80 : Shape := ⟨1, ![80]⟩
abbrev S2x768x80x96 : Shape := ⟨4, ![2, 768, 80, 96]⟩
abbrev S2x768x80 : Shape := ⟨3, ![2, 768, 80]⟩
abbrev S1536x7680 : Shape := ⟨2, ![1536, 7680]⟩
abbrev S2x48x768 : Shape := ⟨3, ![2, 48, 768]⟩
abbrev S2x80x96x768 : Shape := ⟨4, ![2, 80, 96, 768]⟩
abbrev S2x80x768 : Shape := ⟨3, ![2, 80, 768]⟩
abbrev S256x1536 : Shape := ⟨2, ![256, 1536]⟩
abbrev S1x48x256 : Shape := ⟨3, ![1, 48, 256]⟩
abbrev S1x16x96x256 : Shape := ⟨4, ![1, 16, 96, 256]⟩
abbrev S1x16x256 : Shape := ⟨3, ![1, 16, 256]⟩
abbrev S128x128 : Shape := ⟨2, ![128, 128]⟩
abbrev S96x96 : Shape := ⟨2, ![96, 96]⟩
abbrev S80x128 : Shape := ⟨2, ![80, 128]⟩
abbrev S768x256 : Shape := ⟨2, ![768, 256]⟩
abbrev S2x64x128 : Shape := ⟨3, ![2, 64, 128]⟩
abbrev S8x256 : Shape := ⟨2, ![8, 256]⟩
abbrev S1x80 : Shape := ⟨2, ![1, 80]⟩
abbrev S128x80 : Shape := ⟨2, ![128, 80]⟩
abbrev S256x128 : Shape := ⟨2, ![256, 128]⟩
abbrev S128x256 : Shape := ⟨2, ![128, 256]⟩
abbrev S1x1x96x256 : Shape := ⟨4, ![1, 1, 96, 256]⟩
abbrev S96x256 : Shape := ⟨2, ![96, 256]⟩
abbrev S1x8x128 : Shape := ⟨3, ![1, 8, 128]⟩
abbrev S8x128 : Shape := ⟨2, ![8, 128]⟩
abbrev S1x8x256 : Shape := ⟨3, ![1, 8, 256]⟩
abbrev S1x128 : Shape := ⟨2, ![1, 128]⟩
abbrev S1x1x128 : Shape := ⟨3, ![1, 1, 128]⟩
abbrev S32x128 : Shape := ⟨2, ![32, 128]⟩
abbrev S1x1x32x128 : Shape := ⟨4, ![1, 1, 32, 128]⟩
abbrev S16x128 : Shape := ⟨2, ![16, 128]⟩
abbrev S1x16x128 : Shape := ⟨3, ![1, 16, 128]⟩

abbrev nBuf : Space → Nat
  | .hbm => 20
  | .vmem => 29
  | .smem => 0
  | _ => 0

abbrev bufTy : (tb : Table) → Fin (tcTables nBuf tb) → BufTy
  | .hbm, ⟨0, _⟩ => ⟨S2x768x7680, .bf16⟩
  | .hbm, ⟨1, _⟩ => ⟨S2x768x48, .f32⟩
  | .hbm, ⟨2, _⟩ => ⟨S2x768x48, .f32⟩
  | .hbm, ⟨3, _⟩ => ⟨S80, .f32⟩
  | .hbm, ⟨4, _⟩ => ⟨S2x768x80x96, .fp8e5m2⟩
  | .hbm, ⟨5, _⟩ => ⟨S2x768x80, .f32⟩
  | .hbm, ⟨6, _⟩ => ⟨S1536x7680, .bf16⟩
  | .hbm, ⟨7, _⟩ => ⟨S2x48x768, .f32⟩
  | .hbm, ⟨8, _⟩ => ⟨S2x48x768, .f32⟩
  | .hbm, ⟨9, _⟩ => ⟨S2x80x96x768, .fp8e5m2⟩
  | .hbm, ⟨10, _⟩ => ⟨S2x80x768, .f32⟩
  | .hbm, ⟨11, _⟩ => ⟨S1536x7680, .bf16⟩
  | .hbm, ⟨12, _⟩ => ⟨S80, .f32⟩
  | .hbm, ⟨13, _⟩ => ⟨S2x80x768, .f32⟩
  | .hbm, ⟨14, _⟩ => ⟨S2x80x96x768, .i8⟩
  | .hbm, ⟨15, _⟩ => ⟨S2x80x768, .f32⟩
  | .hbm, ⟨16, _⟩ => ⟨S2x768x7680, .bf16⟩
  | .hbm, ⟨17, _⟩ => ⟨S2x768x80, .f32⟩
  | .hbm, ⟨18, _⟩ => ⟨S2x768x80x96, .i8⟩
  | .hbm, ⟨19, _⟩ => ⟨S2x768x80, .f32⟩
  | .local _ .vmem, ⟨0, _⟩ => ⟨S256x1536, .bf16⟩
  | .local _ .vmem, ⟨1, _⟩ => ⟨S256x1536, .bf16⟩
  | .local _ .vmem, ⟨2, _⟩ => ⟨S1x48x256, .f32⟩
  | .local _ .vmem, ⟨3, _⟩ => ⟨S1x48x256, .f32⟩
  | .local _ .vmem, ⟨4, _⟩ => ⟨S1x48x256, .f32⟩
  | .local _ .vmem, ⟨5, _⟩ => ⟨S1x48x256, .f32⟩
  | .local _ .vmem, ⟨6, _⟩ => ⟨S80, .f32⟩
  | .local _ .vmem, ⟨7, _⟩ => ⟨S1x16x96x256, .fp8e5m2⟩
  | .local _ .vmem, ⟨8, _⟩ => ⟨S1x16x96x256, .fp8e5m2⟩
  | .local _ .vmem, ⟨9, _⟩ => ⟨S1x16x256, .f32⟩
  | .local _ .vmem, ⟨10, _⟩ => ⟨S1x16x256, .f32⟩
  | .local _ .vmem, ⟨11, _⟩ => ⟨S256x1536, .bf16⟩
  | .local _ .vmem, ⟨12, _⟩ => ⟨S256x1536, .bf16⟩
  | .local _ .vmem, ⟨13, _⟩ => ⟨S80, .f32⟩
  | .local _ .vmem, ⟨14, _⟩ => ⟨S1x16x256, .f32⟩
  | .local _ .vmem, ⟨15, _⟩ => ⟨S1x16x256, .f32⟩
  | .local _ .vmem, ⟨16, _⟩ => ⟨S1x16x96x256, .i8⟩
  | .local _ .vmem, ⟨17, _⟩ => ⟨S1x16x96x256, .i8⟩
  | .local _ .vmem, ⟨18, _⟩ => ⟨S1x16x256, .f32⟩
  | .local _ .vmem, ⟨19, _⟩ => ⟨S1x16x256, .f32⟩
  | .local _ .vmem, ⟨20, _⟩ => ⟨S128x128, .bf16⟩
  | .local _ .vmem, ⟨21, _⟩ => ⟨S96x96, .fp8e5m2⟩
  | .local _ .vmem, ⟨22, _⟩ => ⟨S80x128, .f32⟩
  | .local _ .vmem, ⟨23, _⟩ => ⟨S80x128, .f32⟩
  | .local _ .vmem, ⟨24, _⟩ => ⟨S768x256, .f32⟩
  | .local _ .vmem, ⟨25, _⟩ => ⟨S768x256, .f32⟩
  | .local _ .vmem, ⟨26, _⟩ => ⟨S2x64x128, .f32⟩
  | .local _ .vmem, ⟨27, _⟩ => ⟨S768x256, .bf16⟩
  | .local _ .vmem, ⟨28, _⟩ => ⟨S8x256, .f32⟩
  | _, _ => ⟨S2x768x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![6, 5], ![false, false]⟩

def k0_mult1 (i : grid0.Coords) : BitVec 32 :=
  let arg1 : BitVec 32 := BitVec.ofNat 32 (i 1).val
  let c16_i32 : BitVec 32 := 16#32
  let v5 : BitVec 32 := Scalar.muli arg1 c16_i32
  let c0_i32_2 : BitVec 32 := 0#32
  let v6 : BitVec 32 := Scalar.addi v5 c0_i32_2
  v6
def k0_off1 (i : grid0.Coords) (c0_i32_2 : BitVec 32) : Fin 2 → Nat :=
  let arg1 : BitVec 32 := BitVec.ofNat 32 (i 1).val
  let c16_i32 : BitVec 32 := 16#32
  let v5 : BitVec 32 := Scalar.muli arg1 c16_i32
  let v6 : BitVec 32 := Scalar.addi v5 c0_i32_2
  let v7 : BitVec 32 := v6
  let v2279 : Index := Scalar.indexCast v7
  let c0_1057 : Index := 0#32
  ![v2279.toNat, 0]
def k0_mult2 (i : grid0.Coords) : BitVec 32 :=
  let arg1 : BitVec 32 := BitVec.ofNat 32 (i 1).val
  let c16_i32_3508 : BitVec 32 := 16#32
  let v7103 : BitVec 32 := Scalar.muli arg1 c16_i32_3508
  let c8_i32 : BitVec 32 := 8#32
  let v7104 : BitVec 32 := Scalar.addi v7103 c8_i32
  v7104
def k0_cond2 (i : grid0.Coords) : BitVec 1 :=
  let arg0 : BitVec 32 := BitVec.ofNat 32 (i 0).val
  let c5_i32 : BitVec 32 := 5#32
  let v14201 : BitVec 1 := Scalar.cmpi .eq arg0 c5_i32
  let arg1 : BitVec 32 := BitVec.ofNat 32 (i 1).val
  let c4_i32 : BitVec 32 := 4#32
  let v14202 : BitVec 1 := Scalar.cmpi .eq arg1 c4_i32
  let v14203 : BitVec 1 := Scalar.andi v14201 v14202
  let v14204 : BitVec 32 := Scalar.extui v14203
  let c0_i32_7105 : BitVec 32 := 0#32
  let v14205 : BitVec 1 := Scalar.cmpi .ne v14204 c0_i32_7105
  v14205

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x48x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x96x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x96x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv7" => some ((1 / 7 : ℝ) : EReal)
  | _ => none
-- ==== ReferenceIdeal.lean ====
abbrev S2x768x7680 : Shape := ⟨3, ![2, 768, 7680]⟩
abbrev S2x768x48 : Shape := ⟨3, ![2, 768, 48]⟩
abbrev S80 : Shape := ⟨1, ![80]⟩
abbrev S2x768x80x96 : Shape := ⟨4, ![2, 768, 80, 96]⟩
abbrev S2x768x80 : Shape := ⟨3, ![2, 768, 80]⟩
abbrev S2x768x1x48 : Shape := ⟨4, ![2, 768, 1, 48]⟩
abbrev S2x768x80x48 : Shape := ⟨4, ![2, 768, 80, 48]⟩
abbrev S_ : Shape := ⟨0, ![]⟩
abbrev S1x1x80 : Shape := ⟨3, ![1, 1, 80]⟩
abbrev S2x768x80x1 : Shape := ⟨4, ![2, 768, 80, 1]⟩

abbrev nBuf : Space → Nat
  | .hbm => 93
  | .vmem => 5
  | .smem => 0
  | _ => 0

abbrev bufTy : (tb : Table) → Fin (tcTables nBuf tb) → BufTy
  | .hbm, ⟨0, _⟩ => ⟨S2x768x7680, .bf16⟩
  | .hbm, ⟨1, _⟩ => ⟨S2x768x48, .f32⟩
  | .hbm, ⟨2, _⟩ => ⟨S2x768x48, .f32⟩
  | .hbm, ⟨3, _⟩ => ⟨S80, .f32⟩
  | .hbm, ⟨4, _⟩ => ⟨S2x768x80x96, .fp8e5m2⟩
  | .hbm, ⟨5, _⟩ => ⟨S2x768x80, .f32⟩
  | .hbm, ⟨6, _⟩ => ⟨S2x768x1x48, .f32⟩
  | .hbm, ⟨7, _⟩ => ⟨S2x768x1x48, .f32⟩
  | .hbm, ⟨8, _⟩ => ⟨S2x768x7680, .f32⟩
  | .hbm, ⟨9, _⟩ => ⟨S2x768x80x96, .f32⟩
  | .hbm, ⟨10, _⟩ => ⟨S2x768x80x48, .f32⟩
  | .hbm, ⟨11, _⟩ => ⟨S2x768x80x48, .f32⟩
  | .hbm, ⟨12, _⟩ => ⟨S2x768x80x48, .f32⟩
  | .hbm, ⟨13, _⟩ => ⟨S2x768x80x48, .f32⟩
  | .hbm, ⟨14, _⟩ => ⟨S2x768x80x48, .f32⟩
  | .hbm, ⟨15, _⟩ => ⟨S2x768x80x48, .f32⟩
  | .hbm, ⟨16, _⟩ => ⟨S2x768x80x48, .f32⟩
  | .hbm, ⟨17, _⟩ => ⟨S2x768x80x48, .f32⟩
  | .hbm, ⟨18, _⟩ => ⟨S2x768x80x48, .f32⟩
  | .hbm, ⟨19, _⟩ => ⟨S2x768x80x48, .f32⟩
  | .hbm, ⟨20, _⟩ => ⟨S2x768x80x48, .f32⟩
  | .hbm, ⟨21, _⟩ => ⟨S2x768x80x48, .f32⟩
  | .hbm, ⟨22, _⟩ => ⟨S2x768x80x96, .f32⟩
  | .hbm, ⟨23, _⟩ => ⟨S2x768x80x96, .f32⟩
  | .hbm, ⟨24, _⟩ => ⟨S_, .f32⟩
  | .hbm, ⟨25, _⟩ => ⟨S2x768x80, .f32⟩
  | .hbm, ⟨26, _⟩ => ⟨S_, .f32⟩
  | .hbm, ⟨27, _⟩ => ⟨S2x768x80, .f32⟩
  | .hbm, ⟨28, _⟩ => ⟨S2x768x80, .i1⟩
  | .hbm, ⟨29, _⟩ => ⟨S1x1x80, .f32⟩
  | .hbm, ⟨30, _⟩ => ⟨S2x768x80, .f32⟩
  | .hbm, ⟨31, _⟩ => ⟨S2x768x80, .f32⟩
  | .hbm, ⟨32, _⟩ => ⟨S_, .f32⟩
  | .hbm, ⟨33, _⟩ => ⟨S2x768x80, .f32⟩
  | .hbm, ⟨34, _⟩ => ⟨S2x768x80, .f32⟩
  | .hbm, ⟨35, _⟩ => ⟨S_, .f32⟩
  | .hbm, ⟨36, _⟩ => ⟨S2x768x80, .f32⟩
  | .hbm, ⟨37, _⟩ => ⟨S2x768x80, .f32⟩
  | .hbm, ⟨38, _⟩ => ⟨S2x768x80x1, .f32⟩
  | .hbm, ⟨39, _⟩ => ⟨S2x768x80x96, .f32⟩
  | .hbm, ⟨40, _⟩ => ⟨S2x768x80x96, .f32⟩
  | .hbm, ⟨41, _⟩ => ⟨S2x768x80x96, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x768x80x96, .f32⟩
  | .hbm, ⟨46, _⟩ => ⟨S2x768x80x96, .f32⟩
  | .hbm, ⟨47, _⟩ => ⟨S_, .f32⟩
  | .hbm, ⟨48, _⟩ => ⟨S2x768x80x96, .f32⟩
  | .hbm, ⟨49, _⟩ => ⟨S2x768x80x96, .f32⟩
  | .hbm, ⟨50, _⟩ => ⟨S2x768x80x1, .f32⟩
  | .hbm, ⟨51, _⟩ => ⟨S2x768x80x96, .f32⟩
  | .hbm, ⟨52, _⟩ => ⟨S2x768x80x96, .f32⟩
  | .hbm, ⟨53, _⟩ => ⟨S2x768x80x96, .i8⟩
  | .hbm, ⟨54, _⟩ => ⟨S2x768x80x96, .f32⟩
  | .hbm, ⟨55, _⟩ => ⟨S2x768x80x96, .f32⟩
  | .hbm, ⟨56, _⟩ => ⟨S2x768x80x1, .f32⟩
  | .hbm, ⟨57, _⟩ => ⟨S2x768x80x96, .f32⟩
  | .hbm, ⟨58, _⟩ => ⟨S2x768x80x96, .f32⟩
  | .hbm, ⟨59, _⟩ => ⟨S2x768x80x96, .f32⟩
  | .hbm, ⟨60, _⟩ => ⟨S_, .f32⟩
  | .hbm, ⟨61, _⟩ => ⟨S2x768x80x96, .f32⟩
  | .hbm, ⟨62, _⟩ => ⟨S2x768x80x96, .i1⟩
  | .hbm, ⟨63, _⟩ => ⟨S_, .f32⟩
  | .hbm, ⟨64, _⟩ => ⟨S_, .f32⟩
  | .hbm, ⟨65, _⟩ => ⟨S2x768x80x96, .f32⟩
  | .hbm, ⟨66, _⟩ => ⟨S2x768x80x96, .f32⟩
  | .hbm, ⟨67, _⟩ => ⟨S2x768x80x96, .f32⟩
  | .hbm, ⟨68, _⟩ => ⟨S2x768x80x96, .f32⟩
  | .hbm, ⟨69, _⟩ => ⟨S2x768x80x96, .f32⟩
  | .hbm, ⟨70, _⟩ => ⟨S_, .f32⟩
  | .hbm, ⟨71, _⟩ => ⟨S2x768x80, .f32⟩
  | .hbm, ⟨72, _⟩ => ⟨S_, .f32⟩
  | .hbm, ⟨73, _⟩ => ⟨S2x768x80, .f32⟩
  | .hbm, ⟨74, _⟩ => ⟨S2x768x80, .f32⟩
  | .hbm, ⟨75, _⟩ => ⟨S2x768x80, .f32⟩
  | .hbm, ⟨76, _⟩ => ⟨S_, .f32⟩
  | .hbm, ⟨77, _⟩ => ⟨S80, .f32⟩
  | .hbm, ⟨78, _⟩ => ⟨S2x768x80x48, .f32⟩
  | .hbm, ⟨79, _⟩ => ⟨S2x768x80x48, .f32⟩
  | .hbm, ⟨80, _⟩ => ⟨S2x768x80x48, .f32⟩
  | .hbm, ⟨81, _⟩ => ⟨S2x768x80x48, .f32⟩
  | .hbm, ⟨82, _⟩ => ⟨S2x768x80x48, .f32⟩
  | .hbm, ⟨83, _⟩ => ⟨S2x768x80x48, .f32⟩
  | .hbm, ⟨84, _⟩ => ⟨S2x768x80x48, .f32⟩
  | .hbm, ⟨85, _⟩ => ⟨S2x768x80x48, .f32⟩
  | .hbm, ⟨86, _⟩ => ⟨S2x768x80x48, .f32⟩
  | .hbm, ⟨87, _⟩ => ⟨S2x768x80x48, .f32⟩
  | .hbm, ⟨88, _⟩ => ⟨S2x768x80x48, .f32⟩
  | .hbm, ⟨89, _⟩ => ⟨S2x768x80x48, .f32⟩
  | .hbm, ⟨90, _⟩ => ⟨S2x768x80x96, .f32⟩
  | .hbm, ⟨91, _⟩ => ⟨S2x768x7680, .f32⟩
  | .hbm, ⟨92, _⟩ => ⟨S2x768x7680, .bf16⟩
  | .local _ .vmem, ⟨0, _⟩ => ⟨S2x768x80x96, .f32⟩
  | .local _ .vmem, ⟨1, _⟩ => ⟨S2x768x80x96, .fp8e5m2⟩
  | .local _ .vmem, ⟨2, _⟩ => ⟨S2x768x80x96, .i8⟩
  | .local _ .vmem, ⟨3, _⟩ => ⟨S2x768x80x96, .f32⟩
  | .local _ .vmem, ⟨4, _⟩ => ⟨S2x768x80x96, .f32⟩
  | _, _ => ⟨S2x768x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_call3_v0 : Ref sig .tc := ⟨.hbm, 64, rfl⟩
abbrev main_call3_v1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x768x80x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x80x96 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x80x96 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x80x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x80x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Core.lean ====
/-
  Straight-line buffer programs: a small language of loads and unmasked stores at the twenty buffers that the kernel's body
  works on, its meaning as a printed program (`Cmd.denote`), its meaning as a function of the buffers' contents (`Cmd.run`), and
  the theorem that joins the two (`Cmd.sound`).
-/
module

public import Idealize.ShloMosaic.Lib.Tactic
public import Idealize.ShloMosaic.Lib.Pipeline.Kit
public import Idealize.ShloMosaic.Lib.Pipeline.TableIdle
public import Idealize.ShloMosaic.Lib.VecWindow

@[expose] public section

noncomputable section

namespace Cert.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The buffers of the body: six inputs, five outputs, nine scratch buffers. -/
inductive Bf
  | k | cos | sin | al | g | gs | dk | dal | dtok | codes | s | eb | ef | ac | da | kr | gt | pm | dkt | inv
  deriving DecidableEq

/-- All buffers. -/
def Bf.list : List Bf := [.k, .cos, .sin, .al, .g, .gs, .dk, .dal, .dtok, .codes, .s, .eb, .ef, .ac, .da, .kr, .gt, .pm, .dkt, .inv]

instance : Fintype Bf := ⟨⟨(Bf.list : Multiset Bf), by decide⟩, fun b => by cases b <;> decide⟩

/-- The shape of a buffer. -/
@[reducible] def Bf.sh : Bf → Shape
  | .k => ⟨2, ![256, 1536]⟩ | .cos => ⟨3, ![1, 48, 256]⟩ | .sin => ⟨3, ![1, 48, 256]⟩ | .al => ⟨1, ![80]⟩
  | .g => ⟨4, ![1, 16, 96, 256]⟩ | .gs => ⟨3, ![1, 16, 256]⟩ | .dk => ⟨2, ![256, 1536]⟩ | .dal => ⟨1, ![80]⟩
  | .dtok => ⟨3, ![1, 16, 256]⟩ | .codes => ⟨4, ![1, 16, 96, 256]⟩ | .s => ⟨3, ![1, 16, 256]⟩
  | .eb => ⟨2, ![128, 128]⟩ | .ef => ⟨2, ![96, 96]⟩ | .ac => ⟨2, ![80, 128]⟩ | .da => ⟨2, ![80, 128]⟩
  | .kr => ⟨2, ![768, 256]⟩ | .gt => ⟨2, ![768, 256]⟩ | .pm => ⟨3, ![2, 64, 128]⟩ | .dkt => ⟨2, ![768, 256]⟩
  | .inv => ⟨2, ![8, 256]⟩

/-- The element type of a buffer. -/
@[reducible] def Bf.el : Bf → EltTy
  | .k => .bf16 | .cos => .f32 | .sin => .f32 | .al => .f32 | .g => .fp8e5m2 | .gs => .f32 | .dk => .bf16 | .dal => .f32
  | .dtok => .f32 | .codes => .i8 | .s => .f32 | .eb => .bf16 | .ef => .fp8e5m2 | .ac => .f32 | .da => .f32
  | .kr => .f32 | .gt => .f32 | .pm => .f32 | .dkt => .bf16 | .inv => .f32

/-- One memref per buffer, each a whole buffer. -/
structure Ms (sig : RefSig) where
  /-- the memref -/
  m : (b : Bf) → Memref sig .tc .vmem b.sh b.el
  /-- it is a whole buffer -/
  w : ∀ b, (m b).IsWhole

/-- The contents of the buffers. -/
abbrev St (F : FTy → Type) := (b : Bf) → b.sh.Idx → Elt F b.el

variable {F : FTy → Type}

/-- The contents with one buffer replaced. -/
def St.set (s : St F) (b : Bf) (x : b.sh.Idx → Elt F b.el) : St F := Function.update s b x

@[simp] theorem St.set_same (s : St F) (b : Bf) (x : b.sh.Idx → Elt F b.el) : s.set b x b = x := Function.update_self ..
@[simp] theorem St.set_ne (s : St F) {b c : Bf} (h : c ≠ b) (x : b.sh.Idx → Elt F b.el) : s.set b x c = s c :=
  Function.update_of_ne h ..

/-- Programs of loads and stores. -/
inductive Cmd (F : FTy → Type) {sig : RefSig} (M : Ms sig) : Type → Type 1
  | ret {α : Type} (a : α) : Cmd F M α
  | ld {α : Type} (b : Bf) (r : LoadRect b.sh) (h : 0 < r.shape.numel) (k : (r.shape.Idx → Elt F b.el) → Cmd F M α) : Cmd F M α
  | st {α : Type} (b : Bf) (off size : Fin b.sh.rank → Nat) (inb : ∀ a, off a + size a ≤ b.sh.size a)
      (w : (Rect.unit off size inb).shape.Idx → Elt F b.el)
      (h : ((M.m b).access (Rect.unit off size inb)).Stores Finset.univ) (k : Cmd F M α) : Cmd F M α

namespace Cmd

variable {sig : RefSig} {M : Ms sig} {α β : Type}

/-- One program after another. -/
def bind : Cmd F M α → (α → Cmd F M β) → Cmd F M β
  | .ret a, f => f a
  | .ld b r h k, f => .ld b r h fun x => (k x).bind f
  | .st b off size inb w h k, f => .st b off size inb w h (k.bind f)

instance : Monad (Cmd F M) where
  pure := .ret
  bind := Cmd.bind

/-- The program as a printed one. -/
def denote {nD : Nat} {τ : Topo} {Λ : Labels} : Cmd F M α → Prog (TpuEff nD τ sig (Elt F) Λ .tc) α
  | .ret a => .ret a
  | .ld b r h k => .op (.load (M.m b) r (View.loadsAt_vmem h)) fun x => (k x).denote
  | .st b off size inb w h k => .op (.store (M.m b) (Rect.unit off size inb) w Finset.univ h (.inl rfl)) fun _ => k.denote

/-- The program as a printed one, followed by another. -/
def denoteK {nD : Nat} {τ : Topo} {Λ : Labels} : Cmd F M α → (α → Prog (TpuEff nD τ sig (Elt F) Λ .tc) β) → Prog (TpuEff nD τ sig (Elt F) Λ .tc) β
  | .ret a, K => K a
  | .ld b r h k, K => .op (.load (M.m b) r (View.loadsAt_vmem h)) fun x => (k x).denoteK K
  | .st b off size inb w h k, K => .op (.store (M.m b) (Rect.unit off size inb) w Finset.univ h (.inl rfl)) fun _ => k.denoteK K

/-- The program as a function of the contents of the buffers. -/
def run : Cmd F M α → St F → α × St F
  | .ret a, s => (a, s)
  | .ld b r _ k, s => (k fun y => s b (r.idx y)).run s
  | .st b off size _ w _ k, s => k.run (s.set b (VecWindow.put (s b) off size w))

@[simp] theorem run_ret (a : α) (s : St F) : (Cmd.ret a : Cmd F M α).run s = (a, s) := rfl
theorem pure_eq (a : α) : (pure a : Cmd F M α) = .ret a := rfl
theorem bind_eq (x : Cmd F M α) (f : α → Cmd F M β) : (x >>= f) = x.bind f := rfl

theorem run_bind (x : Cmd F M α) (f : α → Cmd F M β) (s : St F) : (x.bind f).run s = (f (x.run s).1).run (x.run s).2 := by
  induction x generalizing s with
  | ret a => rfl
  | ld b r h k ih => exact ih _ s
  | st b off size inb w h k ih => exact ih _

theorem denote_bind {nD : Nat} {τ : Topo} {Λ : Labels} (x : Cmd F M α) (f : α → Cmd F M β) :
    (x.bind f).denote (nD := nD) (τ := τ) (Λ := Λ) = Prog.bind x.denote fun a => (f a).denote := by
  induction x with
  | ret a => rfl
  | ld b r h k ih => exact congrArg (Prog.op _) (funext fun y => ih y)
  | st b off size inb w h k ih => exact congrArg (Prog.op _) (funext fun _ => ih)

theorem denoteK_ret {nD : Nat} {τ : Topo} {Λ : Labels} (x : Cmd F M α) :
    x.denoteK (fun a => (Prog.ret a : Prog (TpuEff nD τ sig (Elt F) Λ .tc) α)) = x.denote := by
  induction x with
  | ret a => rfl
  | ld b r h k ih => exact congrArg (Prog.op _) (funext fun y => ih y)
  | st b off size inb w h k ih => exact congrArg (Prog.op _) (funext fun _ => ih)

theorem denoteK_bind {nD : Nat} {τ : Topo} {Λ : Labels} {γ : Type} (x : Cmd F M α) (f : α → Cmd F M β)
    (K : β → Prog (TpuEff nD τ sig (Elt F) Λ .tc) γ) : (x.bind f).denoteK K = x.denoteK fun a => (f a).denoteK K := by
  induction x with
  | ret a => rfl
  | ld b r h k ih => exact congrArg (Prog.op _) (funext fun y => ih y)
  | st b off size inb w h k ih => exact congrArg (Prog.op _) (funext fun _ => ih)

theorem denoteK_eq {nD : Nat} {τ : Topo} {Λ : Labels} (x : Cmd F M α)
    (K : α → Prog (TpuEff nD τ sig (Elt F) Λ .tc) β) : x.denoteK K = Prog.bind x.denote K := by
  induction x with
  | ret a => rfl
  | ld b r h k ih => exact congrArg (Prog.op _) (funext fun y => ih y)
  | st b off size inb w h k ih => exact congrArg (Prog.op _) (funext fun _ => ih)

section Sound

variable {nD : Nat} {τ : Topo} {Ix : Type} [DecidableEq Ix] {Name : Type} [DecidableEq Name] {U : Type} [URA U] {Lvl : Type}
variable [∀ e, Nonempty (Elt F e)]

local notation "𝕄" => MT nD τ sig Ix (Elt F) Name U Lvl

/-- All buffers held, at the contents `s`. -/
def held (M : Ms sig) (c : Dev nD) (s : St F) : sProp 𝕄 :=
  bigSep Finset.univ fun b : Bf => owns (c : Thread nD τ) (M.m b) fullShare (s b)

theorem held_take (c : Dev nD) (s : St F) (b : Bf) :
    (held M c s : sProp 𝕄) = iprop(owns (c : Thread nD τ) (M.m b) fullShare (s b)
      ∗ bigSep (Finset.univ.erase b) fun b : Bf => owns (c : Thread nD τ) (M.m b) fullShare (s b)) :=
  bigSep_erase (Finset.mem_univ b)

theorem held_set (c : Dev nD) (s : St F) (b : Bf) (x : b.sh.Idx → Elt F b.el) :
    (held M c (s.set b x) : sProp 𝕄) = iprop(owns (c : Thread nD τ) (M.m b) fullShare x
      ∗ bigSep (Finset.univ.erase b) fun b : Bf => owns (c : Thread nD τ) (M.m b) fullShare (s b)) := by
  rw [held_take c _ b, St.set_same]
  congr 1
  refine bigSep_congr fun b' hb => ?_
  rw [St.set_ne _ (Finset.ne_of_mem_erase hb)]

theorem sep_wand_apply_left {A B C : sProp 𝕄} (h : A ⊢ iprop(B -∗ C)) : iprop(A ∗ B) ⊢ C := by
  iintro ⟨HA, HB⟩
  iapply h $$ HA HB

/-- A program runs: from the buffers held at `s`, to the buffers held at what `run` says. -/
theorem sound [Preorder Lvl] {Λ : Labels} {defs : Defs nD τ sig (Elt F) Λ} (𝒱 : Variants) (c : Dev nD) (bd : Option 𝒱.V) (E : Set Name)
    (x : Cmd F M α) (s : St F) (Q : α → sProp 𝕄) :
    iprop(held M c s ∗ (held M c (x.run s).2 -∗ Q (x.run s).1))
      ⊢ wp frame (wpE defs 𝒱 (c : Thread nD τ) bd) E (x.denote : Prog (TpuEff nD τ sig (Elt F) Λ .tc) α) Q := by
  induction x generalizing s with
  | ret a =>
    show _ ⊢ wp frame (wpE defs 𝒱 (c : Thread nD τ) bd) E (Prog.ret a) Q
    exact wand_elim_right.trans (le_wp_ret _ _ _ a Q)
  | ld b r h k ih =>
    have e := ih (fun y => s b (r.idx y)) s
    rw [held_take c s b, owns_eq_rep] at e ⊢
    refine BIBase.Entails.trans ?_ (sep_wand_apply_left (wp_load 𝒱 (c : Thread nD τ) bd E (q := fullShare) (f := (M.m b).view.rep (s b)) (View.setOn_subset_set _ _)))
    rw [View.readAt_rep]
    iintro ⟨⟨A, R⟩, K⟩
    isplitl [A]; · iexact A
    iintro A
    iapply e
    isplitl [A R]
    · isplitl [A]; · iexact A
      iexact R
    iexact K
  | st b off size inb w h k ih =>
    have e := ih (s.set b (VecWindow.put (s b) off size w))
    rw [held_set c s b, owns_eq_rep] at e
    rw [held_take c s b, owns_eq_rep]
    refine BIBase.Entails.trans ?_ (sep_wand_apply_left (wp_store_writes₀ 𝒱 (c : Thread nD τ) bd E (f := (M.m b).view.rep (s b)) (View.set_slice_subset _ _)))
    iintro ⟨⟨A, R⟩, K⟩
    isplitl [A]; · iexact A
    iintro A
    ihave A := (pointsTo_rep_of_read (c : Thread nD τ) (M.m b) _ fullShare _ (View.read_writes_rep_unit (M.m b).view (s b) inb w rfl)) $$ A
    iapply e
    isplitl [A R]
    · isplitl [A]; · iexact A
      iexact R
    iexact K

end Sound

end Cmd

end Cert.K
-- ==== Proof.K.Body.lean ====
/-
  The kernel's body written as a structured program: one definition per head and per loop of the source, with the loop indices as
  numbers. Every load, store and pure operation of the body is here, in the body's order.
-/
module

public import proofs.«01_k».proof.Proof.K.Core

@[expose] public section

noncomputable section

namespace Cert.K

open Idealize.ShloMosaic Idealize.SL.Sem

/-- A shape of the body. -/
abbrev S8x128 : Shape := ⟨2, ![8, 128]⟩
/-- A shape of the body. -/
abbrev S16x128 : Shape := ⟨2, ![16, 128]⟩
/-- A shape of the body. -/
abbrev S32x128 : Shape := ⟨2, ![32, 128]⟩
/-- A shape of the body. -/
abbrev S8x256 : Shape := ⟨2, ![8, 256]⟩
/-- A shape of the body. -/
abbrev S1x128 : Shape := ⟨2, ![1, 128]⟩
/-- A shape of the body. -/
abbrev S1x8x128 : Shape := ⟨3, ![1, 8, 128]⟩
/-- A shape of the body. -/
abbrev S1x16x128 : Shape := ⟨3, ![1, 16, 128]⟩
/-- A shape of the body. -/
abbrev S1x8x256 : Shape := ⟨3, ![1, 8, 256]⟩
/-- A shape of the body. -/
abbrev S1x1x128 : Shape := ⟨3, ![1, 1, 128]⟩
/-- A shape of the body. -/
abbrev S1x1x96x256 : Shape := ⟨4, ![1, 1, 96, 256]⟩
/-- A shape of the body. -/
abbrev S1x1x32x128 : Shape := ⟨4, ![1, 1, 32, 128]⟩
/-- A shape of the body. -/
abbrev S96x256 : Shape := ⟨2, ![96, 256]⟩
/-- A shape of the body. -/
abbrev S96x96 : Shape := ⟨2, ![96, 96]⟩
/-- A shape of the body. -/
abbrev S128x128 : Shape := ⟨2, ![128, 128]⟩
/-- A shape of the body. -/
abbrev S256x128 : Shape := ⟨2, ![256, 128]⟩
/-- A shape of the body. -/
abbrev S128x256 : Shape := ⟨2, ![128, 256]⟩
/-- A shape of the body. -/
abbrev S80x128 : Shape := ⟨2, ![80, 128]⟩
/-- A shape of the body. -/
abbrev S128x80 : Shape := ⟨2, ![128, 80]⟩
/-- A shape of the body. -/
abbrev S1x80 : Shape := ⟨2, ![1, 80]⟩
/-- A shape of the body. -/
abbrev S80 : Shape := ⟨1, ![80]⟩

/-- The contraction that turns a key block around. -/
def dotE : DotDims S128x128 S256x128 S128x256 where
  lhsContracting := [1]
  rhsContracting := [1]
  lhsNonContracting := [0]
  rhsNonContracting := [0]
  lhsBatch := []
  rhsBatch := []
  wf := by decide
/-- The contraction that copies a gradient block. -/
def dotG : DotDims S96x96 S96x256 S96x256 where
  lhsContracting := [1]
  rhsContracting := [0]
  lhsNonContracting := [0]
  rhsNonContracting := [1]
  lhsBatch := []
  rhsBatch := []
  wf := by decide

variable {F : FTy → Type} [FloatOps F] {sig : RefSig} {M : Ms sig} {α : Type}

/-- The buffers from their memrefs, in the order the body takes them. -/
@[reducible] def Ms.of (a0 : Memref sig .tc .vmem (Bf.sh .k) (Bf.el .k)) (h0 : a0.IsWhole) (a1 : Memref sig .tc .vmem (Bf.sh .cos) (Bf.el .cos)) (h1 : a1.IsWhole) (a2 : Memref sig .tc .vmem (Bf.sh .sin) (Bf.el .sin)) (h2 : a2.IsWhole)
    (a3 : Memref sig .tc .vmem (Bf.sh .al) (Bf.el .al)) (h3 : a3.IsWhole) (a4 : Memref sig .tc .vmem (Bf.sh .g) (Bf.el .g)) (h4 : a4.IsWhole) (a5 : Memref sig .tc .vmem (Bf.sh .gs) (Bf.el .gs)) (h5 : a5.IsWhole)
    (a6 : Memref sig .tc .vmem (Bf.sh .dk) (Bf.el .dk)) (h6 : a6.IsWhole) (a7 : Memref sig .tc .vmem (Bf.sh .dal) (Bf.el .dal)) (h7 : a7.IsWhole) (a8 : Memref sig .tc .vmem (Bf.sh .dtok) (Bf.el .dtok)) (h8 : a8.IsWhole)
    (a9 : Memref sig .tc .vmem (Bf.sh .codes) (Bf.el .codes)) (h9 : a9.IsWhole) (a10 : Memref sig .tc .vmem (Bf.sh .s) (Bf.el .s)) (h10 : a10.IsWhole) (a11 : Memref sig .tc .vmem (Bf.sh .eb) (Bf.el .eb)) (h11 : a11.IsWhole)
    (a12 : Memref sig .tc .vmem (Bf.sh .ef) (Bf.el .ef)) (h12 : a12.IsWhole) (a13 : Memref sig .tc .vmem (Bf.sh .ac) (Bf.el .ac)) (h13 : a13.IsWhole) (a14 : Memref sig .tc .vmem (Bf.sh .da) (Bf.el .da)) (h14 : a14.IsWhole)
    (a15 : Memref sig .tc .vmem (Bf.sh .kr) (Bf.el .kr)) (h15 : a15.IsWhole) (a16 : Memref sig .tc .vmem (Bf.sh .gt) (Bf.el .gt)) (h16 : a16.IsWhole) (a17 : Memref sig .tc .vmem (Bf.sh .pm) (Bf.el .pm)) (h17 : a17.IsWhole)
    (a18 : Memref sig .tc .vmem (Bf.sh .dkt) (Bf.el .dkt)) (h18 : a18.IsWhole) (a19 : Memref sig .tc .vmem (Bf.sh .inv) (Bf.el .inv)) (h19 : a19.IsWhole) : Ms sig where
  m := fun b => match b with
    | .k => a0 | .cos => a1 | .sin => a2 | .al => a3 | .g => a4 | .gs => a5 | .dk => a6 | .dal => a7 | .dtok => a8 | .codes => a9 | .s => a10 | .eb => a11 | .ef => a12 | .ac => a13 | .da => a14 | .kr => a15 | .gt => a16 | .pm => a17 | .dkt => a18 | .inv => a19
  w := fun b => match b with
    | .k => h0 | .cos => h1 | .sin => h2 | .al => h3 | .g => h4 | .gs => h5 | .dk => h6 | .dal => h7 | .dtok => h8 | .codes => h9 | .s => h10 | .eb => h11 | .ef => h12 | .ac => h13 | .da => h14 | .kr => h15 | .gt => h16 | .pm => h17 | .dkt => h18 | .inv => h19

namespace Cmd

/-- A load of a box. -/
def ldU (b : Bf) (off size : Fin b.sh.rank → Nat) (inb : ∀ a, off a + size a ≤ b.sh.size a) (h : 0 < (⟨b.sh.rank, size⟩ : Shape).numel)
    (k : ((⟨b.sh.rank, size⟩ : Shape).Idx → Elt F b.el) → Cmd F M α) : Cmd F M α :=
  .ld b (Rect.unit (s := b.sh) off size inb).toLoadRect h k

/-- A store into a box of a buffer of 32-bit elements. -/
def stU (b : Bf) (off size : Fin b.sh.rank → Nat) (inb : ∀ a, off a + size a ≤ b.sh.size a) (h : 0 < (⟨b.sh.rank, size⟩ : Shape).numel)
    (hb : b.el.bits = 32) (w : (⟨b.sh.rank, size⟩ : Shape).Idx → Elt F b.el) (k : Cmd F M α) : Cmd F M α :=
  .st b off size inb w (View.stores_vmem_bits_univ h hb) k

/-- A store into a box of a buffer of packed elements. -/
def stP (b : Bf) (off size : Fin b.sh.rank → Nat) (inb : ∀ a, off a + size a ≤ b.sh.size a) (h : 0 < (⟨b.sh.rank, size⟩ : Shape).numel)
    (hp : (Rect.unit (s := b.sh) off size inb).PackedRows (EltTy.packing b.el))
    (w : (⟨b.sh.rank, size⟩ : Shape).Idx → Elt F b.el) (k : Cmd F M α) : Cmd F M α :=
  .st b off size inb w (View.stores_vmem h ((M.w b).storeExact_slice rfl _ hp) (fun _ => rfl)) k

end Cmd

open Cmd

/-! The bounds and alignments of the accesses, from their arithmetic. -/

theorem inb2 {o0 o1 s0 s1 n0 n1 : Nat} (h0 : o0 + s0 ≤ n0) (h1 : o1 + s1 ≤ n1) :
    ∀ a : Fin 2, (![o0, o1] : Fin 2 → Nat) a + (![s0, s1] : Fin 2 → Nat) a ≤ (![n0, n1] : Fin 2 → Nat) a := by
  intro a; fin_cases a <;> simpa

theorem inb3 {o0 o1 o2 s0 s1 s2 n0 n1 n2 : Nat} (h0 : o0 + s0 ≤ n0) (h1 : o1 + s1 ≤ n1) (h2 : o2 + s2 ≤ n2) :
    ∀ a : Fin 3, (![o0, o1, o2] : Fin 3 → Nat) a + (![s0, s1, s2] : Fin 3 → Nat) a ≤ (![n0, n1, n2] : Fin 3 → Nat) a := by
  intro a; fin_cases a <;> simpa

theorem inb4 {o0 o1 o2 o3 s0 s1 s2 s3 n0 n1 n2 n3 : Nat} (h0 : o0 + s0 ≤ n0) (h1 : o1 + s1 ≤ n1) (h2 : o2 + s2 ≤ n2)
    (h3 : o3 + s3 ≤ n3) :
    ∀ a : Fin 4, (![o0, o1, o2, o3] : Fin 4 → Nat) a + (![s0, s1, s2, s3] : Fin 4 → Nat) a ≤ (![n0, n1, n2, n3] : Fin 4 → Nat) a := by
  intro a; fin_cases a <;> simpa

theorem slices2 {o0 o1 s0 s1 n0 n1 : Nat} (h0 : o0 + s0 ≤ n0) (h1 : o1 + s1 ≤ n1) :
    (⟨2, ![n0, n1]⟩ : Shape).Slices ![o0, o1] ⟨2, ![s0, s1]⟩ := by
  refine ⟨rfl, fun a => ?_⟩
  change Fin 2 at a
  fin_cases a
  · exact h0
  · exact h1

/-- The strided row loads of the partial sums stay inside. -/
theorem inbPm (lt j : Nat) (hlt : lt < 2) (hj : j < 8) :
    ∀ a : Fin 3, (![1, 8, 128] : Fin 3 → Nat) a = 0 ∨
      (![lt, j, 0] : Fin 3 → Nat) a + (![1, 8, 1] : Fin 3 → Nat) a * ((![1, 8, 128] : Fin 3 → Nat) a - 1) < (![2, 64, 128] : Fin 3 → Nat) a := by
  intro a; fin_cases a <;> simp <;> omega

theorem posPm : 0 < S1x8x128.numel := by decide
theorem conc8 : Shape.Concatenates [S8x128, S8x128] S8x256 1 := by decide
theorem conc16 : Shape.Concatenates [S8x128, S8x128] S16x128 0 := by decide
theorem conc32 : Shape.Concatenates [S8x128, S8x128, S8x128, S8x128] S32x128 0 := by decide

theorem packed2 {o0 o1 s0 s1 n0 n1 : Nat} (p : Nat) (inb) (h0 : p ∣ o0) (h1 : p ∣ s0) :
    (Rect.unit (s := ⟨2, ![n0, n1]⟩) ![o0, o1] ![s0, s1] inb).PackedRows p :=
  Or.inr ⟨le_rfl, rfl, Or.inl ⟨h0, h1⟩⟩

theorem packed4 {o0 o1 o2 o3 s0 s1 s2 s3 n0 n1 n2 n3 : Nat} (p : Nat) (inb) (h0 : p ∣ o2) (h1 : p ∣ s2) :
    (Rect.unit (s := ⟨4, ![n0, n1, n2, n3]⟩) ![o0, o1, o2, o3] ![s0, s1, s2, s3] inb).PackedRows p := by
  have e : (⟨4, ![n0, n1, n2, n3]⟩ : Shape).rowAx (show 2 ≤ 4 by decide) = (2 : Fin 4) := Fin.ext rfl
  refine Or.inr ⟨show 2 ≤ 4 by decide, rfl, Or.inl ⟨?_, ?_⟩⟩
  · rw [e]; exact h0
  · rw [e]; exact h1

/-- The constant zero vector. -/
abbrev zeros (s : Shape) : FVec F s .f32 := broadcast s (Scalar.ofBits .f32 0x00000000#32 : F .f32)

/-- The program of the first grid point: the two identity matrices, the lanes of the step parameter, and the cleared sum. -/
def first : Cmd F M Unit :=
  ldU .eb ![0, 0] S128x128.size (by decide) (by decide) fun _ =>
  stP .eb ![0, 0] S128x128.size (by decide) (by decide) (by decide)
    (shapeCast S128x128 (truncf .bf16 (select (cmpi .eq (iota .tc S128x128 32 [0]) (iota .tc S128x128 32 [1]))
      (broadcast S128x128 (Scalar.ofBits .f32 0x3F800000#32 : F .f32)) (zeros S128x128))) (by decide)) <|
  ldU .ef ![0, 0] S96x96.size (by decide) (by decide) fun _ =>
  stP .ef ![0, 0] S96x96.size (by decide) (by decide) (by decide)
    (shapeCast S96x96 (truncf .fp8e5m2 (select (cmpi .eq (iota .tc S96x96 32 [0]) (iota .tc S96x96 32 [1]))
      (broadcast S96x96 (Scalar.ofBits .f32 0x3F800000#32 : F .f32)) (zeros S96x96))) (by decide)) <|
  ldU .al ![0] S80.size (by decide) (by decide) fun a =>
  ldU .ac ![0, 0] S80x128.size (by decide) (by decide) fun _ =>
  stU .ac ![0, 0] S80x128.size (by decide) (by decide) rfl
    (shapeCast S80x128 (transpose S80x128 [1, 0] (broadcastTo S128x80 (shapeCast S1x80 (shapeCast S1x80 a (by decide)) (by decide)) (by decide)) (by decide)) (by decide)) <|
  ldU .da ![0, 0] S80x128.size (by decide) (by decide) fun _ =>
  stU .da ![0, 0] S80x128.size (by decide) (by decide) rfl (shapeCast S80x128 (zeros S80x128) (by decide)) <|
  .ret ()

/-- The six key blocks of an oct and the identity beside each, as loaded. -/
structure Keys (F : FTy → Type) where
  /-- A key block. -/
  k0 : FVec F S256x128 .bf16
  /-- The identity. -/
  e0 : FVec F S128x128 .bf16
  /-- A key block. -/
  k1 : FVec F S256x128 .bf16
  /-- The identity. -/
  e1 : FVec F S128x128 .bf16
  /-- A key block. -/
  k2 : FVec F S256x128 .bf16
  /-- The identity. -/
  e2 : FVec F S128x128 .bf16
  /-- A key block. -/
  k3 : FVec F S256x128 .bf16
  /-- The identity. -/
  e3 : FVec F S128x128 .bf16
  /-- A key block. -/
  k4 : FVec F S256x128 .bf16
  /-- The identity. -/
  e4 : FVec F S128x128 .bf16
  /-- A key block. -/
  k5 : FVec F S256x128 .bf16
  /-- The identity. -/
  e5 : FVec F S128x128 .bf16

/-- The loaded blocks handed on one by one. -/
def Keys.app {β : Type 1} (f : FVec F S256x128 .bf16 → FVec F S128x128 .bf16 → FVec F S256x128 .bf16 → FVec F S128x128 .bf16 → FVec F S256x128 .bf16 → FVec F S128x128 .bf16 → FVec F S256x128 .bf16 → FVec F S128x128 .bf16 → FVec F S256x128 .bf16 → FVec F S128x128 .bf16 → FVec F S256x128 .bf16 → FVec F S128x128 .bf16 → β) : Keys F → β
  | ⟨k0, e0, k1, e1, k2, e2, k3, e3, k4, e4, k5, e5⟩ => f k0 e0 k1 e1 k2 e2 k3 e3 k4 e4 k5 e5

/-- A key block with its rows as lanes. -/
abbrev turned (e : FVec F S128x128 .bf16) (k : FVec F S256x128 .bf16) : FVec F S128x256 .f32 :=
  matmul dotE none e (shapeCast S256x128 k (by decide)) (constant S128x256 .f32 0x00000000#32)

/-- The turned blocks by number. -/
def Keys.x (q : Keys F) : Nat → FVec F S128x256 .f32
  | 0 => turned q.e0 q.k0
  | 1 => turned q.e1 q.k1
  | 2 => turned q.e2 q.k2
  | 3 => turned q.e3 q.k3
  | 4 => turned q.e4 q.k4
  | _ => turned q.e5 q.k5

/-- One key block's loads. -/
def ldK (o c : Nat) (ho : o < 2) (hc : c < 6) (k : FVec F S256x128 .bf16 → FVec F S128x128 .bf16 → Cmd F M α) : Cmd F M α :=
  ldU .k ![0, 768 * o + 128 * c] S256x128.size (inb2 (by omega) (by omega)) (by decide) fun x =>
  ldU .eb ![0, 0] S128x128.size (by decide) (by decide) fun e => k x e

/-- The six loads of an oct. -/
def keys (o : Nat) (ho : o < 2) : Cmd F M (Keys F) :=
  ldK o 0 ho (by decide) fun k0 e0 => ldK o 1 ho (by decide) fun k1 e1 => ldK o 2 ho (by decide) fun k2 e2 =>
  ldK o 3 ho (by decide) fun k3 e3 => ldK o 4 ho (by decide) fun k4 e4 => ldK o 5 ho (by decide) fun k5 e5 =>
  .ret ⟨k0, e0, k1, e1, k2, e2, k3, e3, k4, e4, k5, e5⟩

/-- A head's gradient block, copied out as f32. -/
def grad (o h : Nat) (ho : o < 2) (hh : h < 8) (k : Cmd F M α) : Cmd F M α :=
  ldU .ef ![0, 0] S96x96.size (by decide) (by decide) fun e =>
  ldU .g ![0, 8 * o + h, 0, 0] S1x1x96x256.size (inb4 (by omega) (by omega) (by omega) (by omega)) (by decide) fun g =>
  ldU .gt ![96 * h, 0] S96x256.size (inb2 (by omega) (by omega)) (by decide) fun _ =>
  stU .gt ![96 * h, 0] S96x256.size (inb2 (by omega) (by omega)) (by decide) rfl
    (shapeCast S96x256 (matmul dotG none e (shapeCast S96x256 g (by decide)) (constant S96x256 .f32 0x00000000#32)) (by decide)) k

/-- The gradient blocks of an oct. -/
def grads (o : Nat) (ho : o < 2) : Cmd F M Unit :=
  grad o 0 ho (by decide) <| grad o 1 ho (by decide) <| grad o 2 ho (by decide) <| grad o 3 ho (by decide) <|
  grad o 4 ho (by decide) <| grad o 5 ho (by decide) <| grad o 6 ho (by decide) <| grad o 7 ho (by decide) <| .ret ()

/-- One turned eight-row strip of a head. -/
abbrev strip (q : Keys F) (row lt : Nat) (hr : row % 8 = 0) (hlt : lt < 2) : FVec F S8x128 .f32 :=
  extractStridedSlice S8x128 ![row % 128, 128 * lt] (q.x (row / 128)) (slices2 (by omega) (by omega))

/-- Two strips of a head rotated: the rotated strips are stored and handed on. -/
def rotStep (q : Keys F) (h lt j : Nat) (hh : h < 8) (hlt : lt < 2) (hj : j < 6)
    (k : FVec F S8x128 .f32 → FVec F S8x128 .f32 → Cmd F M α) : Cmd F M α :=
  ldU .cos ![0, 8 * j, 128 * lt] S1x8x128.size (inb3 (by omega) (by omega) (by omega)) (by decide) fun c =>
  ldU .sin ![0, 8 * j, 128 * lt] S1x8x128.size (inb3 (by omega) (by omega) (by omega)) (by decide) fun s =>
  let c8 : FVec F S8x128 .f32 := shapeCast S8x128 c (by decide)
  let s8 : FVec F S8x128 .f32 := shapeCast S8x128 s (by decide)
  let lo := strip q (96 * h + 8 * j) lt (by omega) hlt
  let hi := strip q (96 * h + 48 + 8 * j) lt (by omega) hlt
  let y1 := subf (mulf lo c8) (mulf hi s8)
  let y2 := addf (mulf hi c8) (mulf lo s8)
  ldU .kr ![96 * h + 8 * j, 128 * lt] S8x128.size (inb2 (by omega) (by omega)) (by decide) fun _ =>
  stU .kr ![96 * h + 8 * j, 128 * lt] S8x128.size (inb2 (by omega) (by omega)) (by decide) rfl (shapeCast S8x128 y1 (by decide)) <|
  ldU .kr ![96 * h + 48 + 8 * j, 128 * lt] S8x128.size (inb2 (by omega) (by omega)) (by decide) fun _ =>
  stU .kr ![96 * h + 48 + 8 * j, 128 * lt] S8x128.size (inb2 (by omega) (by omega)) (by decide) rfl (shapeCast S8x128 y2 (by decide)) <|
  k y1 y2

/-- The running maximum of the absolute values. -/
abbrev max2 (m y1 y2 : FVec F S8x128 .f32) : FVec F S8x128 .f32 := maximumf (maximumf m (absf y1)) (absf y2)

/-- A head rotated, with the maximum of its absolute values by row modulo eight. -/
def rot (q : Keys F) (h lt : Nat) (hh : h < 8) (hlt : lt < 2) : Cmd F M Unit :=
  rotStep q h lt 0 hh hlt (by decide) fun a0 b0 => rotStep q h lt 1 hh hlt (by decide) fun a1 b1 =>
  rotStep q h lt 2 hh hlt (by decide) fun a2 b2 => rotStep q h lt 3 hh hlt (by decide) fun a3 b3 =>
  rotStep q h lt 4 hh hlt (by decide) fun a4 b4 => rotStep q h lt 5 hh hlt (by decide) fun a5 b5 =>
  ldU .pm ![lt, 8 * h, 0] S1x8x128.size (inb3 (by omega) (by omega) (by omega)) (by decide) fun _ =>
  stU .pm ![lt, 8 * h, 0] S1x8x128.size (inb3 (by omega) (by omega) (by omega)) (by decide) rfl
    (shapeCast S1x8x128 (max2 (max2 (max2 (max2 (max2 (maximumf (absf a0) (absf b0)) a1 b1) a2 b2) a3 b3) a4 b4) a5 b5) (by decide)) <|
  .ret ()

/-- The eight partial vectors of one lane tile, each over the heads. -/
def pms (lt : Nat) (hlt : lt < 2) (k : FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → Cmd F M α) : Cmd F M α :=
  .ld .pm ⟨![lt, 0, 0], S1x8x128.size, ![1, 8, 1], inbPm lt 0 hlt (by decide)⟩ posPm fun v0 =>
  .ld .pm ⟨![lt, 1, 0], S1x8x128.size, ![1, 8, 1], inbPm lt 1 hlt (by decide)⟩ posPm fun v1 =>
  .ld .pm ⟨![lt, 2, 0], S1x8x128.size, ![1, 8, 1], inbPm lt 2 hlt (by decide)⟩ posPm fun v2 =>
  .ld .pm ⟨![lt, 3, 0], S1x8x128.size, ![1, 8, 1], inbPm lt 3 hlt (by decide)⟩ posPm fun v3 =>
  .ld .pm ⟨![lt, 4, 0], S1x8x128.size, ![1, 8, 1], inbPm lt 4 hlt (by decide)⟩ posPm fun v4 =>
  .ld .pm ⟨![lt, 5, 0], S1x8x128.size, ![1, 8, 1], inbPm lt 5 hlt (by decide)⟩ posPm fun v5 =>
  .ld .pm ⟨![lt, 6, 0], S1x8x128.size, ![1, 8, 1], inbPm lt 6 hlt (by decide)⟩ posPm fun v6 =>
  .ld .pm ⟨![lt, 7, 0], S1x8x128.size, ![1, 8, 1], inbPm lt 7 hlt (by decide)⟩ posPm fun v7 =>
  k v0 v1 v2 v3 v4 v5 v6 v7

/-- A partial vector with the heads as rows. -/
abbrev p8 (v : FVec F S1x8x128 .f32) : FVec F S8x128 .f32 := shapeCast S8x128 v (by decide)

/-- Eight partial vectors joined pairwise. -/
abbrev tree (f : FVec F S8x128 .f32 → FVec F S8x128 .f32 → FVec F S8x128 .f32) (p : Fin 8 → FVec F S1x8x128 .f32) : FVec F S8x128 .f32 :=
  f (f (f (p8 (p 0)) (p8 (p 1))) (f (p8 (p 2)) (p8 (p 3)))) (f (f (p8 (p 4)) (p8 (p 5))) (f (p8 (p 6)) (p8 (p 7))))

/-- Two lane tiles side by side. -/
abbrev beside (x y : FVec F S8x128 .f32) : FVec F S8x256 .f32 :=
  concatenate S8x256 1 [⟨S8x128, x⟩, ⟨S8x128, y⟩] conc8

/-- What the scale computation loads: the maxima of both lane tiles and the gradient scales. -/
structure Red (F : FTy → Type) where
  /-- a loaded vector -/
  p0 : FVec F S1x8x128 .f32
  /-- a loaded vector -/
  p1 : FVec F S1x8x128 .f32
  /-- a loaded vector -/
  p2 : FVec F S1x8x128 .f32
  /-- a loaded vector -/
  p3 : FVec F S1x8x128 .f32
  /-- a loaded vector -/
  p4 : FVec F S1x8x128 .f32
  /-- a loaded vector -/
  p5 : FVec F S1x8x128 .f32
  /-- a loaded vector -/
  p6 : FVec F S1x8x128 .f32
  /-- a loaded vector -/
  p7 : FVec F S1x8x128 .f32
  /-- a loaded vector -/
  r0 : FVec F S1x8x128 .f32
  /-- a loaded vector -/
  r1 : FVec F S1x8x128 .f32
  /-- a loaded vector -/
  r2 : FVec F S1x8x128 .f32
  /-- a loaded vector -/
  r3 : FVec F S1x8x128 .f32
  /-- a loaded vector -/
  r4 : FVec F S1x8x128 .f32
  /-- a loaded vector -/
  r5 : FVec F S1x8x128 .f32
  /-- a loaded vector -/
  r6 : FVec F S1x8x128 .f32
  /-- a loaded vector -/
  r7 : FVec F S1x8x128 .f32
  /-- the gradient scales -/
  gs : FVec F S1x8x256 .f32

/-- The loaded vectors handed on one by one. -/
def Red.app {β : Type 1} (f : FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x128 .f32 → FVec F S1x8x256 .f32 → β) : Red F → β
  | ⟨p0, p1, p2, p3, p4, p5, p6, p7, r0, r1, r2, r3, r4, r5, r6, r7, gs⟩ => f p0 p1 p2 p3 p4 p5 p6 p7 r0 r1 r2 r3 r4 r5 r6 r7 gs

/-- The largest absolute value of each head and position. -/
abbrev Red.amax (d : Red F) : FVec F S8x256 .f32 := beside (tree maximumf ![d.p0, d.p1, d.p2, d.p3, d.p4, d.p5, d.p6, d.p7]) (tree maximumf ![d.r0, d.r1, d.r2, d.r3, d.r4, d.r5, d.r6, d.r7])

/-- The scales: the largest absolute value times the step over seven, or one where it is zero. -/
abbrev scales (c7 : F .f32) (m a : FVec F S8x256 .f32) : FVec F S8x256 .f32 :=
  select (cmpf .oeq m (zeros S8x256)) (broadcast S8x256 (Scalar.ofBits .f32 0x3F800000#32 : F .f32))
    (mulf (mulf a m) (broadcast S8x256 c7))

/-- The scales of an oct: computed, stored, and their reciprocals stored. -/
def reduce (c7 : F .f32) (off : Fin 2 → Nat) (hoff : ∀ a, off a + S8x128.size a ≤ S80x128.size a) (o : Nat) (ho : o < 2) : Cmd F M (Red F) :=
  pms 0 (by decide) fun p0 p1 p2 p3 p4 p5 p6 p7 => pms 1 (by decide) fun r0 r1 r2 r3 r4 r5 r6 r7 =>
  ldU .ac off S8x128.size hoff (by decide) fun a =>
  let m := beside (tree maximumf ![p0, p1, p2, p3, p4, p5, p6, p7]) (tree maximumf ![r0, r1, r2, r3, r4, r5, r6, r7])
  let s := scales c7 m (beside a a)
  ldU .s ![0, 8 * o, 0] S1x8x256.size (inb3 (by omega) (by omega) (by omega)) (by decide) fun _ =>
  stU .s ![0, 8 * o, 0] S1x8x256.size (inb3 (by omega) (by omega) (by omega)) (by decide) rfl (shapeCast S1x8x256 s (by decide)) <|
  ldU .inv ![0, 0] S8x256.size (by decide) (by decide) fun _ =>
  stU .inv ![0, 0] S8x256.size (by decide) (by decide) rfl
    (shapeCast S8x256 (divf (broadcast S8x256 (Scalar.ofBits .f32 0x3F800000#32 : F .f32)) s) (by decide)) <|
  ldU .gs ![0, 8 * o, 0] S1x8x256.size (inb3 (by omega) (by omega) (by omega)) (by decide) fun gs =>
  .ret ⟨p0, p1, p2, p3, p4, p5, p6, p7, r0, r1, r2, r3, r4, r5, r6, r7, gs⟩

/-- The clipped codes before rounding. -/
abbrev clip7 (r : FVec F S8x128 .f32) : FVec F S8x128 .f32 :=
  minimumf (broadcast S8x128 (Scalar.ofBits .f32 0x40E00000#32 : F .f32)) (maximumf (broadcast S8x128 (Scalar.ofBits .f32 0xC0E00000#32 : F .f32)) r)

/-- One eight-row strip scaled: the clipped strip, the gradient where nothing was clipped, and their product with the strip. -/
def qStep (h lt j : Nat) (hh : h < 8) (hlt : lt < 2) (hj : j < 12) (inv : FVec F S1x128 .f32)
    (k : FVec F S8x128 .f32 → FVec F S8x128 .f32 → FVec F S8x128 .f32 → Cmd F M α) : Cmd F M α :=
  ldU .kr ![96 * h + 8 * j, 128 * lt] S8x128.size (inb2 (by omega) (by omega)) (by decide) fun x =>
  let r : FVec F S8x128 .f32 := mulf x (broadcastTo S8x128 inv (by decide))
  let rc := clip7 r
  ldU .gt ![96 * h + 8 * j, 128 * lt] S8x128.size (inb2 (by omega) (by omega)) (by decide) fun g =>
  let gi : FVec F S8x128 .f32 := select (cmpf .oeq r rc) g (zeros S8x128)
  k rc gi (mulf gi r)

/-- Thirty-two rows of codes: rounded, stored, and multiplied by the gradient. -/
def cStep (o h lt q : Nat) (ho : o < 2) (hh : h < 8) (hlt : lt < 2) (hq : q < 3) (a b c d : FVec F S8x128 .f32)
    (k : FVec F S32x128 .f32 → Cmd F M α) : Cmd F M α :=
  let cd : IVec S32x128 8 := fptosi 8 (roundeven (concatenate S32x128 0 [⟨S8x128, a⟩, ⟨S8x128, b⟩, ⟨S8x128, c⟩, ⟨S8x128, d⟩] conc32))
  ldU .codes ![0, 8 * o + h, 32 * q, 128 * lt] S1x1x32x128.size (inb4 (by omega) (by omega) (by omega) (by omega)) (by decide) fun _ =>
  stP .codes ![0, 8 * o + h, 32 * q, 128 * lt] S1x1x32x128.size (inb4 (by omega) (by omega) (by omega) (by omega)) (by decide)
    (packed4 4 _ ⟨8 * q, by omega⟩ ⟨8, rfl⟩) (shapeCast S1x1x32x128 cd (by decide)) <|
  ldU .g ![0, 8 * o + h, 32 * q, 128 * lt] S1x1x32x128.size (inb4 (by omega) (by omega) (by omega) (by omega)) (by decide) fun g =>
  k (extf .f32 (mulf (sitofp .bf16 cd : FVec F S32x128 .bf16) (extf .bf16 (shapeCast S32x128 g (by decide) : FVec F S32x128 .fp8e5m2) (by decide))) (by decide))

/-- Eight rows out of thirty-two. -/
abbrev eight (j : Nat) (hj : j < 4) (x : FVec F S32x128 .f32) : FVec F S8x128 .f32 :=
  extractStridedSlice S8x128 ![8 * j, 0] x (slices2 (by omega) (by omega))

/-- Two strips stacked. -/
abbrev two (x y : FVec F S8x128 .f32) : FVec F S16x128 .f32 :=
  concatenate S16x128 0 [⟨S8x128, x⟩, ⟨S8x128, y⟩] conc16

/-- Sixteen rows of the gradient rotated back, scaled and stored. -/
def rStep (h lt t : Nat) (hh : h < 8) (hlt : lt < 2) (ht : t < 3) (gs1 : FVec F S1x128 .bf16) (c1 c2 : FVec F S16x128 .f32)
    (k : Cmd F M α) : Cmd F M α :=
  ldU .cos ![0, 16 * t, 128 * lt] S1x16x128.size (inb3 (by omega) (by omega) (by omega)) (by decide) fun c =>
  ldU .sin ![0, 16 * t, 128 * lt] S1x16x128.size (inb3 (by omega) (by omega) (by omega)) (by decide) fun s =>
  let c16 : FVec F S16x128 .f32 := shapeCast S16x128 c (by decide)
  let s16 : FVec F S16x128 .f32 := shapeCast S16x128 s (by decide)
  let lo : FVec F S16x128 .bf16 := mulf (truncf .bf16 (addf (mulf c1 c16) (mulf c2 s16)) (by decide)) (broadcastTo S16x128 gs1 (by decide))
  let hi : FVec F S16x128 .bf16 := mulf (truncf .bf16 (subf (mulf c2 c16) (mulf c1 s16)) (by decide)) (broadcastTo S16x128 gs1 (by decide))
  ldU .dkt ![96 * h + 16 * t, 128 * lt] S16x128.size (inb2 (by omega) (by omega)) (by decide) fun _ =>
  stP .dkt ![96 * h + 16 * t, 128 * lt] S16x128.size (inb2 (by omega) (by omega)) (by decide)
    (packed2 2 _ ⟨48 * h + 8 * t, by omega⟩ ⟨8, rfl⟩) (shapeCast S16x128 lo (by decide)) <|
  ldU .dkt ![96 * h + 48 + 16 * t, 128 * lt] S16x128.size (inb2 (by omega) (by omega)) (by decide) fun _ =>
  stP .dkt ![96 * h + 48 + 16 * t, 128 * lt] S16x128.size (inb2 (by omega) (by omega)) (by decide)
    (packed2 2 _ ⟨48 * h + 24 + 8 * t, by omega⟩ ⟨8, rfl⟩) (shapeCast S16x128 hi (by decide)) k

/-- A head quantised: codes stored, the partial sums of the step gradient stored, and the key gradient stored. -/
def quant (o h lt : Nat) (ho : o < 2) (hh : h < 8) (hlt : lt < 2) : Cmd F M Unit :=
  ldU .inv ![h, 128 * lt] S1x128.size (inb2 (by omega) (by omega)) (by decide) fun inv =>
  ldU .gs ![0, 8 * o + h, 128 * lt] S1x1x128.size (inb3 (by omega) (by omega) (by omega)) (by decide) fun gs =>
  let gs1 : FVec F S1x128 .bf16 := truncf .bf16 (shapeCast S1x128 gs (by decide) : FVec F S1x128 .f32) (by decide)
  qStep h lt 0 hh hlt (by decide) inv fun r0 g0 p0 => qStep h lt 1 hh hlt (by decide) inv fun r1 g1 p1 =>
  qStep h lt 2 hh hlt (by decide) inv fun r2 g2 p2 => qStep h lt 3 hh hlt (by decide) inv fun r3 g3 p3 =>
  qStep h lt 4 hh hlt (by decide) inv fun r4 g4 p4 => qStep h lt 5 hh hlt (by decide) inv fun r5 g5 p5 =>
  qStep h lt 6 hh hlt (by decide) inv fun r6 g6 p6 => qStep h lt 7 hh hlt (by decide) inv fun r7 g7 p7 =>
  qStep h lt 8 hh hlt (by decide) inv fun r8 g8 p8 => qStep h lt 9 hh hlt (by decide) inv fun r9 g9 p9 =>
  qStep h lt 10 hh hlt (by decide) inv fun r10 g10 p10 => qStep h lt 11 hh hlt (by decide) inv fun r11 g11 p11 =>
  let acc := addf (addf (addf (addf (addf (addf (addf (addf (addf (addf (addf p0 p1) p2) p3) p4) p5) p6) p7) p8) p9) p10) p11
  cStep o h lt 0 ho hh hlt (by decide) r0 r1 r2 r3 fun a =>
  cStep o h lt 1 ho hh hlt (by decide) r4 r5 r6 r7 fun b =>
  cStep o h lt 2 ho hh hlt (by decide) r8 r9 r10 r11 fun c =>
  let s4 := addf (addf (addf (eight 0 (by decide) a) (eight 1 (by decide) a)) (eight 2 (by decide) a)) (eight 3 (by decide) a)
  let s8 := addf (addf (addf (addf s4 (eight 0 (by decide) b)) (eight 1 (by decide) b)) (eight 2 (by decide) b)) (eight 3 (by decide) b)
  let s12 := addf (addf (addf (addf s8 (eight 0 (by decide) c)) (eight 1 (by decide) c)) (eight 2 (by decide) c)) (eight 3 (by decide) c)
  ldU .pm ![lt, 8 * h, 0] S1x8x128.size (inb3 (by omega) (by omega) (by omega)) (by decide) fun _ =>
  stU .pm ![lt, 8 * h, 0] S1x8x128.size (inb3 (by omega) (by omega) (by omega)) (by decide) rfl (shapeCast S1x8x128 (subf s12 acc) (by decide)) <|
  rStep h lt 0 hh hlt (by decide) gs1 (two g0 g1) (two g6 g7) <|
  rStep h lt 1 hh hlt (by decide) gs1 (two g2 g3) (two g8 g9) <|
  rStep h lt 2 hh hlt (by decide) gs1 (two g4 g5) (two g10 g11) <|
  .ret ()

/-- One block of the key gradient turned back and stored. -/
def back (o c lt : Nat) (ho : o < 2) (hc : c < 6) (hlt : lt < 2) (k : Cmd F M α) : Cmd F M α :=
  ldU .dkt ![128 * c, 128 * lt] S128x128.size (inb2 (by omega) (by omega)) (by decide) fun x =>
  ldU .dk ![128 * lt, 768 * o + 128 * c] S128x128.size (inb2 (by omega) (by omega)) (by decide) fun _ =>
  stP .dk ![128 * lt, 768 * o + 128 * c] S128x128.size (inb2 (by omega) (by omega)) (by decide)
    (packed2 2 _ ⟨64 * lt, by omega⟩ ⟨64, rfl⟩) (transpose S128x128 [1, 0] x (by decide)) k

/-- Half of a row of positions. -/
abbrev half (lt : Nat) (hlt : lt < 2) (x : FVec F S8x256 .f32) : FVec F S8x128 .f32 :=
  extractStridedSlice S8x128 ![0, 128 * lt] x (slices2 (by omega) (by omega))

/-- The end of an oct: the step gradients stored and summed, and the key gradient turned back. -/
def tail (c7 : F .f32) (off : Fin 2 → Nat) (hoff : ∀ a, off a + S8x128.size a ≤ S80x128.size a) (o : Nat) (ho : o < 2) (d : Red F) : Cmd F M Unit :=
  pms 0 (by decide) fun p0 p1 p2 p3 p4 p5 p6 p7 => pms 1 (by decide) fun r0 r1 r2 r3 r4 r5 r6 r7 =>
  let d8 : FVec F S8x256 .f32 := mulf (mulf (beside (tree addf ![p0, p1, p2, p3, p4, p5, p6, p7]) (tree addf ![r0, r1, r2, r3, r4, r5, r6, r7])) (shapeCast S8x256 d.gs (by decide))) (mulf d.amax (broadcast S8x256 c7))
  ldU .dtok ![0, 8 * o, 0] S1x8x256.size (inb3 (by omega) (by omega) (by omega)) (by decide) fun _ =>
  stU .dtok ![0, 8 * o, 0] S1x8x256.size (inb3 (by omega) (by omega) (by omega)) (by decide) rfl (shapeCast S1x8x256 d8 (by decide)) <|
  ldU .da off S8x128.size hoff (by decide) fun x =>
  ldU .da off S8x128.size hoff (by decide) fun _ =>
  stU .da off S8x128.size hoff (by decide) rfl
    (shapeCast S8x128 (addf x (addf (half 0 (by decide) d8) (half 1 (by decide) d8))) (by decide)) <|
  back o 0 0 ho (by decide) (by decide) <| back o 0 1 ho (by decide) (by decide) <|
  back o 1 0 ho (by decide) (by decide) <| back o 1 1 ho (by decide) (by decide) <|
  back o 2 0 ho (by decide) (by decide) <| back o 2 1 ho (by decide) (by decide) <|
  back o 3 0 ho (by decide) (by decide) <| back o 3 1 ho (by decide) (by decide) <|
  back o 4 0 ho (by decide) (by decide) <| back o 4 1 ho (by decide) (by decide) <|
  back o 5 0 ho (by decide) (by decide) <| back o 5 1 ho (by decide) (by decide) <| .ret ()

/-- The program of the last grid point: the sum over the positions' lanes. -/
def last : Cmd F M Unit :=
  ldU .da ![0, 0] S80x128.size (by decide) (by decide) fun x =>
  ldU .dal ![0] S80.size (by decide) (by decide) fun _ =>
  stU .dal ![0] S80.size (by decide) (by decide) rfl
    (multiReduction .add [0] S80 (transpose S128x80 [1, 0] x (by decide)) 0x00000000#32 (by decide) (.inl rfl) rfl) <|
  .ret ()

/-- The test for the first grid point. -/
@[reducible] def firstAt (a b : Nat) : BitVec 1 :=
  Scalar.cmpi .ne (Scalar.extui (Scalar.andi (Scalar.cmpi .eq (BitVec.ofNat 32 a) 0#32) (Scalar.cmpi .eq (BitVec.ofNat 32 b) 0#32)) : BitVec 32) 0#32

/-- One oct of heads. -/
def oct (c7 : F .f32) (off : Fin 2 → Nat) (hoff : ∀ a, off a + S8x128.size a ≤ S80x128.size a) (o : Nat) (ho : o < 2) : Cmd F M Unit :=
  (keys o ho).bind fun q =>
  (grads o ho).bind fun _ =>
  (rot q 0 0 (by decide) (by decide)).bind fun _ => (rot q 1 0 (by decide) (by decide)).bind fun _ =>
  (rot q 2 0 (by decide) (by decide)).bind fun _ => (rot q 3 0 (by decide) (by decide)).bind fun _ =>
  (rot q 4 0 (by decide) (by decide)).bind fun _ => (rot q 5 0 (by decide) (by decide)).bind fun _ =>
  (rot q 6 0 (by decide) (by decide)).bind fun _ => (rot q 7 0 (by decide) (by decide)).bind fun _ =>
  (rot q 0 1 (by decide) (by decide)).bind fun _ => (rot q 1 1 (by decide) (by decide)).bind fun _ =>
  (rot q 2 1 (by decide) (by decide)).bind fun _ => (rot q 3 1 (by decide) (by decide)).bind fun _ =>
  (rot q 4 1 (by decide) (by decide)).bind fun _ => (rot q 5 1 (by decide) (by decide)).bind fun _ =>
  (rot q 6 1 (by decide) (by decide)).bind fun _ => (rot q 7 1 (by decide) (by decide)).bind fun _ =>
  (reduce c7 off hoff o ho).bind fun d =>
  (quant o 0 0 ho (by decide) (by decide)).bind fun _ => (quant o 1 0 ho (by decide) (by decide)).bind fun _ =>
  (quant o 2 0 ho (by decide) (by decide)).bind fun _ => (quant o 3 0 ho (by decide) (by decide)).bind fun _ =>
  (quant o 4 0 ho (by decide) (by decide)).bind fun _ => (quant o 5 0 ho (by decide) (by decide)).bind fun _ =>
  (quant o 6 0 ho (by decide) (by decide)).bind fun _ => (quant o 7 0 ho (by decide) (by decide)).bind fun _ =>
  (quant o 0 1 ho (by decide) (by decide)).bind fun _ => (quant o 1 1 ho (by decide) (by decide)).bind fun _ =>
  (quant o 2 1 ho (by decide) (by decide)).bind fun _ => (quant o 3 1 ho (by decide) (by decide)).bind fun _ =>
  (quant o 4 1 ho (by decide) (by decide)).bind fun _ => (quant o 5 1 ho (by decide) (by decide)).bind fun _ =>
  (quant o 6 1 ho (by decide) (by decide)).bind fun _ => (quant o 7 1 ho (by decide) (by decide)).bind fun _ =>
  tail c7 off hoff o ho d

/-- The body at one grid point. -/
def body (c7 : F .f32) (off0 off1 : Fin 2 → Nat) (h0 : ∀ a, off0 a + S8x128.size a ≤ S80x128.size a)
    (h1 : ∀ a, off1 a + S8x128.size a ≤ S80x128.size a) (isFirst isLast : Prop) [Decidable isFirst] [Decidable isLast] : Cmd F M Unit :=
  (if isFirst then first else .ret ()).bind fun _ =>
  (oct c7 off0 h0 0 (by decide)).bind fun _ =>
  (oct c7 off1 h1 1 (by decide)).bind fun _ =>
  if isLast then last else .ret ()

end Cert.K
-- ==== Proof.Kernel.Pieces.lean ====
/-
  The printed body of Kernel is the structured one: a piece at a time. Each piece states that what is left of the printed body is the
  piece's structured program followed by something, and that something is where the next piece starts.
-/
module

public import proofs.«01_k».proof.Proof.K.Body
public import proofs.«01_k».proof.Kernel

@[expose] public section

set_option maxRecDepth 100000

noncomputable section

namespace Cert.Kernel.Sb

open Idealize.ShloMosaic Idealize.SL.Sem Cert.K

variable {F : FTy → Type} [FloatOps F] [Facts₀] [Facts]
  (i : grid0.Coords) (arg2 : Memref sig .tc .vmem S256x1536 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .vmem S80 .f32) (harg5 : arg5.IsWhole) (arg6 : Memref sig .tc .vmem S1x16x96x256 .fp8e5m2) (harg6 : arg6.IsWhole) (arg7 : Memref sig .tc .vmem S1x16x256 .f32) (harg7 : arg7.IsWhole) (arg8 : Memref sig .tc .vmem S256x1536 .bf16) (harg8 : arg8.IsWhole) (arg9 : Memref sig .tc .vmem S80 .f32) (harg9 : arg9.IsWhole) (arg10 : Memref sig .tc .vmem S1x16x256 .f32) (harg10 : arg10.IsWhole) (arg11 : Memref sig .tc .vmem S1x16x96x256 .i8) (harg11 : arg11.IsWhole) (arg12 : Memref sig .tc .vmem S1x16x256 .f32) (harg12 : arg12.IsWhole) (arg13 : Memref sig .tc .vmem S128x128 .bf16) (harg13 : arg13.IsWhole) (arg14 : Memref sig .tc .vmem S96x96 .fp8e5m2) (harg14 : arg14.IsWhole) (arg15 : Memref sig .tc .vmem S80x128 .f32) (harg15 : arg15.IsWhole) (arg16 : Memref sig .tc .vmem S80x128 .f32) (harg16 : arg16.IsWhole) (arg17 : Memref sig .tc .vmem S768x256 .f32) (harg17 : arg17.IsWhole) (arg18 : Memref sig .tc .vmem S768x256 .f32) (harg18 : arg18.IsWhole) (arg19 : Memref sig .tc .vmem S2x64x128 .f32) (harg19 : arg19.IsWhole) (arg20 : Memref sig .tc .vmem S768x256 .bf16) (harg20 : arg20.IsWhole) (arg21 : Memref sig .tc .vmem S8x256 .f32) (harg21 : arg21.IsWhole)

/-- The first piece: the program of the first grid point. -/
def c0 :
    {X : Prog (TpuEff nD τ sig (Elt F) Λ₀ .tc) PUnit //
      cc0_rotary_key_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (if firstAt (i 0).val (i 1).val = 1#1 then first else .ret () : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Unit).denoteK fun _ => X} := by
  refine ⟨?X, ?_⟩
  rotate_left
  by_cases h : ¬ (firstAt (i 0).val (i 1).val = 1#1)
  · rw [if_neg h]
    unfold cc0_rotary_key_bwd k0_part371 k0_part1
    rw [dif_neg h]
    rfl
  · rw [not_not] at h
    rw [if_pos h]
    unfold cc0_rotary_key_bwd k0_part371 k0_part1
    rw [dif_pos h]
    rfl

/-- The next piece: `keys`. -/
def c1 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // (c0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (keys 0 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Keys.app X)} := by
  refine ⟨?X, ?_⟩
  rotate_left
  skip
  rfl

/-- The next piece: `grads`. -/
def c2 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (grads 0 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c3 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c4 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c5 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c6 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c7 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c8 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c9 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c10 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c11 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c12 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c13 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c14 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c15 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c16 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c17 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c18 :
    {X : Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro k0 e0 k1 e1 k2 e2 k3 e3 k4 e4 k5 e5
  rfl

/-- The next piece: `reduce`. -/
def c19 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // (c18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (reduce (Scalar.ofBits .f32 0x3E124925#32 : F .f32) (k0_off1 i 0#32) (Facts₀.k0_off1_inb i 0) 0 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Red.app X)} := by
  refine ⟨?X, ?_⟩
  rotate_left
  skip
  rfl

/-- The next piece: `quant`. -/
def c20 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 0 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c21 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 1 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c22 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 2 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c23 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 3 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c24 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 4 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c25 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 5 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c26 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 6 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c27 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 7 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c28 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 0 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c29 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 1 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c30 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 2 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c31 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 3 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c32 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 4 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c33 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 5 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c34 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 6 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c35 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 7 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `tail`. -/
def c36 :
    {X : Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (tail (Scalar.ofBits .f32 0x3E124925#32 : F .f32) (k0_off1 i 0#32) (Facts₀.k0_off1_inb i 0) 0 (by decide) ⟨p0, p1, p2, p3, p4, p5, p6, p7, r0, r1, r2, r3, r4, r5, r6, r7, gs⟩ : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro p0 p1 p2 p3 p4 p5 p6 p7 r0 r1 r2 r3 r4 r5 r6 r7 gs
  rfl

/-- The next piece: `keys`. -/
def c37 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // (c36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (keys 1 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Keys.app X)} := by
  refine ⟨?X, ?_⟩
  rotate_left
  skip
  rfl

/-- The next piece: `grads`. -/
def c38 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (grads 1 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c39 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c40 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c41 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c42 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c43 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c44 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c45 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c46 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c47 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c48 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c49 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c50 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c51 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c52 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c53 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c54 :
    {X : Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro k0 e0 k1 e1 k2 e2 k3 e3 k4 e4 k5 e5
  rfl

/-- The next piece: `reduce`. -/
def c55 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // (c54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (reduce (Scalar.ofBits .f32 0x3E124925#32 : F .f32) (k0_off1 i 8#32) (Facts₀.k0_off1_inb i 1) 1 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Red.app X)} := by
  refine ⟨?X, ?_⟩
  rotate_left
  skip
  rfl

/-- The next piece: `quant`. -/
def c56 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 0 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c57 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 1 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c58 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 2 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c59 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 3 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c60 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 4 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c61 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 5 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c62 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 6 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c63 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 7 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c64 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 0 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c65 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 1 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c66 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 2 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c67 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 3 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c68 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 4 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c69 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 5 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c70 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 6 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c71 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 7 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `tail`. -/
def c72 :
    {X : Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (tail (Scalar.ofBits .f32 0x3E124925#32 : F .f32) (k0_off1 i 8#32) (Facts₀.k0_off1_inb i 1) 1 (by decide) ⟨p0, p1, p2, p3, p4, p5, p6, p7, r0, r1, r2, r3, r4, r5, r6, r7, gs⟩ : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro p0 p1 p2 p3 p4 p5 p6 p7 r0 r1 r2 r3 r4 r5 r6 r7 gs
  rfl

end Cert.Kernel.Sb
-- ==== Proof.Kernel.Structured.lean ====
/-
  The printed body of Kernel is the structured one: the pieces put together.
-/
module

public import proofs.«01_k».proof.Proof.K.Body
public import proofs.«01_k».proof.Kernel
public import proofs.«01_k».proof.Proof.Kernel.Pieces

@[expose] public section

set_option maxRecDepth 100000

noncomputable section

namespace Cert.Kernel.Sb

open Idealize.ShloMosaic Idealize.SL.Sem Cert.K

variable {F : FTy → Type} [FloatOps F] [Facts₀] [Facts]
  (i : grid0.Coords) (arg2 : Memref sig .tc .vmem S256x1536 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .vmem S80 .f32) (harg5 : arg5.IsWhole) (arg6 : Memref sig .tc .vmem S1x16x96x256 .fp8e5m2) (harg6 : arg6.IsWhole) (arg7 : Memref sig .tc .vmem S1x16x256 .f32) (harg7 : arg7.IsWhole) (arg8 : Memref sig .tc .vmem S256x1536 .bf16) (harg8 : arg8.IsWhole) (arg9 : Memref sig .tc .vmem S80 .f32) (harg9 : arg9.IsWhole) (arg10 : Memref sig .tc .vmem S1x16x256 .f32) (harg10 : arg10.IsWhole) (arg11 : Memref sig .tc .vmem S1x16x96x256 .i8) (harg11 : arg11.IsWhole) (arg12 : Memref sig .tc .vmem S1x16x256 .f32) (harg12 : arg12.IsWhole) (arg13 : Memref sig .tc .vmem S128x128 .bf16) (harg13 : arg13.IsWhole) (arg14 : Memref sig .tc .vmem S96x96 .fp8e5m2) (harg14 : arg14.IsWhole) (arg15 : Memref sig .tc .vmem S80x128 .f32) (harg15 : arg15.IsWhole) (arg16 : Memref sig .tc .vmem S80x128 .f32) (harg16 : arg16.IsWhole) (arg17 : Memref sig .tc .vmem S768x256 .f32) (harg17 : arg17.IsWhole) (arg18 : Memref sig .tc .vmem S768x256 .f32) (harg18 : arg18.IsWhole) (arg19 : Memref sig .tc .vmem S2x64x128 .f32) (harg19 : arg19.IsWhole) (arg20 : Memref sig .tc .vmem S768x256 .bf16) (harg20 : arg20.IsWhole) (arg21 : Memref sig .tc .vmem S8x256 .f32) (harg21 : arg21.IsWhole)

/-- The last piece: the program of the last grid point. -/
theorem end_eq : (c72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 = (if k0_cond2 i = 1#1 then last else .ret () : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Unit).denote := by
  by_cases h : k0_cond2 i = 1#1
  · rw [if_pos h]
    exact (dif_pos h).trans rfl
  · rw [if_neg h]
    exact (dif_neg h).trans rfl

/-- The printed body is the structured one. -/
theorem body_eq : cc0_rotary_key_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 =
    (body (Scalar.ofBits .f32 0x3E124925#32 : F .f32) (k0_off1 i 0#32) (k0_off1 i 8#32) (Facts₀.k0_off1_inb i 0) (Facts₀.k0_off1_inb i 1) (firstAt (i 0).val (i 1).val = 1#1) (k0_cond2 i = 1#1) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Unit).denote := by
  rw [← Cmd.denoteK_ret]
  unfold body oct
  simp only [Cmd.denoteK_bind]
  refine (c0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun _ => ?_))
  refine (c1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨k0, e0, k1, e1, k2, e2, k3, e3, k4, e4, k5, e5⟩ := q
  refine ((c2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine (c19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨p0, p1, p2, p3, p4, p5, p6, p7, r0, r1, r2, r3, r4, r5, r6, r7, gs⟩ := q
  refine ((c20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine (c37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨k0, e0, k1, e1, k2, e2, k3, e3, k4, e4, k5, e5⟩ := q
  refine ((c38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine (c55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨p0, p1, p2, p3, p4, p5, p6, p7, r0, r1, r2, r3, r4, r5, r6, r7, gs⟩ := q
  refine ((c56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  rw [Cmd.denoteK_ret]
  exact end_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

end Cert.Kernel.Sb
-- ==== Proof.Kernel.Frame.lean ====
/-
  The frame of Kernel: at every grid point the body runs from any contents of its buffers, and the launch
  leaves the argument arrays as they were.
-/
module

public import proofs.«01_k».proof.Proof.Kernel.Structured
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init

@[expose] public section

set_option maxRecDepth 100000

noncomputable section

namespace Cert.Kernel.Sb

open Cert.Kernel.Gen Cert.K
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg)

variable {F : FTy → Type} [FloatOps F]

local notation "𝕄" => MT nD τ sig Unit (Elt F) ℕ (UR sig nD τ) ℕ

/-- No variants: the body has no unbounded loop. -/
abbrev 𝒱₀ : Variants := Variants.none

/-- The buffers at a grid point: the current staging buffers and the scratch. -/
@[reducible] def mem (t : Fin cfg0.N) : Ms sig :=
  Ms.of (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)

/-- The body at a grid point. -/
def bodyC (t : Fin cfg0.N) : Cmd F (mem t) Unit :=
  body (Scalar.ofBits .f32 0x3E124925#32 : F .f32) (k0_off1 (grid0.coords t) 0#32) (k0_off1 (grid0.coords t) 8#32)
    (Facts₀.k0_off1_inb (grid0.coords t) 0) (Facts₀.k0_off1_inb (grid0.coords t) 1)
    (firstAt (grid0.coords t 0).val (grid0.coords t 1).val = 1#1) (k0_cond2 (grid0.coords t) = 1#1)

/-- The body runs from any contents to what the structured body computes. -/
theorem body_sound (c : Dev nD) (E : Set ℕ) (t : Fin cfg0.N) (s : St F) (Q : PUnit → sProp 𝕄) :
    iprop(Cmd.held (mem t) c s ∗ (Cmd.held (mem t) c ((bodyC t).run s).2 -∗ Q ⟨⟩))
      ⊢ wp frame (wpE defs₀ 𝒱₀ (c : Thread nD τ) none) E (bodyAt0 t) Q := by
  have e : (bodyAt0 (F := F) t) = (bodyC t).denote := body_eq _ _ _ _ _ _ _ _ _ _ _ _ _ _ _ _ _ _ _ _ _ _ _ _ _ _ _ _ _ _ _ _ _ _ _ _ _ _ _ _ _
  rw [e]
  exact Cmd.sound 𝒱₀ c none E (bodyC t) s Q

/-- All buffers held, spelled out. -/
theorem held_eq (c : Dev nD) (t : Fin cfg0.N) (s : St F) : (Cmd.held (mem t) c s : sProp 𝕄) =
    iprop(owns (c : Thread nD τ) (st0_0 t) fullShare (s .k) ∗ owns (c : Thread nD τ) (st0_1 t) fullShare (s .cos)
      ∗ owns (c : Thread nD τ) (st0_2 t) fullShare (s .sin) ∗ owns (c : Thread nD τ) (st0_3 t) fullShare (s .al)
      ∗ owns (c : Thread nD τ) (st0_4 t) fullShare (s .g) ∗ owns (c : Thread nD τ) (st0_5 t) fullShare (s .gs)
      ∗ owns (c : Thread nD τ) (st0_6 t) fullShare (s .dk) ∗ owns (c : Thread nD τ) (st0_7 t) fullShare (s .dal)
      ∗ owns (c : Thread nD τ) (st0_8 t) fullShare (s .dtok) ∗ owns (c : Thread nD τ) (st0_9 t) fullShare (s .codes)
      ∗ owns (c : Thread nD τ) (st0_10 t) fullShare (s .s)
      ∗ owns (c : Thread nD τ) (Memref.whole cc0_scratch0) fullShare (s .eb) ∗ owns (c : Thread nD τ) (Memref.whole cc0_scratch1) fullShare (s .ef)
      ∗ owns (c : Thread nD τ) (Memref.whole cc0_scratch2) fullShare (s .ac) ∗ owns (c : Thread nD τ) (Memref.whole cc0_scratch3) fullShare (s .da)
      ∗ owns (c : Thread nD τ) (Memref.whole cc0_scratch4) fullShare (s .kr) ∗ owns (c : Thread nD τ) (Memref.whole cc0_scratch5) fullShare (s .gt)
      ∗ owns (c : Thread nD τ) (Memref.whole cc0_scratch6) fullShare (s .pm) ∗ owns (c : Thread nD τ) (Memref.whole cc0_scratch7) fullShare (s .dkt)
      ∗ owns (c : Thread nD τ) (Memref.whole cc0_scratch8) fullShare (s .inv)) :=
  bigSep_univ_eq_bigSepL Bf.list (by decide) (by decide) _

/-- The contents of the buffers from the eleven staging buffers' and the nine scratch buffers'. -/
def St.of (x0 : (Bf.sh .k).Idx → Elt F (Bf.el .k)) (x1 : (Bf.sh .cos).Idx → Elt F (Bf.el .cos)) (x2 : (Bf.sh .sin).Idx → Elt F (Bf.el .sin))
    (x3 : (Bf.sh .al).Idx → Elt F (Bf.el .al)) (x4 : (Bf.sh .g).Idx → Elt F (Bf.el .g)) (x5 : (Bf.sh .gs).Idx → Elt F (Bf.el .gs))
    (x6 : (Bf.sh .dk).Idx → Elt F (Bf.el .dk)) (x7 : (Bf.sh .dal).Idx → Elt F (Bf.el .dal)) (x8 : (Bf.sh .dtok).Idx → Elt F (Bf.el .dtok))
    (x9 : (Bf.sh .codes).Idx → Elt F (Bf.el .codes)) (x10 : (Bf.sh .s).Idx → Elt F (Bf.el .s))
    (z0 : (Bf.sh .eb).Idx → Elt F (Bf.el .eb)) (z1 : (Bf.sh .ef).Idx → Elt F (Bf.el .ef)) (z2 : (Bf.sh .ac).Idx → Elt F (Bf.el .ac))
    (z3 : (Bf.sh .da).Idx → Elt F (Bf.el .da)) (z4 : (Bf.sh .kr).Idx → Elt F (Bf.el .kr)) (z5 : (Bf.sh .gt).Idx → Elt F (Bf.el .gt))
    (z6 : (Bf.sh .pm).Idx → Elt F (Bf.el .pm)) (z7 : (Bf.sh .dkt).Idx → Elt F (Bf.el .dkt)) (z8 : (Bf.sh .inv).Idx → Elt F (Bf.el .inv)) : St F :=
  fun b => match b with
  | .k => x0 | .cos => x1 | .sin => x2 | .al => x3 | .g => x4 | .gs => x5 | .dk => x6 | .dal => x7 | .dtok => x8 | .codes => x9 | .s => x10
  | .eb => z0 | .ef => z1 | .ac => z2 | .da => z3 | .kr => z4 | .gt => z5 | .pm => z6 | .dkt => z7 | .inv => z8

variable (m : (ℓ : Loc nD τ sig) → Buf (Elt F) ℓ)

/-- The data of the frame: nothing is said of what the body leaves in a staging buffer. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's obligation. -/
theorem obligation (c : Dev nD) : (rdats m c).BodyObligation defs₀ 𝒱₀ () Set.univ := fun t Y _ => by
  show iprop(Pipeline.ΦA spec0 c ∗ (rdats m c).owesAt () t.castSucc ∗ bigSep Finset.univ fun w : Fin 11 => owns (c : Thread nD τ) ((cfg0.win w).stage (cfg0.slots t w)) fullShare (Y w))
    ⊢ wp frame (wpE defs₀ 𝒱₀ (c : Thread nD τ) none) Set.univ (bodyAt0 t) fun _ =>
      iprop(Pipeline.ΦA spec0 c ∗ (rdats m c).owesAt () t.castSucc
        ∗ bigSep Finset.univ fun w : Fin 11 => iprop(∃ X, ⌜True⌝ ∗ owns (c : Thread nD τ) ((cfg0.win w).stage (cfg0.slots t w)) fullShare X))
  rw [bigSep_W0, bigSep_W0]
  unfold Pipeline.ΦA
  rw [scopedRest0_eq]
  iintro ⟨⟨⟨⟨%z0, Z0⟩, ⟨%z1, Z1⟩, ⟨%z2, Z2⟩, ⟨%z3, Z3⟩, ⟨%z4, Z4⟩, ⟨%z5, Z5⟩, ⟨%z6, Z6⟩, ⟨%z7, Z7⟩, ⟨%z8, Z8⟩⟩, HR⟩, HO, H0, H1, H2, H3, H4, H5, H6, H7, H8, H9, H10⟩
  iapply (body_sound c Set.univ t (St.of (Y 0) (Y 1) (Y 2) (Y 3) (Y 4) (Y 5) (Y 6) (Y 7) (Y 8) (Y 9) (Y 10) z0 z1 z2 z3 z4 z5 z6 z7 z8) _)
  rw [held_eq, held_eq]
  simp only [owns_whole]
  isplitl [H0 H1 H2 H3 H4 H5 H6 H7 H8 H9 H10 Z0 Z1 Z2 Z3 Z4 Z5 Z6 Z7 Z8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  iintro ⟨H0, H1, H2, H3, H4, H5, H6, H7, H8, H9, H10, Z0, Z1, Z2, Z3, Z4, Z5, Z6, Z7, Z8⟩
  isplitl [Z0 Z1 Z2 Z3 Z4 Z5 Z6 Z7 Z8 HR]
  · isplitr [HR]
    · isplitl [Z0]; · iexists _; iexact Z0
      isplitl [Z1]; · iexists _; iexact Z1
      isplitl [Z2]; · iexists _; iexact Z2
      isplitl [Z3]; · iexists _; iexact Z3
      isplitl [Z4]; · iexists _; iexact Z4
      isplitl [Z5]; · iexists _; iexact Z5
      isplitl [Z6]; · iexists _; iexact Z6
      isplitl [Z7]; · iexists _; iexact Z7
      iexists _; iexact Z8
    · iexact HR
  isplitl [HO]; · iexact HO
  isplitl [H0]; · iexists _; isplitr; · ipureintro; trivial
                  iexact H0
  isplitl [H1]; · iexists _; isplitr; · ipureintro; trivial
                  iexact H1
  isplitl [H2]; · iexists _; isplitr; · ipureintro; trivial
                  iexact H2
  isplitl [H3]; · iexists _; isplitr; · ipureintro; trivial
                  iexact H3
  isplitl [H4]; · iexists _; isplitr; · ipureintro; trivial
                  iexact H4
  isplitl [H5]; · iexists _; isplitr; · ipureintro; trivial
                  iexact H5
  isplitl [H6]; · iexists _; isplitr; · ipureintro; trivial
                  iexact H6
  isplitl [H7]; · iexists _; isplitr; · ipureintro; trivial
                  iexact H7
  isplitl [H8]; · iexists _; isplitr; · ipureintro; trivial
                  iexact H8
  isplitl [H9]; · iexists _; isplitr; · ipureintro; trivial
                  iexact H9
  iexists _; isplitr; · ipureintro; trivial
  iexact H10

/-- The buffers the host lines after the call write. -/
def tails : Finset (Ref sig .tc) := {main_v6, main_v7, main_v8, main_v9}

/-- The frame claim, with the semaphores at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine RDat.θ_run_frame_around_T cfgs 0 launch0 defs₀ 𝒱₀ (rdats m) tails m ρ main (obligation m) (fun c w => ?_) (fun _ _ => rfl)
    (V0 m) [hostOps1] sfx_sub sfx_fresh sfx_keeps ?_ (hmain m 𝒱₀) (fun _ _ => rfl) (fun _ _ => rfl) _ ?_
  · unfold RDat.share; split <;> rfl
  · intro ops hops op hop b hb
    simp only [List.mem_singleton] at hops
    subst hops
    simp only [hostOps1, List.mem_cons, List.mem_nil_iff, _root_.or_false] at hop
    rcases hop with rfl | rfl | rfl | rfl <;>
      simp only [StableHlo.unary_writes, StableHlo.reshape_writes, Finset.mem_singleton] at hb <;>
      rw [Proc.devRef_injective _ hb] <;> decide
  · rintro r ⟨h, hs⟩
    refine ⟨fun c => ⟨?_, ?_, ?_, ?_, ?_, ?_⟩, hs⟩
    · exact ((h c).2 main_arg0 (Finset.mem_sdiff.2 ⟨Pipeline.mem_restRefs_of main_arg0 (by decide) (by decide), by decide⟩)).trans (V_main_arg0 m c)
    · exact ((h c).2 main_arg1 (Finset.mem_sdiff.2 ⟨Pipeline.mem_restRefs_of main_arg1 (by decide) (by decide), by decide⟩)).trans (V_main_arg1 m c)
    · exact ((h c).2 main_arg2 (Finset.mem_sdiff.2 ⟨Pipeline.mem_restRefs_of main_arg2 (by decide) (by decide), by decide⟩)).trans (V_main_arg2 m c)
    · exact (RDat.FramePostR.arr_in h c 3 rfl).trans (V_main_arg3 m c)
    · exact ((h c).2 main_arg4 (Finset.mem_sdiff.2 ⟨Pipeline.mem_restRefs_of main_arg4 (by decide) (by decide), by decide⟩)).trans (V_main_arg4 m c)
    · exact ((h c).2 main_arg5 (Finset.mem_sdiff.2 ⟨Pipeline.mem_restRefs_of main_arg5 (by decide) (by decide), by decide⟩)).trans (V_main_arg5 m c)

end Cert.Kernel.Sb
-- ==== Proof.KernelIdeal.Pieces.lean ====
/-
  The printed body of KernelIdeal is the structured one: a piece at a time. Each piece states that what is left of the printed body is the
  piece's structured program followed by something, and that something is where the next piece starts.
-/
module

public import proofs.«01_k».proof.Proof.K.Body
public import proofs.«01_k».proof.KernelIdeal

@[expose] public section

set_option maxRecDepth 100000

noncomputable section

namespace Cert.KernelIdeal.Sb

open Idealize.ShloMosaic Idealize.SL.Sem Cert.K

variable {F : FTy → Type} [FloatOps F] [Named F] [Facts₀] [Facts]
  (i : grid0.Coords) (arg2 : Memref sig .tc .vmem S256x1536 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .vmem S80 .f32) (harg5 : arg5.IsWhole) (arg6 : Memref sig .tc .vmem S1x16x96x256 .fp8e5m2) (harg6 : arg6.IsWhole) (arg7 : Memref sig .tc .vmem S1x16x256 .f32) (harg7 : arg7.IsWhole) (arg8 : Memref sig .tc .vmem S256x1536 .bf16) (harg8 : arg8.IsWhole) (arg9 : Memref sig .tc .vmem S80 .f32) (harg9 : arg9.IsWhole) (arg10 : Memref sig .tc .vmem S1x16x256 .f32) (harg10 : arg10.IsWhole) (arg11 : Memref sig .tc .vmem S1x16x96x256 .i8) (harg11 : arg11.IsWhole) (arg12 : Memref sig .tc .vmem S1x16x256 .f32) (harg12 : arg12.IsWhole) (arg13 : Memref sig .tc .vmem S128x128 .bf16) (harg13 : arg13.IsWhole) (arg14 : Memref sig .tc .vmem S96x96 .fp8e5m2) (harg14 : arg14.IsWhole) (arg15 : Memref sig .tc .vmem S80x128 .f32) (harg15 : arg15.IsWhole) (arg16 : Memref sig .tc .vmem S80x128 .f32) (harg16 : arg16.IsWhole) (arg17 : Memref sig .tc .vmem S768x256 .f32) (harg17 : arg17.IsWhole) (arg18 : Memref sig .tc .vmem S768x256 .f32) (harg18 : arg18.IsWhole) (arg19 : Memref sig .tc .vmem S2x64x128 .f32) (harg19 : arg19.IsWhole) (arg20 : Memref sig .tc .vmem S768x256 .bf16) (harg20 : arg20.IsWhole) (arg21 : Memref sig .tc .vmem S8x256 .f32) (harg21 : arg21.IsWhole)

/-- The first piece: the program of the first grid point. -/
def c0 :
    {X : Prog (TpuEff nD τ sig (Elt F) Λ₀ .tc) PUnit //
      cc0_rotary_key_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (if firstAt (i 0).val (i 1).val = 1#1 then first else .ret () : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Unit).denoteK fun _ => X} := by
  refine ⟨?X, ?_⟩
  rotate_left
  by_cases h : ¬ (firstAt (i 0).val (i 1).val = 1#1)
  · rw [if_neg h]
    unfold cc0_rotary_key_bwd k0_part371 k0_part1
    rw [dif_neg h]
    rfl
  · rw [not_not] at h
    rw [if_pos h]
    unfold cc0_rotary_key_bwd k0_part371 k0_part1
    rw [dif_pos h]
    rfl

/-- The next piece: `keys`. -/
def c1 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // (c0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (keys 0 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Keys.app X)} := by
  refine ⟨?X, ?_⟩
  rotate_left
  skip
  rfl

/-- The next piece: `grads`. -/
def c2 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (grads 0 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c3 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c4 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c5 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c6 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c7 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c8 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c9 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c10 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c11 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c12 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c13 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c14 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c15 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c16 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c17 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c18 :
    {X : Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro k0 e0 k1 e1 k2 e2 k3 e3 k4 e4 k5 e5
  rfl

/-- The next piece: `reduce`. -/
def c19 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // (c18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (reduce (Named.named κ "inv7" 0x3E124925#32 : F .f32) (k0_off1 i 0#32) (Facts₀.k0_off1_inb i 0) 0 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Red.app X)} := by
  refine ⟨?X, ?_⟩
  rotate_left
  skip
  rfl

/-- The next piece: `quant`. -/
def c20 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 0 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c21 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 1 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c22 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 2 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c23 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 3 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c24 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 4 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c25 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 5 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c26 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 6 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c27 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 7 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c28 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 0 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c29 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 1 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c30 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 2 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c31 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 3 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c32 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 4 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c33 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 5 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c34 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 6 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c35 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 0 7 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `tail`. -/
def c36 :
    {X : Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (tail (Named.named κ "inv7" 0x3E124925#32 : F .f32) (k0_off1 i 0#32) (Facts₀.k0_off1_inb i 0) 0 (by decide) ⟨p0, p1, p2, p3, p4, p5, p6, p7, r0, r1, r2, r3, r4, r5, r6, r7, gs⟩ : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro p0 p1 p2 p3 p4 p5 p6 p7 r0 r1 r2 r3 r4 r5 r6 r7 gs
  rfl

/-- The next piece: `keys`. -/
def c37 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // (c36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (keys 1 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Keys.app X)} := by
  refine ⟨?X, ?_⟩
  rotate_left
  skip
  rfl

/-- The next piece: `grads`. -/
def c38 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (grads 1 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c39 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c40 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c41 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c42 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c43 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c44 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c45 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c46 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 0 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c47 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 0 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c48 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 1 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c49 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 2 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c50 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 3 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c51 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 4 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c52 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 5 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c53 :
    {X : ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16), Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 6 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X k0 e0 k1 e1 k2 e2 k3 e3 k4 e4 k5 e5)} := by
  refine ⟨?X, ?_⟩
  rotate_left
  intro k0 e0 k1 e1 k2 e2 k3 e3 k4 e4 k5 e5
  rfl

/-- The next piece: `rot`. -/
def c54 :
    {X : Prog (TpuEff nD τ sig (Elt F) Λ₀ .tc) PUnit // ∀ (k0 : FVec F Cert.K.S256x128 .bf16) (e0 : FVec F Cert.K.S128x128 .bf16) (k1 : FVec F Cert.K.S256x128 .bf16) (e1 : FVec F Cert.K.S128x128 .bf16) (k2 : FVec F Cert.K.S256x128 .bf16) (e2 : FVec F Cert.K.S128x128 .bf16) (k3 : FVec F Cert.K.S256x128 .bf16) (e3 : FVec F Cert.K.S128x128 .bf16) (k4 : FVec F Cert.K.S256x128 .bf16) (e4 : FVec F Cert.K.S128x128 .bf16) (k5 : FVec F Cert.K.S256x128 .bf16) (e5 : FVec F Cert.K.S128x128 .bf16),
      (c53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 k0 e0 k1 e1 k2 e2 k3 e3 k4 e4 k5 e5 =
      (rot ⟨k0, e0, k1, e1, k2, e2, k3, e3, k4, e4, k5, e5⟩ 7 1 (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro k0 e0 k1 e1 k2 e2 k3 e3 k4 e4 k5 e5
  rfl

/-- The next piece: `reduce`. -/
def c55 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // (c54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 =
      (reduce (Named.named κ "inv7" 0x3E124925#32 : F .f32) (k0_off1 i 8#32) (Facts₀.k0_off1_inb i 1) 1 (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (Red.app X)} := by
  refine ⟨?X, ?_⟩
  rotate_left
  skip
  rfl

/-- The next piece: `quant`. -/
def c56 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 0 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c57 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 1 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c58 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 2 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c59 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 3 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c60 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 4 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c61 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 5 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c62 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 6 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c63 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 7 0 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c64 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 0 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c65 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 1 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c66 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 2 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c67 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 3 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c68 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 4 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c69 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 5 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c70 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 6 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `quant`. -/
def c71 :
    {X : ∀ (p0 p1 p2 p3 p4 p5 p6 p7 r0 r1 r2 r3 r4 r5 r6 r7 : FVec F Cert.K.S1x8x128 .f32) (gs : FVec F Cert.K.S1x8x256 .f32), Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (quant 1 7 1 (by decide) (by decide) (by decide) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X p0 p1 p2 p3 p4 p5 p6 p7 r0 r1 r2 r3 r4 r5 r6 r7 gs)} := by
  refine ⟨?X, ?_⟩
  rotate_left
  intro p0 p1 p2 p3 p4 p5 p6 p7 r0 r1 r2 r3 r4 r5 r6 r7 gs
  rfl

/-- The next piece: `tail`. -/
def c72 :
    {X : Prog (TpuEff nD τ sig (Elt F) Λ₀ .tc) PUnit // ∀ (p0 p1 p2 p3 p4 p5 p6 p7 r0 r1 r2 r3 r4 r5 r6 r7 : FVec F Cert.K.S1x8x128 .f32) (gs : FVec F Cert.K.S1x8x256 .f32),
      (c71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 p0 p1 p2 p3 p4 p5 p6 p7 r0 r1 r2 r3 r4 r5 r6 r7 gs =
      (tail (Named.named κ "inv7" 0x3E124925#32 : F .f32) (k0_off1 i 8#32) (Facts₀.k0_off1_inb i 1) 1 (by decide) ⟨p0, p1, p2, p3, p4, p5, p6, p7, r0, r1, r2, r3, r4, r5, r6, r7, gs⟩ : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _).denoteK (τ := τ) (nD := nD) (Λ := Λ₀) (fun _ => X)} := by
  refine ⟨?X, ?_⟩
  rotate_left
  intro p0 p1 p2 p3 p4 p5 p6 p7 r0 r1 r2 r3 r4 r5 r6 r7 gs
  rfl

end Cert.KernelIdeal.Sb
-- ==== Proof.KernelIdeal.Structured.lean ====
/-
  The printed body of KernelIdeal is the structured one: the pieces put together.
-/
module

public import proofs.«01_k».proof.Proof.K.Body
public import proofs.«01_k».proof.KernelIdeal
public import proofs.«01_k».proof.Proof.KernelIdeal.Pieces

@[expose] public section

set_option maxRecDepth 100000

noncomputable section

namespace Cert.KernelIdeal.Sb

open Idealize.ShloMosaic Idealize.SL.Sem Cert.K

variable {F : FTy → Type} [FloatOps F] [Named F] [Facts₀] [Facts]
  (i : grid0.Coords) (arg2 : Memref sig .tc .vmem S256x1536 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .vmem S80 .f32) (harg5 : arg5.IsWhole) (arg6 : Memref sig .tc .vmem S1x16x96x256 .fp8e5m2) (harg6 : arg6.IsWhole) (arg7 : Memref sig .tc .vmem S1x16x256 .f32) (harg7 : arg7.IsWhole) (arg8 : Memref sig .tc .vmem S256x1536 .bf16) (harg8 : arg8.IsWhole) (arg9 : Memref sig .tc .vmem S80 .f32) (harg9 : arg9.IsWhole) (arg10 : Memref sig .tc .vmem S1x16x256 .f32) (harg10 : arg10.IsWhole) (arg11 : Memref sig .tc .vmem S1x16x96x256 .i8) (harg11 : arg11.IsWhole) (arg12 : Memref sig .tc .vmem S1x16x256 .f32) (harg12 : arg12.IsWhole) (arg13 : Memref sig .tc .vmem S128x128 .bf16) (harg13 : arg13.IsWhole) (arg14 : Memref sig .tc .vmem S96x96 .fp8e5m2) (harg14 : arg14.IsWhole) (arg15 : Memref sig .tc .vmem S80x128 .f32) (harg15 : arg15.IsWhole) (arg16 : Memref sig .tc .vmem S80x128 .f32) (harg16 : arg16.IsWhole) (arg17 : Memref sig .tc .vmem S768x256 .f32) (harg17 : arg17.IsWhole) (arg18 : Memref sig .tc .vmem S768x256 .f32) (harg18 : arg18.IsWhole) (arg19 : Memref sig .tc .vmem S2x64x128 .f32) (harg19 : arg19.IsWhole) (arg20 : Memref sig .tc .vmem S768x256 .bf16) (harg20 : arg20.IsWhole) (arg21 : Memref sig .tc .vmem S8x256 .f32) (harg21 : arg21.IsWhole)

/-- The last piece: the program of the last grid point. -/
theorem end_eq : (c72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 = (if k0_cond2 i = 1#1 then last else .ret () : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Unit).denote := by
  by_cases h : k0_cond2 i = 1#1
  · rw [if_pos h]
    exact (dif_pos h).trans rfl
  · rw [if_neg h]
    exact (dif_neg h).trans rfl

/-- The printed body is the structured one. -/
theorem body_eq : cc0_rotary_key_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 =
    (body (Named.named κ "inv7" 0x3E124925#32 : F .f32) (k0_off1 i 0#32) (k0_off1 i 8#32) (Facts₀.k0_off1_inb i 0) (Facts₀.k0_off1_inb i 1) (firstAt (i 0).val (i 1).val = 1#1) (k0_cond2 i = 1#1) : Cmd F (Ms.of arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Unit).denote := by
  rw [← Cmd.denoteK_ret]
  unfold body oct
  simp only [Cmd.denoteK_bind]
  refine (c0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun _ => ?_))
  refine (c1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨k0, e0, k1, e1, k2, e2, k3, e3, k4, e4, k5, e5⟩ := q
  refine ((c2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine (c19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨p0, p1, p2, p3, p4, p5, p6, p7, r0, r1, r2, r3, r4, r5, r6, r7, gs⟩ := q
  refine ((c20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine (c37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨k0, e0, k1, e1, k2, e2, k3, e3, k4, e4, k5, e5⟩ := q
  refine ((c38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine ((c54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 k0 e0 k1 e1 k2 e2 k3 e3 k4 e4 k5 e5).trans (congrArg (Cmd.denoteK _) (funext fun _ => ?_))
  refine (c55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2.trans (congrArg (Cmd.denoteK _) (funext fun q => ?_))
  obtain ⟨p0, p1, p2, p3, p4, p5, p6, p7, r0, r1, r2, r3, r4, r5, r6, r7, gs⟩ := q
  refine ((c56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  refine ((c72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 p0 p1 p2 p3 p4 p5 p6 p7 r0 r1 r2 r3 r4 r5 r6 r7 gs).trans (congrArg (Cmd.denoteK _) (funext fun _ => ?_))
  rw [Cmd.denoteK_ret]
  exact end_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

end Cert.KernelIdeal.Sb
-- ==== Proof.KernelIdeal.Frame.lean ====
/-
  The frame of KernelIdeal: at every grid point the body runs from any contents of its buffers, and the launch
  leaves the argument arrays as they were.
-/
module

public import proofs.«01_k».proof.Proof.KernelIdeal.Structured
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 100000

noncomputable section

namespace Cert.KernelIdeal.Sb

open Cert.KernelIdeal.Gen Cert.K
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg)

variable {F : FTy → Type} [FloatOps F] [Named F]

local notation "𝕄" => MT nD τ sig Unit (Elt F) ℕ (UR sig nD τ) ℕ

/-- No variants: the body has no unbounded loop. -/
abbrev 𝒱₀ : Variants := Variants.none

/-- The buffers at a grid point: the current staging buffers and the scratch. -/
@[reducible] def mem (t : Fin cfg0.N) : Ms sig :=
  Ms.of (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)

/-- The body at a grid point. -/
def bodyC (t : Fin cfg0.N) : Cmd F (mem t) Unit :=
  body (Named.named κ "inv7" 0x3E124925#32 : F .f32) (k0_off1 (grid0.coords t) 0#32) (k0_off1 (grid0.coords t) 8#32)
    (Facts₀.k0_off1_inb (grid0.coords t) 0) (Facts₀.k0_off1_inb (grid0.coords t) 1)
    (firstAt (grid0.coords t 0).val (grid0.coords t 1).val = 1#1) (k0_cond2 (grid0.coords t) = 1#1)

/-- The body runs from any contents to what the structured body computes. -/
theorem body_sound (c : Dev nD) (E : Set ℕ) (t : Fin cfg0.N) (s : St F) (Q : PUnit → sProp 𝕄) :
    iprop(Cmd.held (mem t) c s ∗ (Cmd.held (mem t) c ((bodyC t).run s).2 -∗ Q ⟨⟩))
      ⊢ wp frame (wpE defs₀ 𝒱₀ (c : Thread nD τ) none) E (bodyAt0 t) Q := by
  have e : (bodyAt0 (F := F) t) = (bodyC t).denote := body_eq _ _ _ _ _ _ _ _ _ _ _ _ _ _ _ _ _ _ _ _ _ _ _ _ _ _ _ _ _ _ _ _ _ _ _ _ _ _ _ _ _
  rw [e]
  exact Cmd.sound 𝒱₀ c none E (bodyC t) s Q

/-- All buffers held, spelled out. -/
theorem held_eq (c : Dev nD) (t : Fin cfg0.N) (s : St F) : (Cmd.held (mem t) c s : sProp 𝕄) =
    iprop(owns (c : Thread nD τ) (st0_0 t) fullShare (s .k) ∗ owns (c : Thread nD τ) (st0_1 t) fullShare (s .cos)
      ∗ owns (c : Thread nD τ) (st0_2 t) fullShare (s .sin) ∗ owns (c : Thread nD τ) (st0_3 t) fullShare (s .al)
      ∗ owns (c : Thread nD τ) (st0_4 t) fullShare (s .g) ∗ owns (c : Thread nD τ) (st0_5 t) fullShare (s .gs)
      ∗ owns (c : Thread nD τ) (st0_6 t) fullShare (s .dk) ∗ owns (c : Thread nD τ) (st0_7 t) fullShare (s .dal)
      ∗ owns (c : Thread nD τ) (st0_8 t) fullShare (s .dtok) ∗ owns (c : Thread nD τ) (st0_9 t) fullShare (s .codes)
      ∗ owns (c : Thread nD τ) (st0_10 t) fullShare (s .s)
      ∗ owns (c : Thread nD τ) (Memref.whole cc0_scratch0) fullShare (s .eb) ∗ owns (c : Thread nD τ) (Memref.whole cc0_scratch1) fullShare (s .ef)
      ∗ owns (c : Thread nD τ) (Memref.whole cc0_scratch2) fullShare (s .ac) ∗ owns (c : Thread nD τ) (Memref.whole cc0_scratch3) fullShare (s .da)
      ∗ owns (c : Thread nD τ) (Memref.whole cc0_scratch4) fullShare (s .kr) ∗ owns (c : Thread nD τ) (Memref.whole cc0_scratch5) fullShare (s .gt)
      ∗ owns (c : Thread nD τ) (Memref.whole cc0_scratch6) fullShare (s .pm) ∗ owns (c : Thread nD τ) (Memref.whole cc0_scratch7) fullShare (s .dkt)
      ∗ owns (c : Thread nD τ) (Memref.whole cc0_scratch8) fullShare (s .inv)) :=
  bigSep_univ_eq_bigSepL Bf.list (by decide) (by decide) _

/-- The contents of the buffers from the eleven staging buffers' and the nine scratch buffers'. -/
def St.of (x0 : (Bf.sh .k).Idx → Elt F (Bf.el .k)) (x1 : (Bf.sh .cos).Idx → Elt F (Bf.el .cos)) (x2 : (Bf.sh .sin).Idx → Elt F (Bf.el .sin))
    (x3 : (Bf.sh .al).Idx → Elt F (Bf.el .al)) (x4 : (Bf.sh .g).Idx → Elt F (Bf.el .g)) (x5 : (Bf.sh .gs).Idx → Elt F (Bf.el .gs))
    (x6 : (Bf.sh .dk).Idx → Elt F (Bf.el .dk)) (x7 : (Bf.sh .dal).Idx → Elt F (Bf.el .dal)) (x8 : (Bf.sh .dtok).Idx → Elt F (Bf.el .dtok))
    (x9 : (Bf.sh .codes).Idx → Elt F (Bf.el .codes)) (x10 : (Bf.sh .s).Idx → Elt F (Bf.el .s))
    (z0 : (Bf.sh .eb).Idx → Elt F (Bf.el .eb)) (z1 : (Bf.sh .ef).Idx → Elt F (Bf.el .ef)) (z2 : (Bf.sh .ac).Idx → Elt F (Bf.el .ac))
    (z3 : (Bf.sh .da).Idx → Elt F (Bf.el .da)) (z4 : (Bf.sh .kr).Idx → Elt F (Bf.el .kr)) (z5 : (Bf.sh .gt).Idx → Elt F (Bf.el .gt))
    (z6 : (Bf.sh .pm).Idx → Elt F (Bf.el .pm)) (z7 : (Bf.sh .dkt).Idx → Elt F (Bf.el .dkt)) (z8 : (Bf.sh .inv).Idx → Elt F (Bf.el .inv)) : St F :=
  fun b => match b with
  | .k => x0 | .cos => x1 | .sin => x2 | .al => x3 | .g => x4 | .gs => x5 | .dk => x6 | .dal => x7 | .dtok => x8 | .codes => x9 | .s => x10
  | .eb => z0 | .ef => z1 | .ac => z2 | .da => z3 | .kr => z4 | .gt => z5 | .pm => z6 | .dkt => z7 | .inv => z8

variable (m : (ℓ : Loc nD τ sig) → Buf (Elt F) ℓ)

/-- The data of the frame: nothing is said of what the body leaves in a staging buffer. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's obligation. -/
theorem obligation (c : Dev nD) : (rdats m c).BodyObligation defs₀ 𝒱₀ () Set.univ := fun t Y _ => by
  show iprop(Pipeline.ΦA spec0 c ∗ (rdats m c).owesAt () t.castSucc ∗ bigSep Finset.univ fun w : Fin 11 => owns (c : Thread nD τ) ((cfg0.win w).stage (cfg0.slots t w)) fullShare (Y w))
    ⊢ wp frame (wpE defs₀ 𝒱₀ (c : Thread nD τ) none) Set.univ (bodyAt0 t) fun _ =>
      iprop(Pipeline.ΦA spec0 c ∗ (rdats m c).owesAt () t.castSucc
        ∗ bigSep Finset.univ fun w : Fin 11 => iprop(∃ X, ⌜True⌝ ∗ owns (c : Thread nD τ) ((cfg0.win w).stage (cfg0.slots t w)) fullShare X))
  rw [bigSep_W0, bigSep_W0]
  unfold Pipeline.ΦA
  rw [scopedRest0_eq]
  iintro ⟨⟨⟨⟨%z0, Z0⟩, ⟨%z1, Z1⟩, ⟨%z2, Z2⟩, ⟨%z3, Z3⟩, ⟨%z4, Z4⟩, ⟨%z5, Z5⟩, ⟨%z6, Z6⟩, ⟨%z7, Z7⟩, ⟨%z8, Z8⟩⟩, HR⟩, HO, H0, H1, H2, H3, H4, H5, H6, H7, H8, H9, H10⟩
  iapply (body_sound c Set.univ t (St.of (Y 0) (Y 1) (Y 2) (Y 3) (Y 4) (Y 5) (Y 6) (Y 7) (Y 8) (Y 9) (Y 10) z0 z1 z2 z3 z4 z5 z6 z7 z8) _)
  rw [held_eq, held_eq]
  simp only [owns_whole]
  isplitl [H0 H1 H2 H3 H4 H5 H6 H7 H8 H9 H10 Z0 Z1 Z2 Z3 Z4 Z5 Z6 Z7 Z8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  iintro ⟨H0, H1, H2, H3, H4, H5, H6, H7, H8, H9, H10, Z0, Z1, Z2, Z3, Z4, Z5, Z6, Z7, Z8⟩
  isplitl [Z0 Z1 Z2 Z3 Z4 Z5 Z6 Z7 Z8 HR]
  · isplitr [HR]
    · isplitl [Z0]; · iexists _; iexact Z0
      isplitl [Z1]; · iexists _; iexact Z1
      isplitl [Z2]; · iexists _; iexact Z2
      isplitl [Z3]; · iexists _; iexact Z3
      isplitl [Z4]; · iexists _; iexact Z4
      isplitl [Z5]; · iexists _; iexact Z5
      isplitl [Z6]; · iexists _; iexact Z6
      isplitl [Z7]; · iexists _; iexact Z7
      iexists _; iexact Z8
    · iexact HR
  isplitl [HO]; · iexact HO
  isplitl [H0]; · iexists _; isplitr; · ipureintro; trivial
                  iexact H0
  isplitl [H1]; · iexists _; isplitr; · ipureintro; trivial
                  iexact H1
  isplitl [H2]; · iexists _; isplitr; · ipureintro; trivial
                  iexact H2
  isplitl [H3]; · iexists _; isplitr; · ipureintro; trivial
                  iexact H3
  isplitl [H4]; · iexists _; isplitr; · ipureintro; trivial
                  iexact H4
  isplitl [H5]; · iexists _; isplitr; · ipureintro; trivial
                  iexact H5
  isplitl [H6]; · iexists _; isplitr; · ipureintro; trivial
                  iexact H6
  isplitl [H7]; · iexists _; isplitr; · ipureintro; trivial
                  iexact H7
  isplitl [H8]; · iexists _; isplitr; · ipureintro; trivial
                  iexact H8
  isplitl [H9]; · iexists _; isplitr; · ipureintro; trivial
                  iexact H9
  iexists _; isplitr; · ipureintro; trivial
  iexact H10

/-- The buffers the host lines after the call write. -/
def tails : Finset (Ref sig .tc) := {main_v6, main_v7, main_v8, main_v9}

/-- The frame claim, with the semaphores at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine RDat.θ_run_frame_around_T cfgs 0 launch0 defs₀ 𝒱₀ (rdats m) tails m ρ main (obligation m) (fun c w => ?_) (fun _ _ => rfl)
    (V0 m) [hostOps1] sfx_sub sfx_fresh sfx_keeps ?_ (hmain m 𝒱₀) (fun _ _ => rfl) (fun _ _ => rfl) _ ?_
  · unfold RDat.share; split <;> rfl
  · intro ops hops op hop b hb
    simp only [List.mem_singleton] at hops
    subst hops
    simp only [hostOps1, List.mem_cons, List.mem_nil_iff, _root_.or_false] at hop
    rcases hop with rfl | rfl | rfl | rfl <;>
      simp only [StableHlo.unary_writes, StableHlo.reshape_writes, Finset.mem_singleton] at hb <;>
      rw [Proc.devRef_injective _ hb] <;> decide
  · rintro r ⟨h, hs⟩
    refine ⟨fun c => ⟨?_, ?_, ?_, ?_, ?_, ?_⟩, hs⟩
    · exact ((h c).2 main_arg0 (Finset.mem_sdiff.2 ⟨Pipeline.mem_restRefs_of main_arg0 (by decide) (by decide), by decide⟩)).trans (V_main_arg0 m c)
    · exact ((h c).2 main_arg1 (Finset.mem_sdiff.2 ⟨Pipeline.mem_restRefs_of main_arg1 (by decide) (by decide), by decide⟩)).trans (V_main_arg1 m c)
    · exact ((h c).2 main_arg2 (Finset.mem_sdiff.2 ⟨Pipeline.mem_restRefs_of main_arg2 (by decide) (by decide), by decide⟩)).trans (V_main_arg2 m c)
    · exact (RDat.FramePostR.arr_in h c 3 rfl).trans (V_main_arg3 m c)
    · exact ((h c).2 main_arg4 (Finset.mem_sdiff.2 ⟨Pipeline.mem_restRefs_of main_arg4 (by decide) (by decide), by decide⟩)).trans (V_main_arg4 m c)
    · exact ((h c).2 main_arg5 (Finset.mem_sdiff.2 ⟨Pipeline.mem_restRefs_of main_arg5 (by decide) (by decide), by decide⟩)).trans (V_main_arg5 m c)

end Cert.KernelIdeal.Sb
-- ==== Proof.K.At.lean ====
/-
  Vectors read at natural-number coordinates, and the operations of the body read there.
-/
module

public import proofs.«01_k».proof.Proof.K.Body
public import Idealize.ShloMosaic.Lib.Pointwise

@[expose] public section

noncomputable section

namespace Cert.K

open Idealize.ShloMosaic

variable {α β : Type}

/-- A vector at a coordinate, taken modulo its size. -/
def a1 {n0 : Nat} [NeZero n0] (x : (⟨1, ![n0]⟩ : Shape).Idx → α) (i : Nat) : α := x (ix1 (Fin.ofNat n0 i))

/-- A matrix at two coordinates, taken modulo its sizes. -/
def a2 {n0 n1 : Nat} [NeZero n0] [NeZero n1] (x : (⟨2, ![n0, n1]⟩ : Shape).Idx → α) (i j : Nat) : α :=
  x (ix2 (Fin.ofNat n0 i) (Fin.ofNat n1 j))

/-- A rank-3 array at three coordinates, taken modulo its sizes. -/
def a3 {n0 n1 n2 : Nat} [NeZero n0] [NeZero n1] [NeZero n2] (x : (⟨3, ![n0, n1, n2]⟩ : Shape).Idx → α) (i j k : Nat) : α :=
  x (ix3 (Fin.ofNat n0 i) (Fin.ofNat n1 j) (Fin.ofNat n2 k))

/-- A rank-4 array at four coordinates, taken modulo its sizes. -/
def a4 {n0 n1 n2 n3 : Nat} [NeZero n0] [NeZero n1] [NeZero n2] [NeZero n3] (x : (⟨4, ![n0, n1, n2, n3]⟩ : Shape).Idx → α) (i j k l : Nat) : α :=
  x (ix4 (Fin.ofNat n0 i) (Fin.ofNat n1 j) (Fin.ofNat n2 k) (Fin.ofNat n3 l))

theorem ofNat_val {n : Nat} [NeZero n] (a : Fin n) : Fin.ofNat n a.val = a := Fin.ext (Nat.mod_eq_of_lt a.isLt)

theorem ofNat_mk {n i : Nat} [NeZero n] (h : i < n) : Fin.ofNat n i = ⟨i, h⟩ := Fin.ext (Nat.mod_eq_of_lt h)

section Read

variable {n0 n1 n2 n3 : Nat} [NeZero n0] [NeZero n1] [NeZero n2] [NeZero n3]

theorem ix1_at (x : (⟨1, ![n0]⟩ : Shape).Idx → α) (a : Fin n0) : x (ix1 a) = a1 x a := by
  unfold a1; rw [ofNat_val]
theorem ix2_at (x : (⟨2, ![n0, n1]⟩ : Shape).Idx → α) (a : Fin n0) (b : Fin n1) : x (ix2 a b) = a2 x a b := by
  unfold a2; rw [ofNat_val, ofNat_val]
theorem ix3_at (x : (⟨3, ![n0, n1, n2]⟩ : Shape).Idx → α) (a : Fin n0) (b : Fin n1) (c : Fin n2) : x (ix3 a b c) = a3 x a b c := by
  unfold a3; rw [ofNat_val, ofNat_val, ofNat_val]
theorem ix4_at (x : (⟨4, ![n0, n1, n2, n3]⟩ : Shape).Idx → α) (a : Fin n0) (b : Fin n1) (c : Fin n2) (d : Fin n3) : x (ix4 a b c d) = a4 x a b c d := by
  unfold a4; rw [ofNat_val, ofNat_val, ofNat_val, ofNat_val]

theorem at1 (x : (⟨1, ![n0]⟩ : Shape).Idx → α) (y : (⟨1, ![n0]⟩ : Shape).Idx) : x y = a1 x (y 0).val :=
  (congrArg x (eq_ix1 y)).trans (ix1_at x (y 0))
theorem at2 (x : (⟨2, ![n0, n1]⟩ : Shape).Idx → α) (y : (⟨2, ![n0, n1]⟩ : Shape).Idx) : x y = a2 x (y 0).val (y 1).val :=
  (congrArg x (eq_ix2 y)).trans (ix2_at x (y 0) (y 1))
theorem at3 (x : (⟨3, ![n0, n1, n2]⟩ : Shape).Idx → α) (y : (⟨3, ![n0, n1, n2]⟩ : Shape).Idx) : x y = a3 x (y 0).val (y 1).val (y 2).val :=
  (congrArg x (eq_ix3 y)).trans (ix3_at x (y 0) (y 1) (y 2))
theorem at4 (x : (⟨4, ![n0, n1, n2, n3]⟩ : Shape).Idx → α) (y : (⟨4, ![n0, n1, n2, n3]⟩ : Shape).Idx) :
    x y = a4 x (y 0).val (y 1).val (y 2).val (y 3).val :=
  (congrArg x (eq_ix4 y)).trans (ix4_at x (y 0) (y 1) (y 2) (y 3))

variable {m0 m1 m2 m3 : Nat} [NeZero m0] [NeZero m1] [NeZero m2] [NeZero m3]

/-- A box of a matrix. -/
theorem a2_idx (x : (⟨2, ![n0, n1]⟩ : Shape).Idx → α) {o0 o1 : Nat} (inb) (i j : Nat) (hi : i < m0) (hj : j < m1) :
    a2 (n0 := m0) (n1 := m1) (fun y => x ((Rect.unit (s := ⟨2, ![n0, n1]⟩) ![o0, o1] ![m0, m1] inb).toLoadRect.idx y)) i j = a2 x (o0 + i) (o1 + j) := by
  unfold a2
  refine congrArg x (funext fun a => ?_)
  have h0 := inb 0
  have h1 := inb 1
  change o0 + m0 ≤ n0 at h0
  change o1 + m1 ≤ n1 at h1
  match a with
  | ⟨0, _⟩ => exact Fin.ext (show o0 + 1 * (i % m0) = (o0 + i) % n0 by rw [Nat.mod_eq_of_lt hi, Nat.mod_eq_of_lt (by omega), Nat.one_mul])
  | ⟨1, _⟩ => exact Fin.ext (show o1 + 1 * (j % m1) = (o1 + j) % n1 by rw [Nat.mod_eq_of_lt hj, Nat.mod_eq_of_lt (by omega), Nat.one_mul])

/-- A box of a rank-3 array. -/
theorem a3_idx (x : (⟨3, ![n0, n1, n2]⟩ : Shape).Idx → α) {o0 o1 o2 : Nat} (inb) (i j k : Nat) (hi : i < m0) (hj : j < m1) (hk : k < m2) :
    a3 (n0 := m0) (n1 := m1) (n2 := m2) (fun y => x ((Rect.unit (s := ⟨3, ![n0, n1, n2]⟩) ![o0, o1, o2] ![m0, m1, m2] inb).toLoadRect.idx y)) i j k
      = a3 x (o0 + i) (o1 + j) (o2 + k) := by
  unfold a3
  refine congrArg x (funext fun a => ?_)
  have h0 := inb 0
  have h1 := inb 1
  have h2 := inb 2
  change o0 + m0 ≤ n0 at h0
  change o1 + m1 ≤ n1 at h1
  change o2 + m2 ≤ n2 at h2
  match a with
  | ⟨0, _⟩ => exact Fin.ext (show o0 + 1 * (i % m0) = (o0 + i) % n0 by rw [Nat.mod_eq_of_lt hi, Nat.mod_eq_of_lt (by omega), Nat.one_mul])
  | ⟨1, _⟩ => exact Fin.ext (show o1 + 1 * (j % m1) = (o1 + j) % n1 by rw [Nat.mod_eq_of_lt hj, Nat.mod_eq_of_lt (by omega), Nat.one_mul])
  | ⟨2, _⟩ => exact Fin.ext (show o2 + 1 * (k % m2) = (o2 + k) % n2 by rw [Nat.mod_eq_of_lt hk, Nat.mod_eq_of_lt (by omega), Nat.one_mul])

/-- A box of a rank-4 array. -/
theorem a4_idx (x : (⟨4, ![n0, n1, n2, n3]⟩ : Shape).Idx → α) {o0 o1 o2 o3 : Nat} (inb) (i j k l : Nat) (hi : i < m0) (hj : j < m1) (hk : k < m2) (hl : l < m3) :
    a4 (n0 := m0) (n1 := m1) (n2 := m2) (n3 := m3) (fun y => x ((Rect.unit (s := ⟨4, ![n0, n1, n2, n3]⟩) ![o0, o1, o2, o3] ![m0, m1, m2, m3] inb).toLoadRect.idx y)) i j k l
      = a4 x (o0 + i) (o1 + j) (o2 + k) (o3 + l) := by
  unfold a4
  refine congrArg x (funext fun a => ?_)
  have h0 := inb 0
  have h1 := inb 1
  have h2 := inb 2
  have h3 := inb 3
  change o0 + m0 ≤ n0 at h0
  change o1 + m1 ≤ n1 at h1
  change o2 + m2 ≤ n2 at h2
  change o3 + m3 ≤ n3 at h3
  match a with
  | ⟨0, _⟩ => exact Fin.ext (show o0 + 1 * (i % m0) = (o0 + i) % n0 by rw [Nat.mod_eq_of_lt hi, Nat.mod_eq_of_lt (by omega), Nat.one_mul])
  | ⟨1, _⟩ => exact Fin.ext (show o1 + 1 * (j % m1) = (o1 + j) % n1 by rw [Nat.mod_eq_of_lt hj, Nat.mod_eq_of_lt (by omega), Nat.one_mul])
  | ⟨2, _⟩ => exact Fin.ext (show o2 + 1 * (k % m2) = (o2 + k) % n2 by rw [Nat.mod_eq_of_lt hk, Nat.mod_eq_of_lt (by omega), Nat.one_mul])
  | ⟨3, _⟩ => exact Fin.ext (show o3 + 1 * (l % m3) = (o3 + l) % n3 by rw [Nat.mod_eq_of_lt hl, Nat.mod_eq_of_lt (by omega), Nat.one_mul])

/-! ### Stores: a box is overwritten by a function of the coordinates -/

/-- A matrix with the coordinates in `R` at `f`. -/
def u2 (x : (⟨2, ![n0, n1]⟩ : Shape).Idx → α) (R : Nat → Nat → Prop) (f : Nat → Nat → α) : (⟨2, ![n0, n1]⟩ : Shape).Idx → α :=
  open Classical in fun y => if R (y 0).val (y 1).val then f (y 0).val (y 1).val else x y
/-- A rank-3 array with the coordinates in `R` at `f`. -/
def u3 (x : (⟨3, ![n0, n1, n2]⟩ : Shape).Idx → α) (R : Nat → Nat → Nat → Prop) (f : Nat → Nat → Nat → α) : (⟨3, ![n0, n1, n2]⟩ : Shape).Idx → α :=
  open Classical in fun y => if R (y 0).val (y 1).val (y 2).val then f (y 0).val (y 1).val (y 2).val else x y
/-- A rank-4 array with the coordinates in `R` at `f`. -/
def u4 (x : (⟨4, ![n0, n1, n2, n3]⟩ : Shape).Idx → α) (R : Nat → Nat → Nat → Nat → Prop) (f : Nat → Nat → Nat → Nat → α) :
    (⟨4, ![n0, n1, n2, n3]⟩ : Shape).Idx → α :=
  open Classical in fun y => if R (y 0).val (y 1).val (y 2).val (y 3).val then f (y 0).val (y 1).val (y 2).val (y 3).val else x y

theorem u2_u2 (x : (⟨2, ![n0, n1]⟩ : Shape).Idx → α) (R R' : Nat → Nat → Prop) (f : Nat → Nat → α) :
    u2 (u2 x R f) R' f = u2 x (fun i j => R i j ∨ R' i j) f := by
  funext y; unfold u2; by_cases h : R (y 0).val (y 1).val <;> by_cases h' : R' (y 0).val (y 1).val <;> simp [h, h']
theorem u3_u3 (x : (⟨3, ![n0, n1, n2]⟩ : Shape).Idx → α) (R R' : Nat → Nat → Nat → Prop) (f : Nat → Nat → Nat → α) :
    u3 (u3 x R f) R' f = u3 x (fun i j k => R i j k ∨ R' i j k) f := by
  funext y; unfold u3; by_cases h : R (y 0).val (y 1).val (y 2).val <;> by_cases h' : R' (y 0).val (y 1).val (y 2).val <;> simp [h, h']
theorem u4_u4 (x : (⟨4, ![n0, n1, n2, n3]⟩ : Shape).Idx → α) (R R' : Nat → Nat → Nat → Nat → Prop) (f : Nat → Nat → Nat → Nat → α) :
    u4 (u4 x R f) R' f = u4 x (fun i j k l => R i j k l ∨ R' i j k l) f := by
  funext y; unfold u4; by_cases h : R (y 0).val (y 1).val (y 2).val (y 3).val <;> by_cases h' : R' (y 0).val (y 1).val (y 2).val (y 3).val <;> simp [h, h']

theorem u2_congr (x : (⟨2, ![n0, n1]⟩ : Shape).Idx → α) {R R' : Nat → Nat → Prop} (f : Nat → Nat → α)
    (h : ∀ i j, i < n0 → j < n1 → (R i j ↔ R' i j)) : u2 x R f = u2 x R' f := by
  classical
  funext y; unfold u2; exact if_congr (h _ _ (y 0).isLt (y 1).isLt) rfl rfl
theorem u3_congr (x : (⟨3, ![n0, n1, n2]⟩ : Shape).Idx → α) {R R' : Nat → Nat → Nat → Prop} (f : Nat → Nat → Nat → α)
    (h : ∀ i j k, i < n0 → j < n1 → k < n2 → (R i j k ↔ R' i j k)) : u3 x R f = u3 x R' f := by
  classical
  funext y; unfold u3; exact if_congr (h _ _ _ (y 0).isLt (y 1).isLt (y 2).isLt) rfl rfl
theorem u4_congr (x : (⟨4, ![n0, n1, n2, n3]⟩ : Shape).Idx → α) {R R' : Nat → Nat → Nat → Nat → Prop} (f : Nat → Nat → Nat → Nat → α)
    (h : ∀ i j k l, i < n0 → j < n1 → k < n2 → l < n3 → (R i j k l ↔ R' i j k l)) : u4 x R f = u4 x R' f := by
  classical
  funext y; unfold u4; exact if_congr (h _ _ _ _ (y 0).isLt (y 1).isLt (y 2).isLt (y 3).isLt) rfl rfl

theorem a2_u2 (x : (⟨2, ![n0, n1]⟩ : Shape).Idx → α) {R : Nat → Nat → Prop} (f : Nat → Nat → α) (i j : Nat) (hi : i < n0) (hj : j < n1)
    (h : R i j) : a2 (u2 x R f) i j = f i j := by
  have ei : i % n0 = i := Nat.mod_eq_of_lt hi
  have ej : j % n1 = j := Nat.mod_eq_of_lt hj
  classical
  show (if R (i % n0) (j % n1) then f (i % n0) (j % n1) else _) = _
  rw [ei, ej, if_pos h]
theorem a3_u3 (x : (⟨3, ![n0, n1, n2]⟩ : Shape).Idx → α) {R : Nat → Nat → Nat → Prop} (f : Nat → Nat → Nat → α) (i j k : Nat) (hi : i < n0) (hj : j < n1) (hk : k < n2)
    (h : R i j k) : a3 (u3 x R f) i j k = f i j k := by
  have ei : i % n0 = i := Nat.mod_eq_of_lt hi
  have ej : j % n1 = j := Nat.mod_eq_of_lt hj
  have ek : k % n2 = k := Nat.mod_eq_of_lt hk
  classical
  show (if R (i % n0) (j % n1) (k % n2) then f (i % n0) (j % n1) (k % n2) else _) = _
  rw [ei, ej, ek, if_pos h]
theorem a4_u4 (x : (⟨4, ![n0, n1, n2, n3]⟩ : Shape).Idx → α) {R : Nat → Nat → Nat → Nat → Prop} (f : Nat → Nat → Nat → Nat → α) (i j k l : Nat)
    (hi : i < n0) (hj : j < n1) (hk : k < n2) (hl : l < n3) (h : R i j k l) : a4 (u4 x R f) i j k l = f i j k l := by
  have ei : i % n0 = i := Nat.mod_eq_of_lt hi
  have ej : j % n1 = j := Nat.mod_eq_of_lt hj
  have ek : k % n2 = k := Nat.mod_eq_of_lt hk
  have el : l % n3 = l := Nat.mod_eq_of_lt hl
  classical
  show (if R (i % n0) (j % n1) (k % n2) (l % n3) then f (i % n0) (j % n1) (k % n2) (l % n3) else _) = _
  rw [ei, ej, ek, el, if_pos h]

/-- The coordinates from `o` on, `m` of them. -/
abbrev In (o m i : Nat) : Prop := o ≤ i ∧ i < o + m

theorem put2 (x : (⟨2, ![n0, n1]⟩ : Shape).Idx → α) (o0 o1 : Nat) (w : (⟨2, ![m0, m1]⟩ : Shape).Idx → α) (f : Nat → Nat → α)
    (hw : ∀ i j, i < m0 → j < m1 → a2 w i j = f (o0 + i) (o1 + j)) :
    VecWindow.put (s := ⟨2, ![n0, n1]⟩) x ![o0, o1] ![m0, m1] w = u2 x (fun i j => In o0 m0 i ∧ In o1 m1 j) f := by
  funext y
  by_cases h : ∀ a : Fin 2, (![o0, o1] : Fin 2 → Nat) a ≤ (y a).val ∧ (y a).val < (![o0, o1] : Fin 2 → Nat) a + (![m0, m1] : Fin 2 → Nat) a
  · have h0 : In o0 m0 (y 0).val := h 0
    have h1 : In o1 m1 (y 1).val := h 1
    refine (dif_pos h).trans (Eq.trans ?_ (if_pos (c := In o0 m0 (y 0).val ∧ In o1 m1 (y 1).val) ⟨h0, h1⟩).symm)
    refine (at2 w _).trans ?_
    have e := hw ((y 0).val - o0) ((y 1).val - o1) (by omega) (by omega)
    rw [show o0 + ((y 0).val - o0) = (y 0).val by omega, show o1 + ((y 1).val - o1) = (y 1).val by omega] at e
    exact e
  · refine (dif_neg h).trans (if_neg (c := In o0 m0 (y 0).val ∧ In o1 m1 (y 1).val) (fun hh => h fun a => ?_)).symm
    match a with
    | ⟨0, _⟩ => exact hh.1
    | ⟨1, _⟩ => exact hh.2

theorem put3 (x : (⟨3, ![n0, n1, n2]⟩ : Shape).Idx → α) (o0 o1 o2 : Nat) (w : (⟨3, ![m0, m1, m2]⟩ : Shape).Idx → α) (f : Nat → Nat → Nat → α)
    (hw : ∀ i j k, i < m0 → j < m1 → k < m2 → a3 w i j k = f (o0 + i) (o1 + j) (o2 + k)) :
    VecWindow.put (s := ⟨3, ![n0, n1, n2]⟩) x ![o0, o1, o2] ![m0, m1, m2] w = u3 x (fun i j k => In o0 m0 i ∧ In o1 m1 j ∧ In o2 m2 k) f := by
  funext y
  by_cases h : ∀ a : Fin 3, (![o0, o1, o2] : Fin 3 → Nat) a ≤ (y a).val ∧ (y a).val < (![o0, o1, o2] : Fin 3 → Nat) a + (![m0, m1, m2] : Fin 3 → Nat) a
  · have h0 : In o0 m0 (y 0).val := h 0
    have h1 : In o1 m1 (y 1).val := h 1
    have h2 : In o2 m2 (y 2).val := h 2
    refine (dif_pos h).trans (Eq.trans ?_ (if_pos (c := In o0 m0 (y 0).val ∧ In o1 m1 (y 1).val ∧ In o2 m2 (y 2).val) ⟨h0, h1, h2⟩).symm)
    refine (at3 w _).trans ?_
    have e := hw ((y 0).val - o0) ((y 1).val - o1) ((y 2).val - o2) (by omega) (by omega) (by omega)
    rw [show o0 + ((y 0).val - o0) = (y 0).val by omega, show o1 + ((y 1).val - o1) = (y 1).val by omega,
      show o2 + ((y 2).val - o2) = (y 2).val by omega] at e
    exact e
  · refine (dif_neg h).trans (if_neg (c := In o0 m0 (y 0).val ∧ In o1 m1 (y 1).val ∧ In o2 m2 (y 2).val) (fun hh => h fun a => ?_)).symm
    match a with
    | ⟨0, _⟩ => exact hh.1
    | ⟨1, _⟩ => exact hh.2.1
    | ⟨2, _⟩ => exact hh.2.2

theorem put4 (x : (⟨4, ![n0, n1, n2, n3]⟩ : Shape).Idx → α) (o0 o1 o2 o3 : Nat) (w : (⟨4, ![m0, m1, m2, m3]⟩ : Shape).Idx → α) (f : Nat → Nat → Nat → Nat → α)
    (hw : ∀ i j k l, i < m0 → j < m1 → k < m2 → l < m3 → a4 w i j k l = f (o0 + i) (o1 + j) (o2 + k) (o3 + l)) :
    VecWindow.put (s := ⟨4, ![n0, n1, n2, n3]⟩) x ![o0, o1, o2, o3] ![m0, m1, m2, m3] w
      = u4 x (fun i j k l => In o0 m0 i ∧ In o1 m1 j ∧ In o2 m2 k ∧ In o3 m3 l) f := by
  funext y
  by_cases h : ∀ a : Fin 4, (![o0, o1, o2, o3] : Fin 4 → Nat) a ≤ (y a).val ∧ (y a).val < (![o0, o1, o2, o3] : Fin 4 → Nat) a + (![m0, m1, m2, m3] : Fin 4 → Nat) a
  · have h0 : In o0 m0 (y 0).val := h 0
    have h1 : In o1 m1 (y 1).val := h 1
    have h2 : In o2 m2 (y 2).val := h 2
    have h3 : In o3 m3 (y 3).val := h 3
    refine (dif_pos h).trans (Eq.trans ?_ (if_pos (c := In o0 m0 (y 0).val ∧ In o1 m1 (y 1).val ∧ In o2 m2 (y 2).val ∧ In o3 m3 (y 3).val) ⟨h0, h1, h2, h3⟩).symm)
    refine (at4 w _).trans ?_
    have e := hw ((y 0).val - o0) ((y 1).val - o1) ((y 2).val - o2) ((y 3).val - o3) (by omega) (by omega) (by omega) (by omega)
    rw [show o0 + ((y 0).val - o0) = (y 0).val by omega, show o1 + ((y 1).val - o1) = (y 1).val by omega,
      show o2 + ((y 2).val - o2) = (y 2).val by omega, show o3 + ((y 3).val - o3) = (y 3).val by omega] at e
    exact e
  · refine (dif_neg h).trans (if_neg (c := In o0 m0 (y 0).val ∧ In o1 m1 (y 1).val ∧ In o2 m2 (y 2).val ∧ In o3 m3 (y 3).val) (fun hh => h fun a => ?_)).symm
    match a with
    | ⟨0, _⟩ => exact hh.1
    | ⟨1, _⟩ => exact hh.2.1
    | ⟨2, _⟩ => exact hh.2.2.1
    | ⟨3, _⟩ => exact hh.2.2.2

end Read

/-! ### Shape operations -/

theorem sc_self {s : Shape} (x : s.Idx → α) (h) : shapeCast s x h = x := by
  funext y; pointwise

theorem sc_8x128 (x : S1x8x128.Idx → α) (h) (i j : Nat) : a2 (n0 := 8) (n1 := 128) (shapeCast S8x128 x h) i j = a3 (n0 := 1) (n1 := 8) (n2 := 128) x 0 i j := by
  unfold a2 a3; pointwise; congr 1

theorem sc_1x8x128 (x : S8x128.Idx → α) (h) (i j : Nat) : a3 (n0 := 1) (n1 := 8) (n2 := 128) (shapeCast S1x8x128 x h) 0 i j = a2 (n0 := 8) (n1 := 128) x i j := by
  unfold a2 a3; pointwise

theorem sc_16x128 (x : S1x16x128.Idx → α) (h) (i j : Nat) : a2 (n0 := 16) (n1 := 128) (shapeCast S16x128 x h) i j = a3 (n0 := 1) (n1 := 16) (n2 := 128) x 0 i j := by
  unfold a2 a3; pointwise; congr 1

theorem sc_1x128 (x : S1x1x128.Idx → α) (h) (j : Nat) : a2 (n0 := 1) (n1 := 128) (shapeCast S1x128 x h) 0 j = a3 (n0 := 1) (n1 := 1) (n2 := 128) x 0 0 j := by
  unfold a2 a3; pointwise; congr 1

theorem sc_8x256 (x : S1x8x256.Idx → α) (h) (i j : Nat) : a2 (n0 := 8) (n1 := 256) (shapeCast S8x256 x h) i j = a3 (n0 := 1) (n1 := 8) (n2 := 256) x 0 i j := by
  unfold a2 a3; pointwise; congr 1

theorem sc_1x8x256 (x : S8x256.Idx → α) (h) (i j : Nat) : a3 (n0 := 1) (n1 := 8) (n2 := 256) (shapeCast S1x8x256 x h) 0 i j = a2 (n0 := 8) (n1 := 256) x i j := by
  unfold a2 a3; pointwise

theorem sc_32x128 (x : S1x1x32x128.Idx → α) (h) (i j : Nat) : a2 (n0 := 32) (n1 := 128) (shapeCast S32x128 x h) i j = a4 (n0 := 1) (n1 := 1) (n2 := 32) (n3 := 128) x 0 0 i j := by
  unfold a2 a4; pointwise; congr 1

theorem sc_1x1x32x128 (x : S32x128.Idx → α) (h) (i j : Nat) : a4 (n0 := 1) (n1 := 1) (n2 := 32) (n3 := 128) (shapeCast S1x1x32x128 x h) 0 0 i j = a2 (n0 := 32) (n1 := 128) x i j := by
  unfold a2 a4; pointwise

theorem sc_96x256 (x : S1x1x96x256.Idx → α) (h) (i j : Nat) : a2 (n0 := 96) (n1 := 256) (shapeCast S96x256 x h) i j = a4 (n0 := 1) (n1 := 1) (n2 := 96) (n3 := 256) x 0 0 i j := by
  unfold a2 a4; pointwise; congr 1

theorem slice2 {n0 n1 m0 m1 : Nat} [NeZero n0] [NeZero n1] [NeZero m0] [NeZero m1] (x : (⟨2, ![n0, n1]⟩ : Shape).Idx → α) {o0 o1 : Nat} (h)
    (h0 : o0 + m0 ≤ n0) (h1 : o1 + m1 ≤ n1) (i j : Nat) (hi : i < m0) (hj : j < m1) :
    a2 (n0 := m0) (n1 := m1) (extractStridedSlice ⟨2, ![m0, m1]⟩ ![o0, o1] x h) i j = a2 x (o0 + i) (o1 + j) := by
  unfold a2
  refine congrArg x (funext fun a => ?_)
  match a with
  | ⟨0, _⟩ => exact Fin.ext (show o0 + (i % m0) = (o0 + i) % n0 by rw [Nat.mod_eq_of_lt hi, Nat.mod_eq_of_lt (by omega)])
  | ⟨1, _⟩ => exact Fin.ext (show o1 + (j % m1) = (o1 + j) % n1 by rw [Nat.mod_eq_of_lt hj, Nat.mod_eq_of_lt (by omega)])

theorem row_8x128 (x : S1x128.Idx → α) (h) (i j : Nat) : a2 (n0 := 8) (n1 := 128) (broadcastTo S8x128 x h) i j = a2 (n0 := 1) (n1 := 128) x 0 j := by
  unfold a2; pointwise; congr 1

theorem row_16x128 (x : S1x128.Idx → α) (h) (i j : Nat) : a2 (n0 := 16) (n1 := 128) (broadcastTo S16x128 x h) i j = a2 (n0 := 1) (n1 := 128) x 0 j := by
  unfold a2; pointwise; congr 1

theorem turn (x : S128x128.Idx → α) (h) (i j : Nat) : a2 (n0 := 128) (n1 := 128) (transpose S128x128 [1, 0] x h) i j = a2 (n0 := 128) (n1 := 128) x j i := by
  unfold a2; pointwise

theorem beside_at {F : FTy → Type} (x y : FVec F S8x128 .f32) (i j : Nat) (hj : j < 256) :
    a2 (n0 := 8) (n1 := 256) (beside x y) i j = if j < 128 then a2 (n0 := 8) (n1 := 128) x i j else a2 (n0 := 8) (n1 := 128) y i (j - 128) := by
  unfold a2 beside
  pointwise
  have e : j % 256 = j := Nat.mod_eq_of_lt hj
  simp only [Fin.val_ofNat, e]
  split
  · congr 1; congr 1; apply Fin.ext; simp; omega
  · congr 1; congr 1; apply Fin.ext; simp; omega

theorem two_at {F : FTy → Type} (x y : FVec F S8x128 .f32) (i j : Nat) (hi : i < 16) :
    a2 (n0 := 16) (n1 := 128) (two x y) i j = if i < 8 then a2 (n0 := 8) (n1 := 128) x i j else a2 (n0 := 8) (n1 := 128) y (i - 8) j := by
  unfold a2 two
  pointwise
  have e : i % 16 = i := Nat.mod_eq_of_lt hi
  simp only [Fin.val_ofNat, e]
  split
  · congr 1; congr 1; apply Fin.ext; simp; omega
  · congr 1; congr 1; apply Fin.ext; simp; omega

theorem four_at {F : FTy → Type} (x y z w : FVec F S8x128 .f32) (i j : Nat) (hi : i < 32) :
    a2 (n0 := 32) (n1 := 128) (concatenate S32x128 0 [⟨S8x128, x⟩, ⟨S8x128, y⟩, ⟨S8x128, z⟩, ⟨S8x128, w⟩] conc32) i j
      = if i < 8 then a2 (n0 := 8) (n1 := 128) x i j else if i < 16 then a2 (n0 := 8) (n1 := 128) y (i - 8) j
        else if i < 24 then a2 (n0 := 8) (n1 := 128) z (i - 16) j else a2 (n0 := 8) (n1 := 128) w (i - 24) j := by
  unfold a2
  pointwise
  have e : i % 32 = i := Nat.mod_eq_of_lt hi
  simp only [Fin.val_ofNat, e]
  split
  · congr 1; congr 1; apply Fin.ext; simp; omega
  · split
    · refine Eq.trans ?_ (if_pos (by omega)).symm
      congr 1; congr 1; apply Fin.ext; simp; omega
    · refine Eq.trans ?_ (if_neg (by omega)).symm
      split
      · refine Eq.trans ?_ (if_pos (by omega)).symm
        congr 1; congr 1; apply Fin.ext; simp; omega
      · refine Eq.trans ?_ (if_neg (by omega)).symm
        congr 1; congr 1; apply Fin.ext; simp; omega

end Cert.K
-- ==== Proof.K.Point.lean ====
/-
  What the body computes at one grid point, as functions of natural-number coordinates over the extended reals.
-/
module

public import proofs.«01_k».proof.Proof.K.At

@[expose] public section

noncomputable section

namespace Cert.K

open Idealize.ShloMosaic

/-- The inputs of a grid point: the keys by position and column, the rotation by coordinate and position, the gradient codes by head,
    coordinate and position, the gradient scales by head and position, the step parameter by head, and the constant one seventh. -/
structure Pt where
  /-- keys -/
  K : Nat → Nat → EReal
  /-- cosines -/
  C : Nat → Nat → EReal
  /-- sines -/
  S : Nat → Nat → EReal
  /-- gradient codes -/
  G : Nat → Nat → Nat → EReal
  /-- gradient scales -/
  GS : Nat → Nat → EReal
  /-- step parameter -/
  AL : Nat → EReal
  /-- one seventh -/
  c7 : EReal

/-- The absolute value. -/
def eabs (x : EReal) : EReal := max x (-x)

/-- Eight values joined pairwise. -/
def tree8 (f : EReal → EReal → EReal) (v : Nat → EReal) : EReal :=
  f (f (f (v 0) (v 1)) (f (v 2) (v 3))) (f (f (v 4) (v 5)) (f (v 6) (v 7)))

/-- Twelve values added in order. -/
def chain12 (v : Nat → EReal) : EReal :=
  v 0 + v 1 + v 2 + v 3 + v 4 + v 5 + v 6 + v 7 + v 8 + v 9 + v 10 + v 11

/-- Six pairs of values, the running maximum. -/
def max12 (a b : Nat → EReal) : EReal :=
  max (max (max (max (max (max (max (max (max (max (max (a 0) (b 0)) (a 1)) (b 1)) (a 2)) (b 2)) (a 3)) (b 3)) (a 4)) (b 4)) (a 5)) (b 5)

namespace Pt

variable (P : Pt)

/-- A key of oct `o` by row and position. -/
def X (o row p : Nat) : EReal := P.K p (768 * o + row)

/-- The rotated keys. -/
def KR (o row p : Nat) : EReal :=
  if row % 96 < 48 then P.X o row p * P.C (row % 96) p - P.X o (row + 48) p * P.S (row % 96) p
  else P.X o row p * P.C (row % 96 - 48) p + P.X o (row - 48) p * P.S (row % 96 - 48) p

/-- The partial maxima: of lane tile `lt`, row eight times the head plus the residue. -/
def PM1 (o lt row l : Nat) : EReal :=
  max12 (fun j => eabs (P.KR o (96 * (row / 8) + 8 * j + row % 8) (128 * lt + l)))
    (fun j => eabs (P.KR o (96 * (row / 8) + 48 + 8 * j + row % 8) (128 * lt + l)))

/-- The largest absolute value. -/
def AM (o h p : Nat) : EReal := tree8 max fun i => P.PM1 o (p / 128) (8 * h + i) (p % 128)

/-- The scale. -/
def SC (o h p : Nat) : EReal := if P.AM o h p = 0 then 1 else P.AL (8 * o + h) * P.AM o h p * P.c7

/-- The reciprocal of the scale. -/
def INV (o h p : Nat) : EReal := Ideal.div 1 (P.SC o h p)

/-- The scaled keys. -/
def R (o row p : Nat) : EReal := P.KR o row p * P.INV o (row / 96) p

/-- The scaled keys, clipped. -/
def RC (o row p : Nat) : EReal := min (Ideal.ofBits .f32 0x40E00000#32) (max (Ideal.ofBits .f32 0xC0E00000#32) (P.R o row p))

/-- The codes. -/
def CD (o row p : Nat) : BitVec 8 :=
  FloatOps.fptosi (F := Ideal) (φ := .f32) 8 (FloatOps.roundeven (F := Ideal) (φ := .f32) (P.RC o row p))

/-- The gradient codes by row. -/
def GT (o row p : Nat) : EReal := P.G (8 * o + row / 96) (row % 96) p

/-- The gradient codes where nothing was clipped. -/
def GI (o row p : Nat) : EReal := if P.R o row p = P.RC o row p then P.GT o row p else 0

/-- A code times its gradient code. -/
def CG (o row p : Nat) : EReal := (FloatOps.sitofp (F := Ideal) .bf16 (P.CD o row p) : EReal) * P.GT o row p

/-- The partial sums of the step gradient. -/
def PM2 (o lt row l : Nat) : EReal :=
  chain12 (fun j => P.CG o (96 * (row / 8) + 8 * j + row % 8) (128 * lt + l))
    - chain12 (fun j => P.GI o (96 * (row / 8) + 8 * j + row % 8) (128 * lt + l) * P.R o (96 * (row / 8) + 8 * j + row % 8) (128 * lt + l))

/-- The step gradient by head and position. -/
def D8 (o h p : Nat) : EReal :=
  tree8 (· + ·) (fun i => P.PM2 o (p / 128) (8 * h + i) (p % 128)) * P.GS (8 * o + h) p * (P.AM o h p * P.c7)

/-- The key gradient by row and position. -/
def DK (o row p : Nat) : EReal :=
  if row % 96 < 48 then (P.GI o row p * P.C (row % 96) p + P.GI o (row + 48) p * P.S (row % 96) p) * P.GS (8 * o + row / 96) p
  else (P.GI o row p * P.C (row % 96 - 48) p - P.GI o (row - 48) p * P.S (row % 96 - 48) p) * P.GS (8 * o + row / 96) p

end Pt

/-! ### Pointwise operations at coordinates -/

section Ops

variable {n0 n1 : Nat} [NeZero n0] [NeZero n1] {φ ψ : FTy}

theorem a2_mulf (x y : FVec Ideal ⟨2, ![n0, n1]⟩ φ) (i j : Nat) : (a2 (mulf x y) i j : EReal) = (a2 x i j : EReal) * (a2 y i j : EReal) := rfl
theorem a2_addf (x y : FVec Ideal ⟨2, ![n0, n1]⟩ φ) (i j : Nat) : (a2 (addf x y) i j : EReal) = (a2 x i j : EReal) + (a2 y i j : EReal) := rfl
theorem a2_subf (x y : FVec Ideal ⟨2, ![n0, n1]⟩ φ) (i j : Nat) : (a2 (subf x y) i j : EReal) = (a2 x i j : EReal) - (a2 y i j : EReal) := rfl
theorem a2_divf (x y : FVec Ideal ⟨2, ![n0, n1]⟩ φ) (i j : Nat) : (a2 (divf x y) i j : EReal) = Ideal.div (a2 x i j : EReal) (a2 y i j : EReal) := rfl
theorem a2_maximumf (x y : FVec Ideal ⟨2, ![n0, n1]⟩ φ) (i j : Nat) : (a2 (maximumf x y) i j : EReal) = max (a2 x i j : EReal) (a2 y i j : EReal) := rfl
theorem a2_minimumf (x y : FVec Ideal ⟨2, ![n0, n1]⟩ φ) (i j : Nat) : (a2 (minimumf x y) i j : EReal) = min (a2 x i j : EReal) (a2 y i j : EReal) := rfl
theorem a2_absf (x : FVec Ideal ⟨2, ![n0, n1]⟩ φ) (i j : Nat) : (a2 (absf x) i j : EReal) = eabs (a2 x i j : EReal) := rfl
theorem a2_truncf (x : FVec Ideal ⟨2, ![n0, n1]⟩ φ) (h) (i j : Nat) : (a2 (truncf ψ x h) i j : EReal) = (a2 x i j : EReal) := rfl
theorem a2_extf (x : FVec Ideal ⟨2, ![n0, n1]⟩ φ) (h) (i j : Nat) : (a2 (extf ψ x h) i j : EReal) = (a2 x i j : EReal) := rfl
theorem a2_broadcast (x : EReal) (i j : Nat) : (a2 (n0 := n0) (n1 := n1) (broadcast ⟨2, ![n0, n1]⟩ x) i j : EReal) = x := rfl
theorem a2_select_oeq (x y : FVec Ideal ⟨2, ![n0, n1]⟩ φ) (a b : FVec Ideal ⟨2, ![n0, n1]⟩ ψ) (i j : Nat) :
    (a2 (select (cmpf .oeq x y) a b) i j : EReal) = if (a2 x i j : EReal) = (a2 y i j : EReal) then (a2 a i j : EReal) else (a2 b i j : EReal) := by
  by_cases h : (a2 x i j : EReal) = (a2 y i j : EReal)
  · rw [if_pos h]
    show (if BitVec.ofBool (decide ((a2 x i j : EReal) = (a2 y i j : EReal))) = 1#1 then (a2 a i j : EReal) else (a2 b i j : EReal)) = _
    rw [decide_eq_true h]; rfl
  · rw [if_neg h]
    show (if BitVec.ofBool (decide ((a2 x i j : EReal) = (a2 y i j : EReal))) = 1#1 then (a2 a i j : EReal) else (a2 b i j : EReal)) = _
    rw [decide_eq_false h]; rfl

end Ops

end Cert.K
-- ==== Proof.K.Rot.lean ====
/-
  The first half of an oct at the ideal instance: the keys loaded and turned, the gradient codes copied, the keys rotated, and their
  partial maxima.
-/
module

public import proofs.«01_k».proof.Proof.K.Point

@[expose] public section

noncomputable section

namespace Cert.K

open Idealize.ShloMosaic Cmd

variable {sig : RefSig} {M : Ms sig} {α : Type}

theorem St.set_set {F : FTy → Type} (s : St F) (b : Bf) (x y : b.sh.Idx → Elt F b.el) : (s.set b x).set b y = s.set b y :=
  Function.update_idem ..

theorem St.set_eq {F : FTy → Type} (s : St F) (b : Bf) {x y : b.sh.Idx → Elt F b.el} (h : x = y) : s.set b x = s.set b y := by rw [h]

/-- A program after another whose run is known. -/
theorem run_bind_of {F : FTy → Type} {β : Type} {x : Cmd F M α} {a : α} {s s' : St F} (h : x.run s = (a, s')) (f : α → Cmd F M β) :
    (x.bind f).run s = (f a).run s' := by rw [run_bind, h]

/-- What the buffers of the inputs hold, for oct `o`. -/
structure Inp (P : Pt) (o : Nat) (s : St Ideal) : Prop where
  /-- cosines -/
  cos : ∀ d p, d < 48 → p < 256 → (a3 (n0 := 1) (n1 := 48) (n2 := 256) (s .cos) 0 d p : EReal) = P.C d p
  /-- sines -/
  sin : ∀ d p, d < 48 → p < 256 → (a3 (n0 := 1) (n1 := 48) (n2 := 256) (s .sin) 0 d p : EReal) = P.S d p
  /-- keys -/
  k : ∀ p c, p < 256 → c < 1536 → (a2 (n0 := 256) (n1 := 1536) (s .k) p c : EReal) = P.K p c
  /-- gradient codes -/
  g : ∀ h d p, h < 16 → d < 96 → p < 256 → (a4 (n0 := 1) (n1 := 16) (n2 := 96) (n3 := 256) (s .g) 0 h d p : EReal) = P.G h d p
  /-- gradient scales -/
  gs : ∀ h p, h < 16 → p < 256 → (a3 (n0 := 1) (n1 := 16) (n2 := 256) (s .gs) 0 h p : EReal) = P.GS h p
  /-- the identity for the keys -/
  eb : ∀ i j, i < 128 → j < 128 → (a2 (n0 := 128) (n1 := 128) (s .eb) i j : EReal) = if i = j then 1 else 0
  /-- the identity for the gradient codes -/
  ef : ∀ i j, i < 96 → j < 96 → (a2 (n0 := 96) (n1 := 96) (s .ef) i j : EReal) = if i = j then 1 else 0

variable {P : Pt} {o : Nat} {s : St Ideal}

/-- The inputs are the same after a store elsewhere. -/
theorem Inp.of_eq {s' : St Ideal} (I : Inp P o s) (h : ∀ b, b = .cos ∨ b = .sin ∨ b = .k ∨ b = .g ∨ b = .gs ∨ b = .eb ∨ b = .ef → s' b = s b) :
    Inp P o s' := by
  constructor
  · rw [h .cos (by simp)]; exact I.cos
  · rw [h .sin (by simp)]; exact I.sin
  · rw [h .k (by simp)]; exact I.k
  · rw [h .g (by simp)]; exact I.g
  · rw [h .gs (by simp)]; exact I.gs
  · rw [h .eb (by simp)]; exact I.eb
  · rw [h .ef (by simp)]; exact I.ef

/-- The turned keys. -/
def KeysOk (P : Pt) (o : Nat) (q : Keys Ideal) : Prop :=
  ∀ row p, row < 768 → p < 256 → (a2 (n0 := 128) (n1 := 256) (q.x (row / 128)) (row % 128) p : EReal) = P.X o row p

theorem rotStep_run (q : Keys Ideal) (hq : KeysOk P o q) (h lt j : Nat) (hh : h < 8) (hlt : lt < 2) (hj : j < 6)
    (k : FVec Ideal S8x128 .f32 → FVec Ideal S8x128 .f32 → Cmd Ideal M α) (I : Inp P o s) :
    ∃ y1 y2 : FVec Ideal S8x128 .f32,
      (∀ r l, r < 8 → l < 128 → (a2 (n0 := 8) (n1 := 128) y1 r l : EReal) = P.KR o (96 * h + 8 * j + r) (128 * lt + l))
      ∧ (∀ r l, r < 8 → l < 128 → (a2 (n0 := 8) (n1 := 128) y2 r l : EReal) = P.KR o (96 * h + 48 + 8 * j + r) (128 * lt + l))
      ∧ (rotStep q h lt j hh hlt hj k).run s = (k y1 y2).run (s.set .kr (u2 (n0 := 768) (n1 := 256) (s .kr)
          (fun i l => (In (96 * h + 8 * j) 8 i ∨ In (96 * h + 48 + 8 * j) 8 i) ∧ In (128 * lt) 128 l) (P.KR o))) := by
  let c : FVec Ideal S1x8x128 .f32 := fun y => s .cos ((Rect.unit (s := Bf.cos.sh) ![0, 8 * j, 128 * lt] S1x8x128.size (inb3 (by omega) (by omega) (by omega))).toLoadRect.idx y)
  let sn : FVec Ideal S1x8x128 .f32 := fun y => s .sin ((Rect.unit (s := Bf.sin.sh) ![0, 8 * j, 128 * lt] S1x8x128.size (inb3 (by omega) (by omega) (by omega))).toLoadRect.idx y)
  let c8 : FVec Ideal S8x128 .f32 := shapeCast S8x128 c (by decide)
  let s8 : FVec Ideal S8x128 .f32 := shapeCast S8x128 sn (by decide)
  let lo := strip q (96 * h + 8 * j) lt (by omega) hlt
  let hi := strip q (96 * h + 48 + 8 * j) lt (by omega) hlt
  have hc : ∀ r l, r < 8 → l < 128 → (a2 (n0 := 8) (n1 := 128) c8 r l : EReal) = P.C (8 * j + r) (128 * lt + l) := fun r l hr hl => by
    refine (sc_8x128 c _ r l).trans ((a3_idx (m0 := 1) (m1 := 8) (m2 := 128) (n0 := 1) (n1 := 48) (n2 := 256) (s .cos) _ 0 r l (by omega) hr hl).trans ?_)
    exact I.cos _ _ (by omega) (by omega)
  have hs : ∀ r l, r < 8 → l < 128 → (a2 (n0 := 8) (n1 := 128) s8 r l : EReal) = P.S (8 * j + r) (128 * lt + l) := fun r l hr hl => by
    refine (sc_8x128 sn _ r l).trans ((a3_idx (m0 := 1) (m1 := 8) (m2 := 128) (n0 := 1) (n1 := 48) (n2 := 256) (s .sin) _ 0 r l (by omega) hr hl).trans ?_)
    exact I.sin _ _ (by omega) (by omega)
  have hstrip : ∀ (row : Nat) (hr8 : row % 8 = 0), row < 768 → ∀ r l, r < 8 → l < 128 →
      (a2 (n0 := 8) (n1 := 128) (strip q row lt hr8 hlt) r l : EReal) = P.X o (row + r) (128 * lt + l) := fun row hr8 hrow r l hr hl => by
    refine (slice2 (m0 := 8) (m1 := 128) (n0 := 128) (n1 := 256) (q.x (row / 128)) _ (by omega) (by omega) r l hr hl).trans ?_
    have e := hq (row + r) (128 * lt + l) (by omega) (by omega)
    rw [show (row + r) / 128 = row / 128 by omega, show (row + r) % 128 = row % 128 + r by omega] at e
    exact e
  have h1 : ∀ r l, r < 8 → l < 128 → (a2 (n0 := 8) (n1 := 128) (subf (mulf lo c8) (mulf hi s8)) r l : EReal) = P.KR o (96 * h + 8 * j + r) (128 * lt + l) := fun r l hr hl => by
    rw [a2_subf, a2_mulf, a2_mulf, hc r l hr hl, hs r l hr hl, hstrip _ _ (by omega) r l hr hl, hstrip _ _ (by omega) r l hr hl]
    unfold Pt.KR
    rw [if_pos (by omega), show (96 * h + 8 * j + r) % 96 = 8 * j + r by omega, show 96 * h + 8 * j + r + 48 = 96 * h + 48 + 8 * j + r by omega]
  have h2 : ∀ r l, r < 8 → l < 128 → (a2 (n0 := 8) (n1 := 128) (addf (mulf hi c8) (mulf lo s8)) r l : EReal) = P.KR o (96 * h + 48 + 8 * j + r) (128 * lt + l) := fun r l hr hl => by
    rw [a2_addf, a2_mulf, a2_mulf, hc r l hr hl, hs r l hr hl, hstrip _ _ (by omega) r l hr hl, hstrip _ _ (by omega) r l hr hl]
    unfold Pt.KR
    rw [if_neg (by omega), show (96 * h + 48 + 8 * j + r) % 96 - 48 = 8 * j + r by omega, show 96 * h + 48 + 8 * j + r - 48 = 96 * h + 8 * j + r by omega]
  refine ⟨subf (mulf lo c8) (mulf hi s8), addf (mulf hi c8) (mulf lo s8), h1, h2, ?_⟩
  refine congrArg (fun s' => (k (subf (mulf lo c8) (mulf hi s8)) (addf (mulf hi c8) (mulf lo s8))).run s') ?_
  show ((s.set .kr (VecWindow.put (s := Bf.kr.sh) (s .kr) ![96 * h + 8 * j, 128 * lt] S8x128.size (shapeCast S8x128 (subf (mulf lo c8) (mulf hi s8)) _))).set .kr
    (VecWindow.put (s := Bf.kr.sh) ((s.set .kr (VecWindow.put (s := Bf.kr.sh) (s .kr) ![96 * h + 8 * j, 128 * lt] S8x128.size (shapeCast S8x128 (subf (mulf lo c8) (mulf hi s8)) _))) .kr)
      ![96 * h + 48 + 8 * j, 128 * lt] S8x128.size (shapeCast S8x128 (addf (mulf hi c8) (mulf lo s8)) _))) = _
  rw [St.set_same, St.set_set, sc_self, sc_self]
  refine St.set_eq s .kr ?_
  refine (put2 (m0 := 8) (m1 := 128) (n0 := 768) (n1 := 256) _ _ _ _ (P.KR o) h2).trans ?_
  refine (congrArg (fun x => u2 (n0 := 768) (n1 := 256) x _ (P.KR o)) (put2 (m0 := 8) (m1 := 128) (n0 := 768) (n1 := 256) (s .kr) _ _ _ (P.KR o) h1)).trans ?_
  rw [u2_u2]
  exact u2_congr _ _ fun i l _ _ => by tauto

/-- A head rotated. -/
theorem rot_run (q : Keys Ideal) (hq : KeysOk P o q) (h lt : Nat) (hh : h < 8) (hlt : lt < 2) (I : Inp P o s) :
    ((rot q h lt hh hlt : Cmd Ideal M Unit).run s) = ((), (s.set .kr (u2 (n0 := 768) (n1 := 256) (s .kr)
        (fun i l => In (96 * h) 96 i ∧ In (128 * lt) 128 l) (P.KR o))).set .pm
      (u3 (n0 := 2) (n1 := 64) (n2 := 128) (s .pm) (fun a i l => In lt 1 a ∧ In (8 * h) 8 i ∧ In 0 128 l) (P.PM1 o))) := by
  unfold rot
  have I' : ∀ x, Inp P o (s.set .kr x) := fun x => I.of_eq fun b hb => by
    rcases hb with rfl | rfl | rfl | rfl | rfl | rfl | rfl <;> exact St.set_ne _ (by decide) _
  obtain ⟨a0, b0, ha0, hb0, e0⟩ := rotStep_run (M := M) (s := s) q hq h lt 0 hh hlt (by decide) (fun a0 b0 => rotStep q h lt 1 hh hlt (by decide) fun a1 b1 =>
    rotStep q h lt 2 hh hlt (by decide) fun a2 b2 => rotStep q h lt 3 hh hlt (by decide) fun a3 b3 =>
    rotStep q h lt 4 hh hlt (by decide) fun a4 b4 => rotStep q h lt 5 hh hlt (by decide) fun a5 b5 =>
    ldU .pm ![lt, 8 * h, 0] S1x8x128.size (inb3 (by omega) (by omega) (by omega)) (by decide) fun _ =>
    stU .pm ![lt, 8 * h, 0] S1x8x128.size (inb3 (by omega) (by omega) (by omega)) (by decide) rfl
      (shapeCast S1x8x128 (max2 (max2 (max2 (max2 (max2 (maximumf (absf a0) (absf b0)) a1 b1) a2 b2) a3 b3) a4 b4) a5 b5) (by decide)) <|
    .ret ()) I
  refine e0.trans ?_
  clear e0
  obtain ⟨a1, b1, ha1, hb1, e1⟩ := rotStep_run (M := M) (s := s.set .kr _) q hq h lt 1 hh hlt (by decide) _ (I' _)
  refine e1.trans ?_
  clear e1
  rw [St.set_same, St.set_set, u2_u2]
  obtain ⟨a2', b2, ha2, hb2, e2⟩ := rotStep_run (M := M) (s := s.set .kr _) q hq h lt 2 hh hlt (by decide) _ (I' _)
  refine e2.trans ?_
  clear e2
  rw [St.set_same, St.set_set, u2_u2]
  obtain ⟨a3', b3, ha3, hb3, e3⟩ := rotStep_run (M := M) (s := s.set .kr _) q hq h lt 3 hh hlt (by decide) _ (I' _)
  refine e3.trans ?_
  clear e3
  rw [St.set_same, St.set_set, u2_u2]
  obtain ⟨a4', b4, ha4, hb4, e4⟩ := rotStep_run (M := M) (s := s.set .kr _) q hq h lt 4 hh hlt (by decide) _ (I' _)
  refine e4.trans ?_
  clear e4
  rw [St.set_same, St.set_set, u2_u2]
  obtain ⟨a5, b5, ha5, hb5, e5⟩ := rotStep_run (M := M) (s := s.set .kr _) q hq h lt 5 hh hlt (by decide) _ (I' _)
  refine e5.trans ?_
  clear e5
  rw [St.set_same, St.set_set, u2_u2]
  rw [u2_congr (R' := fun i l => In (96 * h) 96 i ∧ In (128 * lt) 128 l) _ _ (fun i l hi hl => by simp only [In]; omega)]
  have hm : ∀ a i l, a < 1 → i < 8 → l < 128 → (a3 (n0 := 1) (n1 := 8) (n2 := 128) (shapeCast S1x8x128
      (max2 (max2 (max2 (max2 (max2 (maximumf (absf a0) (absf b0)) a1 b1) a2' b2) a3' b3) a4' b4) a5 b5) (by decide)) a i l : EReal)
        = P.PM1 o (lt + a) (8 * h + i) (0 + l) := fun a i l ha hi hl => by
    obtain rfl : a = 0 := by omega
    rw [sc_1x8x128]
    simp only [max2, a2_maximumf, a2_absf]
    rw [ha0 i l hi hl, hb0 i l hi hl, ha1 i l hi hl, hb1 i l hi hl, ha2 i l hi hl, hb2 i l hi hl, ha3 i l hi hl, hb3 i l hi hl,
      ha4 i l hi hl, hb4 i l hi hl, ha5 i l hi hl, hb5 i l hi hl]
    unfold Pt.PM1 max12
    rw [show (8 * h + i) / 8 = h by omega, show (8 * h + i) % 8 = i by omega, show lt + 0 = lt from rfl, show 0 + l = l by omega]
  refine congrArg (Prod.mk ()) ?_
  refine St.set_eq (s.set .kr _) .pm ?_
  refine (put3 (m0 := 1) (m1 := 8) (m2 := 128) (n0 := 2) (n1 := 64) (n2 := 128) _ _ _ _ _ (P.PM1 o) hm).trans ?_
  rw [St.set_ne _ (by decide)]

end Cert.K
-- ==== Proof.K.Keys.lean ====
/-
  The keys turned and the gradient codes copied, at the ideal instance: contractions with an identity matrix; and the sixteen rotations.
-/
module

public import proofs.«01_k».proof.Proof.K.Rot

@[expose] public section

noncomputable section

namespace Cert.K

open Idealize.ShloMosaic Cmd

variable {sig : RefSig} {M : Ms sig} {α : Type}

/-- A row of the identity selects. -/
theorem sum_eye {n : Nat} [NeZero n] (e : Nat → EReal) (x : Fin n → EReal) (i : Nat) (hi : i < n)
    (he : ∀ j, j < n → e j = if i = j then 1 else 0) : (∑ k : Fin n, e k.val * x k) = x (Fin.ofNat n i) := by
  rw [Finset.sum_eq_single (Fin.ofNat n i)]
  · rw [he _ (Fin.isLt _), Fin.val_ofNat, Nat.mod_eq_of_lt hi, if_pos rfl, one_mul]
  · intro b _ hb
    rw [he _ b.isLt, if_neg (fun h => hb (Fin.ext (by rw [Fin.val_ofNat, Nat.mod_eq_of_lt hi]; exact h.symm))), zero_mul]
  · intro h; exact absurd (Finset.mem_univ _) h

theorem turned_at (e : FVec Ideal S128x128 .bf16) (k : FVec Ideal S256x128 .bf16)
    (he : ∀ i j, i < 128 → j < 128 → (a2 (n0 := 128) (n1 := 128) e i j : EReal) = if i = j then 1 else 0) (i p : Nat) (hi : i < 128) :
    (a2 (n0 := 128) (n1 := 256) (turned e k) i p : EReal) = (a2 (n0 := 256) (n1 := 128) k p i : EReal) := by
  have h := sum_eye (fun j => (a2 (n0 := 128) (n1 := 128) e i j : EReal)) (fun c => (a2 (n0 := 256) (n1 := 128) k p c.val : EReal)) i hi (fun j hj => he i j hi hj)
  rw [Fin.val_ofNat, Nat.mod_eq_of_lt hi] at h
  rw [← h]
  unfold turned a2
  rw [sc_self]
  pointwise [dotE]
  refine Finset.sum_congr rfl fun c _ => ?_
  rw [ofNat_val]

theorem copied_at (e : FVec Ideal S96x96 .fp8e5m2) (g : FVec Ideal S96x256 .fp8e5m2)
    (he : ∀ i j, i < 96 → j < 96 → (a2 (n0 := 96) (n1 := 96) e i j : EReal) = if i = j then 1 else 0) (i p : Nat) (hi : i < 96) :
    (a2 (n0 := 96) (n1 := 256) (matmul dotG none e g (constant S96x256 .f32 0x00000000#32) : FVec Ideal S96x256 .f32) i p : EReal)
      = (a2 (n0 := 96) (n1 := 256) g i p : EReal) := by
  have h := sum_eye (fun j => (a2 (n0 := 96) (n1 := 96) e i j : EReal)) (fun c => (a2 (n0 := 96) (n1 := 256) g c.val p : EReal)) i hi (fun j hj => he i j hi hj)
  rw [Fin.val_ofNat, Nat.mod_eq_of_lt hi] at h
  rw [← h]
  unfold a2
  pointwise [dotG]
  refine Finset.sum_congr rfl fun c _ => ?_
  rw [ofNat_val]

variable {P : Pt} {o : Nat} {s : St Ideal}

/-- The six loads of an oct. -/
theorem keys_run (ho : o < 2) (I : Inp P o s) : ∃ q, KeysOk P o q ∧ (keys o ho : Cmd Ideal M (Keys Ideal)).run s = (q, s) := by
  refine ⟨_, ?_, rfl⟩
  have he : ∀ i j, i < 128 → j < 128 → (a2 (n0 := 128) (n1 := 128) (fun y => s .eb ((Rect.unit (s := Bf.eb.sh) ![0, 0] S128x128.size (by decide)).toLoadRect.idx y)) i j : EReal) = if i = j then 1 else 0 :=
    fun i j hi hj => by
      refine (a2_idx (m0 := 128) (m1 := 128) (n0 := 128) (n1 := 128) (s .eb) _ i j hi hj).trans ?_
      rw [Nat.zero_add, Nat.zero_add]
      exact I.eb i j hi hj
  have hk : ∀ c (hc : c < 6) (e : FVec Ideal S128x128 .bf16), (∀ i j, i < 128 → j < 128 → (a2 (n0 := 128) (n1 := 128) e i j : EReal) = if i = j then 1 else 0) →
      ∀ i p, i < 128 → p < 256 → (a2 (n0 := 128) (n1 := 256) (turned e (fun y => s .k ((Rect.unit (s := Bf.k.sh) ![0, 768 * o + 128 * c] S256x128.size (inb2 (by omega) (by omega))).toLoadRect.idx y))) i p : EReal)
        = P.X o (128 * c + i) p := fun c hc e he i p hi hp => by
    rw [turned_at e _ he i p hi]
    refine (a2_idx (m0 := 256) (m1 := 128) (n0 := 256) (n1 := 1536) (s .k) _ p i hp hi).trans ?_
    rw [Nat.zero_add, I.k _ _ hp (by omega)]
    unfold Pt.X
    rw [Nat.add_assoc]
  intro row p hr hp
  have hc : row / 128 = 0 ∨ row / 128 = 1 ∨ row / 128 = 2 ∨ row / 128 = 3 ∨ row / 128 = 4 ∨ row / 128 = 5 := by omega
  rcases hc with h | h | h | h | h | h
  · rw [h]; refine (hk 0 (by decide) _ he (row % 128) p (by omega) hp).trans ?_; congr 1; omega
  · rw [h]; refine (hk 1 (by decide) _ he (row % 128) p (by omega) hp).trans ?_; congr 1; omega
  · rw [h]; refine (hk 2 (by decide) _ he (row % 128) p (by omega) hp).trans ?_; congr 1; omega
  · rw [h]; refine (hk 3 (by decide) _ he (row % 128) p (by omega) hp).trans ?_; congr 1; omega
  · rw [h]; refine (hk 4 (by decide) _ he (row % 128) p (by omega) hp).trans ?_; congr 1; omega
  · rw [h]; refine (hk 5 (by decide) _ he (row % 128) p (by omega) hp).trans ?_; congr 1; omega

theorem Inp.set (I : Inp P o s) (b : Bf) (x) (h : b ≠ .cos ∧ b ≠ .sin ∧ b ≠ .k ∧ b ≠ .g ∧ b ≠ .gs ∧ b ≠ .eb ∧ b ≠ .ef) : Inp P o (s.set b x) :=
  I.of_eq fun b' hb => St.set_ne _ (by rintro rfl; rcases hb with e | e | e | e | e | e | e <;> simp_all) _

/-- A head's gradient codes copied. -/
theorem grad_run (h : Nat) (ho : o < 2) (hh : h < 8) (I : Inp P o s) (k : Cmd Ideal M α) :
    (grad o h ho hh k).run s = k.run (s.set .gt (u2 (n0 := 768) (n1 := 256) (s .gt) (fun i l => In (96 * h) 96 i ∧ In 0 256 l) (P.GT o))) := by
  refine congrArg (fun s' => k.run s') ?_
  refine St.set_eq s .gt ?_
  refine put2 (m0 := 96) (m1 := 256) (n0 := 768) (n1 := 256) _ _ _ _ (P.GT o) fun i l hi hl => ?_
  rw [sc_self]
  refine (copied_at _ _ (fun i j hi hj => ?_) i l hi).trans ?_
  · refine (a2_idx (m0 := 96) (m1 := 96) (n0 := 96) (n1 := 96) (s .ef) _ i j hi hj).trans ?_
    rw [Nat.zero_add, Nat.zero_add]
    exact I.ef i j hi hj
  · rw [sc_96x256]
    refine (a4_idx (m0 := 1) (m1 := 1) (m2 := 96) (m3 := 256) (n0 := 1) (n1 := 16) (n2 := 96) (n3 := 256) (s .g) _ 0 0 i l (by omega) (by omega) hi hl).trans ?_
    unfold Pt.GT
    rw [show (96 * h + i) / 96 = h by omega, show (96 * h + i) % 96 = i by omega]
    have e := I.g (8 * o + h) i l (by omega) hi hl
    simpa using e

/-- The gradient codes of an oct copied. -/
theorem grads_run (ho : o < 2) (I : Inp P o s) :
    (grads o ho : Cmd Ideal M Unit).run s = ((), s.set .gt (u2 (n0 := 768) (n1 := 256) (s .gt) (fun _ _ => True) (P.GT o))) := by
  have I' : ∀ x, Inp P o (s.set .gt x) := fun x => I.set .gt x (by decide)
  unfold grads
  rw [grad_run 0 ho _ I, grad_run 1 ho _ (I' _), St.set_same, St.set_set, u2_u2, grad_run 2 ho _ (I' _), St.set_same, St.set_set, u2_u2,
    grad_run 3 ho _ (I' _), St.set_same, St.set_set, u2_u2, grad_run 4 ho _ (I' _), St.set_same, St.set_set, u2_u2,
    grad_run 5 ho _ (I' _), St.set_same, St.set_set, u2_u2, grad_run 6 ho _ (I' _), St.set_same, St.set_set, u2_u2,
    grad_run 7 ho _ (I' _), St.set_same, St.set_set, u2_u2, run_ret]
  rw [u2_congr (R' := fun _ _ => True) _ _ (fun i l hi hl => by simp only [In, iff_true]; omega)]

/-- The heads rotated so far. -/
structure Rotd (P : Pt) (o n : Nat) (s₀ s : St Ideal) : Prop where
  /-- the rotated keys -/
  kr : s .kr = u2 (n0 := 768) (n1 := 256) (s₀ .kr) (fun i l => i / 96 + 8 * (l / 128) < n) (P.KR o)
  /-- the partial maxima -/
  pm : s .pm = u3 (n0 := 2) (n1 := 64) (n2 := 128) (s₀ .pm) (fun a i _ => i / 8 + 8 * a < n) (P.PM1 o)
  /-- the other buffers -/
  rest : ∀ b, b ≠ .kr → b ≠ .pm → s b = s₀ b

theorem Rotd.start (P : Pt) (o : Nat) (s : St Ideal) : Rotd P o 0 s s where
  kr := by funext y; simp [u2]
  pm := by funext y; simp [u3]
  rest _ _ _ := rfl

theorem Rotd.step {n : Nat} {s₀ s : St Ideal} (Rd : Rotd P o n s₀ s) (I : Inp P o s₀) (q : Keys Ideal) (hq : KeysOk P o q) (h lt : Nat) (hh : h < 8) (hlt : lt < 2)
    (hn : h + 8 * lt = n) : ∃ s', Rotd P o (n + 1) s₀ s' ∧ (rot q h lt hh hlt : Cmd Ideal M Unit).run s = ((), s') := by
  have I' : Inp P o s := I.of_eq fun b hb => Rd.rest b (by rintro rfl; simp at hb) (by rintro rfl; simp at hb)
  refine ⟨_, ?_, rot_run q hq h lt hh hlt I'⟩
  constructor
  · rw [St.set_ne _ (by decide), St.set_same, Rd.kr, u2_u2]
    refine u2_congr _ _ fun i l hi hl => ?_
    simp only [In]; omega
  · rw [St.set_same, Rd.pm, u3_u3]
    refine u3_congr _ _ fun a i l ha hi hl => ?_
    simp only [In]; omega
  · intro b h1 h2
    rw [St.set_ne _ h2, St.set_ne _ h1, Rd.rest b h1 h2]

end Cert.K
-- ==== Proof.K.Reduce.lean ====
/-
  The scales of an oct at the ideal instance.
-/
module

public import proofs.«01_k».proof.Proof.K.Keys

@[expose] public section

noncomputable section

namespace Cert.K

open Idealize.ShloMosaic Cmd

variable {sig : RefSig} {M : Ms sig} {α : Type}

/-- A strided row load of the partial vectors. -/
theorem pm_idx (x : Bf.pm.sh.Idx → EReal) (lt j : Nat) (hlt : lt < 2) (hj : j < 8) (r l : Nat) (hr : r < 8) (hl : l < 128) :
    a2 (n0 := 8) (n1 := 128) (shapeCast S8x128 (fun y => x ((⟨![lt, j, 0], S1x8x128.size, ![1, 8, 1], inbPm lt j hlt hj⟩ : LoadRect Bf.pm.sh).idx y) : S1x8x128.Idx → EReal) (by decide)) r l
      = a3 (n0 := 2) (n1 := 64) (n2 := 128) x lt (8 * r + j) l := by
  rw [sc_8x128]
  unfold a3
  refine congrArg x (funext fun a => ?_)
  match a with
  | ⟨0, _⟩ => exact Fin.ext (show lt + 1 * (0 % 1) = lt % 2 by omega)
  | ⟨1, _⟩ => exact Fin.ext (show j + 8 * (r % 8) = (8 * r + j) % 64 by omega)
  | ⟨2, _⟩ => exact Fin.ext (show 0 + 1 * (l % 128) = l % 128 by omega)

/-- The partial vectors of a lane tile. -/
def PmsOk (f : Nat → Nat → Nat → EReal) (lt : Nat) (p : Fin 8 → FVec Ideal S1x8x128 .f32) : Prop :=
  ∀ j : Fin 8, ∀ r l, r < 8 → l < 128 → (a2 (n0 := 8) (n1 := 128) (p8 (p j)) r l : EReal) = f lt (8 * r + j.val) l

theorem pms_run (s : St Ideal) (lt : Nat) (hlt : lt < 2) (f : Nat → Nat → Nat → EReal)
    (hf : ∀ a i l, a < 2 → i < 64 → l < 128 → (a3 (n0 := 2) (n1 := 64) (n2 := 128) (s .pm) a i l : EReal) = f a i l)
    (k : FVec Ideal S1x8x128 .f32 → FVec Ideal S1x8x128 .f32 → FVec Ideal S1x8x128 .f32 → FVec Ideal S1x8x128 .f32 → FVec Ideal S1x8x128 .f32 → FVec Ideal S1x8x128 .f32 → FVec Ideal S1x8x128 .f32 → FVec Ideal S1x8x128 .f32 → Cmd Ideal M α) :
    ∃ p0 p1 p2 p3 p4 p5 p6 p7, PmsOk f lt ![p0, p1, p2, p3, p4, p5, p6, p7] ∧ (pms lt hlt k).run s = (k p0 p1 p2 p3 p4 p5 p6 p7).run s := by
  refine ⟨_, _, _, _, _, _, _, _, ?_, rfl⟩
  intro j r l hr hl
  fin_cases j
  · exact (pm_idx (s .pm) lt 0 hlt (by decide) r l hr hl).trans (hf _ _ _ hlt (by omega) hl)
  · exact (pm_idx (s .pm) lt 1 hlt (by decide) r l hr hl).trans (hf _ _ _ hlt (by omega) hl)
  · exact (pm_idx (s .pm) lt 2 hlt (by decide) r l hr hl).trans (hf _ _ _ hlt (by omega) hl)
  · exact (pm_idx (s .pm) lt 3 hlt (by decide) r l hr hl).trans (hf _ _ _ hlt (by omega) hl)
  · exact (pm_idx (s .pm) lt 4 hlt (by decide) r l hr hl).trans (hf _ _ _ hlt (by omega) hl)
  · exact (pm_idx (s .pm) lt 5 hlt (by decide) r l hr hl).trans (hf _ _ _ hlt (by omega) hl)
  · exact (pm_idx (s .pm) lt 6 hlt (by decide) r l hr hl).trans (hf _ _ _ hlt (by omega) hl)
  · exact (pm_idx (s .pm) lt 7 hlt (by decide) r l hr hl).trans (hf _ _ _ hlt (by omega) hl)

theorem tree_max (f : Nat → Nat → Nat → EReal) (lt : Nat) (p : Fin 8 → FVec Ideal S1x8x128 .f32) (hp : PmsOk f lt p) (r l : Nat) (hr : r < 8) (hl : l < 128) :
    (a2 (n0 := 8) (n1 := 128) (tree maximumf p) r l : EReal) = tree8 max fun i => f lt (8 * r + i) l := by
  simp only [tree, a2_maximumf, tree8]
  rw [hp 0 r l hr hl, hp 1 r l hr hl, hp 2 r l hr hl, hp 3 r l hr hl, hp 4 r l hr hl, hp 5 r l hr hl, hp 6 r l hr hl, hp 7 r l hr hl]
  rfl

theorem tree_add (f : Nat → Nat → Nat → EReal) (lt : Nat) (p : Fin 8 → FVec Ideal S1x8x128 .f32) (hp : PmsOk f lt p) (r l : Nat) (hr : r < 8) (hl : l < 128) :
    (a2 (n0 := 8) (n1 := 128) (tree addf p) r l : EReal) = tree8 (· + ·) fun i => f lt (8 * r + i) l := by
  simp only [tree, a2_addf, tree8]
  rw [hp 0 r l hr hl, hp 1 r l hr hl, hp 2 r l hr hl, hp 3 r l hr hl, hp 4 r l hr hl, hp 5 r l hr hl, hp 6 r l hr hl, hp 7 r l hr hl]
  rfl

variable {P : Pt} {o : Nat} {s : St Ideal}

/-- The largest absolute values and the gradient scales. -/
structure RedOk (P : Pt) (o : Nat) (d : Red Ideal) : Prop where
  /-- the largest absolute values -/
  am : ∀ r p, r < 8 → p < 256 → (a2 (n0 := 8) (n1 := 256) d.amax r p : EReal) = P.AM o r p
  /-- the gradient scales -/
  gs : ∀ r p, r < 8 → p < 256 → (a2 (n0 := 8) (n1 := 256) (shapeCast S8x256 d.gs (by decide) : FVec Ideal S8x256 .f32) r p : EReal) = P.GS (8 * o + r) p

theorem beside_tree (op : EReal → EReal → EReal) (f : Nat → Nat → Nat → EReal) (x y : FVec Ideal S8x128 .f32)
    (hx : ∀ r l, r < 8 → l < 128 → (a2 (n0 := 8) (n1 := 128) x r l : EReal) = tree8 op fun i => f 0 (8 * r + i) l)
    (hy : ∀ r l, r < 8 → l < 128 → (a2 (n0 := 8) (n1 := 128) y r l : EReal) = tree8 op fun i => f 1 (8 * r + i) l) (r p : Nat) (hr : r < 8) (hp : p < 256) :
    (a2 (n0 := 8) (n1 := 256) (beside x y) r p : EReal) = tree8 op fun i => f (p / 128) (8 * r + i) (p % 128) := by
  rw [beside_at x y r p hp]
  split
  · rw [hx r p hr (by omega), show p / 128 = 0 by omega, show p % 128 = p by omega]
  · rw [hy r (p - 128) hr (by omega), show p / 128 = 1 by omega, show p % 128 = p - 128 by omega]

/-- The scales computed. -/
theorem reduce_run (off : Fin 2 → Nat) (hoff : ∀ a, off a + S8x128.size a ≤ S80x128.size a) (ho : o < 2) (I : Inp P o s)
    (hpm : ∀ a i l, a < 2 → i < 64 → l < 128 → (a3 (n0 := 2) (n1 := 64) (n2 := 128) (s .pm) a i l : EReal) = P.PM1 o a i l)
    (hac : ∀ r l, r < 8 → l < 128 → (a2 (n0 := 8) (n1 := 128) (fun y => s .ac ((Rect.unit (s := Bf.ac.sh) off S8x128.size hoff).toLoadRect.idx y)) r l : EReal) = P.AL (8 * o + r)) :
    ∃ d, RedOk P o d ∧ (reduce P.c7 off hoff o ho : Cmd Ideal M (Red Ideal)).run s = (d,
      (s.set .s (u3 (n0 := 1) (n1 := 16) (n2 := 256) (s .s) (fun a i p => In 0 1 a ∧ In (8 * o) 8 i ∧ In 0 256 p) (fun _ i p => P.SC (i / 8) (i % 8) p))).set .inv
        (u2 (n0 := 8) (n1 := 256) (s .inv) (fun i p => In 0 8 i ∧ In 0 256 p) (P.INV o))) := by
  unfold reduce
  obtain ⟨p0, p1, p2, p3, p4, p5, p6, p7, hp, ep⟩ := pms_run (M := M) s 0 (by decide) (P.PM1 o) hpm _
  rw [ep]
  clear ep
  obtain ⟨r0, r1, r2, r3, r4, r5, r6, r7, hr, er⟩ := pms_run (M := M) s 1 (by decide) (P.PM1 o) hpm _
  rw [er]
  clear er
  have ham : ∀ r p, r < 8 → p < 256 → (a2 (n0 := 8) (n1 := 256) (beside (tree maximumf ![p0, p1, p2, p3, p4, p5, p6, p7]) (tree maximumf ![r0, r1, r2, r3, r4, r5, r6, r7])) r p : EReal) = P.AM o r p :=
    beside_tree max (P.PM1 o) _ _ (fun r l hr' hl => tree_max _ 0 _ hp r l hr' hl) (fun r l hr' hl => tree_max _ 1 _ hr r l hr' hl)
  let a : FVec Ideal S8x128 .f32 := fun y => s .ac ((Rect.unit (s := Bf.ac.sh) off S8x128.size hoff).toLoadRect.idx y)
  have hsc : ∀ r p, r < 8 → p < 256 → (a2 (n0 := 8) (n1 := 256) (scales P.c7 (beside (tree maximumf ![p0, p1, p2, p3, p4, p5, p6, p7]) (tree maximumf ![r0, r1, r2, r3, r4, r5, r6, r7])) (beside a a)) r p : EReal) = P.SC o r p := fun r p hr' hp' => by
    unfold scales Pt.SC
    rw [a2_select_oeq, a2_mulf, a2_mulf, ham r p hr' hp', beside_at a a r p hp']
    rw [show (a2 (n0 := 8) (n1 := 256) (zeros S8x256 : FVec Ideal S8x256 .f32) r p : EReal) = 0 from Ideal.ofBits_zero_f32]
    rw [show (a2 (n0 := 8) (n1 := 256) (broadcast S8x256 (Scalar.ofBits .f32 0x3F800000#32 : Ideal .f32) : FVec Ideal S8x256 .f32) r p : EReal) = 1 from Ideal.ofBits_one_f32]
    rw [show (a2 (n0 := 8) (n1 := 256) (broadcast S8x256 (P.c7 : Ideal .f32) : FVec Ideal S8x256 .f32) r p : EReal) = P.c7 from rfl]
    have e : (if p < 128 then (a2 (n0 := 8) (n1 := 128) a r p : EReal) else (a2 (n0 := 8) (n1 := 128) a r (p - 128) : EReal)) = P.AL (8 * o + r) := by
      split
      · exact hac r p hr' (by omega)
      · exact hac r (p - 128) hr' (by omega)
    rw [e]
  refine ⟨_, ?_, Prod.ext rfl ?_⟩
  · constructor
    · exact ham
    · intro r p hr' hp'
      refine (sc_8x256 _ _ r p).trans ((a3_idx (m0 := 1) (m1 := 8) (m2 := 256) (n0 := 1) (n1 := 16) (n2 := 256) _ _ 0 r p (by omega) hr' hp').trans ?_)
      have e := I.gs (8 * o + r) p (by omega) hp'
      simpa using e
  · show (s.set .s _).set .inv _ = _
    have e1 : s.set .s (VecWindow.put (s := Bf.s.sh) (s .s) ![0, 8 * o, 0] S1x8x256.size (shapeCast S1x8x256 (scales P.c7 (beside (tree maximumf ![p0, p1, p2, p3, p4, p5, p6, p7]) (tree maximumf ![r0, r1, r2, r3, r4, r5, r6, r7])) (beside a a)) (by decide)))
        = s.set .s (u3 (n0 := 1) (n1 := 16) (n2 := 256) (s .s) (fun a i p => In 0 1 a ∧ In (8 * o) 8 i ∧ In 0 256 p) (fun _ i p => P.SC (i / 8) (i % 8) p)) := by
      refine St.set_eq s .s ?_
      refine put3 (m0 := 1) (m1 := 8) (m2 := 256) (n0 := 1) (n1 := 16) (n2 := 256) _ _ _ _ _ (fun _ i p => P.SC (i / 8) (i % 8) p) fun a' i p ha hi hp' => ?_
      obtain rfl : a' = 0 := by omega
      rw [sc_1x8x256, hsc i p hi hp', show (8 * o + i) / 8 = o by omega, show (8 * o + i) % 8 = i by omega, show 0 + p = p by omega]
    refine (congrArg (fun x : St Ideal => x.set .inv _) e1).trans ?_
    refine St.set_eq _ .inv ?_
    rw [St.set_ne _ (by decide)]
    refine put2 (m0 := 8) (m1 := 256) (n0 := 8) (n1 := 256) _ _ _ _ (P.INV o) fun i p hi hp' => ?_
    rw [sc_self, a2_divf]
    change Ideal.div _ (a2 (n0 := 8) (n1 := 256) (scales P.c7 _ (beside a a)) i p) = _
    rw [hsc i p hi hp', show 0 + i = i by omega, show 0 + p = p by omega]
    rw [show (a2 (n0 := 8) (n1 := 256) (broadcast S8x256 (Scalar.ofBits .f32 0x3F800000#32 : Ideal .f32) : FVec Ideal S8x256 .f32) i p : EReal) = 1 from Ideal.ofBits_one_f32]
    rfl

end Cert.K
-- ==== Proof.K.Quant.lean ====
/-
  The quantisation of the heads at the ideal instance: codes, partial sums of the step gradient, and the rows of the key gradient.
-/
module

public import proofs.«01_k».proof.Proof.K.Reduce

@[expose] public section

noncomputable section

namespace Cert.K

open Idealize.ShloMosaic Cmd

variable {sig : RefSig} {M : Ms sig} {α : Type}
variable {P : Pt} {o : Nat} {s : St Ideal}

/-- What the quantisation reads of an oct. -/
structure Ready (P : Pt) (o : Nat) (s : St Ideal) : Prop where
  /-- the inputs -/
  inp : Inp P o s
  /-- the rotated keys -/
  kr : ∀ i p, i < 768 → p < 256 → (a2 (n0 := 768) (n1 := 256) (s .kr) i p : EReal) = P.KR o i p
  /-- the gradient codes -/
  gt : ∀ i p, i < 768 → p < 256 → (a2 (n0 := 768) (n1 := 256) (s .gt) i p : EReal) = P.GT o i p
  /-- the reciprocals of the scales -/
  inv : ∀ h p, h < 8 → p < 256 → (a2 (n0 := 8) (n1 := 256) (s .inv) h p : EReal) = P.INV o h p

theorem Ready.set (I : Ready P o s) (b : Bf) (x) (h : b = .codes ∨ b = .pm ∨ b = .dkt) : Ready P o (s.set b x) := by
  constructor
  · exact I.inp.set b x (by rcases h with rfl | rfl | rfl <;> decide)
  · rw [St.set_ne _ (by rcases h with rfl | rfl | rfl <;> decide)]; exact I.kr
  · rw [St.set_ne _ (by rcases h with rfl | rfl | rfl <;> decide)]; exact I.gt
  · rw [St.set_ne _ (by rcases h with rfl | rfl | rfl <;> decide)]; exact I.inv

theorem Ready.of_eq {s' : St Ideal} (I : Ready P o s) (h : ∀ b, b ≠ .codes → b ≠ .pm → b ≠ .dkt → s' b = s b) : Ready P o s' := by
  constructor
  · exact I.inp.of_eq fun b hb => h b (by rintro rfl; simp at hb) (by rintro rfl; simp at hb) (by rintro rfl; simp at hb)
  · rw [h .kr (by decide) (by decide) (by decide)]; exact I.kr
  · rw [h .gt (by decide) (by decide) (by decide)]; exact I.gt
  · rw [h .inv (by decide) (by decide) (by decide)]; exact I.inv

/-- An eight-row strip of a function of row and position. -/
abbrev Strip (f : Nat → Nat → EReal) (row lt : Nat) (x : FVec Ideal S8x128 .f32) : Prop :=
  ∀ r l, r < 8 → l < 128 → (a2 (n0 := 8) (n1 := 128) x r l : EReal) = f (row + r) (128 * lt + l)

theorem qStep_run (I : Ready P o s) (h lt j : Nat) (hh : h < 8) (hlt : lt < 2) (hj : j < 12) (inv : FVec Ideal S1x128 .f32)
    (hinv : ∀ l, l < 128 → (a2 (n0 := 1) (n1 := 128) inv 0 l : EReal) = P.INV o h (128 * lt + l))
    (k : FVec Ideal S8x128 .f32 → FVec Ideal S8x128 .f32 → FVec Ideal S8x128 .f32 → Cmd Ideal M α) :
    ∃ rc gi pr, Strip (P.RC o) (96 * h + 8 * j) lt rc ∧ Strip (P.GI o) (96 * h + 8 * j) lt gi
      ∧ Strip (fun i p => P.GI o i p * P.R o i p) (96 * h + 8 * j) lt pr
      ∧ (qStep h lt j hh hlt hj inv k).run s = (k rc gi pr).run s := by
  let x : FVec Ideal S8x128 .f32 := fun y => s .kr ((Rect.unit (s := Bf.kr.sh) ![96 * h + 8 * j, 128 * lt] S8x128.size (inb2 (by omega) (by omega))).toLoadRect.idx y)
  let g : FVec Ideal S8x128 .f32 := fun y => s .gt ((Rect.unit (s := Bf.gt.sh) ![96 * h + 8 * j, 128 * lt] S8x128.size (inb2 (by omega) (by omega))).toLoadRect.idx y)
  have hx : Strip (P.KR o) (96 * h + 8 * j) lt x := fun r l hr hl =>
    (a2_idx (m0 := 8) (m1 := 128) (n0 := 768) (n1 := 256) (s .kr) _ r l hr hl).trans (I.kr _ _ (by omega) (by omega))
  have hg : Strip (P.GT o) (96 * h + 8 * j) lt g := fun r l hr hl =>
    (a2_idx (m0 := 8) (m1 := 128) (n0 := 768) (n1 := 256) (s .gt) _ r l hr hl).trans (I.gt _ _ (by omega) (by omega))
  let rr : FVec Ideal S8x128 .f32 := mulf x (broadcastTo S8x128 inv (by decide))
  have hr : Strip (P.R o) (96 * h + 8 * j) lt rr := fun r l hr hl => by
    refine (a2_mulf _ _ r l).trans ?_
    rw [hx r l hr hl, row_8x128, hinv l hl]
    unfold Pt.R
    rw [show (96 * h + 8 * j + r) / 96 = h by omega]
  have hrc : Strip (P.RC o) (96 * h + 8 * j) lt (clip7 rr) := fun r l hr' hl => by
    refine (a2_minimumf _ _ r l).trans ?_
    refine congrArg (min (Ideal.ofBits .f32 0x40E00000#32)) ?_
    refine (a2_maximumf _ _ r l).trans ?_
    exact congrArg (max (Ideal.ofBits .f32 0xC0E00000#32)) (hr r l hr' hl)
  have hgi : Strip (P.GI o) (96 * h + 8 * j) lt (select (cmpf .oeq rr (clip7 rr)) g (zeros S8x128)) := fun r l hr' hl => by
    rw [a2_select_oeq, hr r l hr' hl, hrc r l hr' hl, hg r l hr' hl]
    rw [show (a2 (n0 := 8) (n1 := 128) (zeros S8x128 : FVec Ideal S8x128 .f32) r l : EReal) = 0 from Ideal.ofBits_zero_f32]
    rfl
  refine ⟨clip7 rr, select (cmpf .oeq rr (clip7 rr)) g (zeros S8x128), mulf (select (cmpf .oeq rr (clip7 rr)) g (zeros S8x128)) rr, hrc, hgi, ?_, rfl⟩
  intro r l hr' hl
  rw [a2_mulf, hgi r l hr' hl, hr r l hr' hl]

/-- A code at a head. -/
def Pt.CDH (P : Pt) (H d p : Nat) : BitVec 8 := P.CD (H / 8) (96 * (H % 8) + d) p

theorem cStep_run (ho : o < 2) (I : Ready P o s) (h lt q : Nat) (hh : h < 8) (hlt : lt < 2) (hq : q < 3) (a b c d : FVec Ideal S8x128 .f32)
    (ha : Strip (P.RC o) (96 * h + 32 * q) lt a) (hb : Strip (P.RC o) (96 * h + 32 * q + 8) lt b)
    (hc : Strip (P.RC o) (96 * h + 32 * q + 16) lt c) (hd : Strip (P.RC o) (96 * h + 32 * q + 24) lt d)
    (k : FVec Ideal S32x128 .f32 → Cmd Ideal M α) :
    ∃ y : FVec Ideal S32x128 .f32, (∀ r l, r < 32 → l < 128 → (a2 (n0 := 32) (n1 := 128) y r l : EReal) = P.CG o (96 * h + 32 * q + r) (128 * lt + l))
      ∧ (cStep o h lt q ho hh hlt hq a b c d k).run s = (k y).run (s.set .codes (u4 (n0 := 1) (n1 := 16) (n2 := 96) (n3 := 256) (s .codes)
          (fun i H d p => In 0 1 i ∧ In (8 * o + h) 1 H ∧ In (32 * q) 32 d ∧ In (128 * lt) 128 p) (fun _ H d p => P.CDH H d p))) := by
  let x : FVec Ideal S32x128 .f32 := concatenate S32x128 0 [⟨S8x128, a⟩, ⟨S8x128, b⟩, ⟨S8x128, c⟩, ⟨S8x128, d⟩] conc32
  have hx : ∀ r l, r < 32 → l < 128 → (a2 (n0 := 32) (n1 := 128) x r l : EReal) = P.RC o (96 * h + 32 * q + r) (128 * lt + l) := fun r l hr hl => by
    refine (four_at a b c d r l hr).trans ?_
    split
    · exact ha r l (by omega) hl
    split
    · rw [hb (r - 8) l (by omega) hl]; congr 1; omega
    split
    · rw [hc (r - 16) l (by omega) hl]; congr 1; omega
    · rw [hd (r - 24) l (by omega) hl]; congr 1; omega
  let cd : IVec S32x128 8 := fptosi 8 (roundeven x)
  have hcd : ∀ r l, r < 32 → l < 128 → (a2 (n0 := 32) (n1 := 128) cd r l : BitVec 8) = P.CD o (96 * h + 32 * q + r) (128 * lt + l) := fun r l hr hl => by
    show FloatOps.fptosi (F := Ideal) (φ := .f32) 8 (FloatOps.roundeven (F := Ideal) (φ := .f32) (a2 (n0 := 32) (n1 := 128) x r l : EReal)) = _
    rw [hx r l hr hl]
    rfl
  let g : FVec Ideal S1x1x32x128 .fp8e5m2 := fun y => s .g ((Rect.unit (s := Bf.g.sh) ![0, 8 * o + h, 32 * q, 128 * lt] S1x1x32x128.size (inb4 (by omega) (by omega) (by omega) (by omega))).toLoadRect.idx y)
  have hg : ∀ r l, r < 32 → l < 128 → (a2 (n0 := 32) (n1 := 128) (shapeCast S32x128 g (by decide) : FVec Ideal S32x128 .fp8e5m2) r l : EReal) = P.GT o (96 * h + 32 * q + r) (128 * lt + l) := fun r l hr hl => by
    refine (sc_32x128 g _ r l).trans ?_
    refine (a4_idx (m0 := 1) (m1 := 1) (m2 := 32) (m3 := 128) (n0 := 1) (n1 := 16) (n2 := 96) (n3 := 256) (s .g) _ 0 0 r l (by omega) (by omega) hr hl).trans ?_
    refine (I.inp.g (8 * o + h) (32 * q + r) (128 * lt + l) (by omega) (by omega) (by omega)).trans ?_
    unfold Pt.GT
    rw [show (96 * h + 32 * q + r) / 96 = h by omega, show (96 * h + 32 * q + r) % 96 = 32 * q + r by omega]
  refine ⟨extf .f32 (mulf (sitofp .bf16 cd : FVec Ideal S32x128 .bf16) (extf .bf16 (shapeCast S32x128 g (by decide) : FVec Ideal S32x128 .fp8e5m2) (by decide))) (by decide), ?_, ?_⟩
  · intro r l hr hl
    refine (a2_extf _ _ r l).trans ((a2_mulf _ _ r l).trans ?_)
    unfold Pt.CG
    rw [← hcd r l hr hl, ← hg r l hr hl]
    rfl
  · have e : (s.set .codes (VecWindow.put (s := Bf.codes.sh) (s .codes) ![0, 8 * o + h, 32 * q, 128 * lt] S1x1x32x128.size (shapeCast S1x1x32x128 cd (by decide))))
        = (s.set .codes (u4 (n0 := 1) (n1 := 16) (n2 := 96) (n3 := 256) (s .codes)
          (fun i H d p => In 0 1 i ∧ In (8 * o + h) 1 H ∧ In (32 * q) 32 d ∧ In (128 * lt) 128 p) (fun _ H d p => P.CDH H d p))) := by
      refine St.set_eq s .codes ?_
      refine put4 (m0 := 1) (m1 := 1) (m2 := 32) (m3 := 128) (n0 := 1) (n1 := 16) (n2 := 96) (n3 := 256) _ _ _ _ _ _ (fun _ H d p => P.CDH H d p) fun i j r l hi hj hr hl => ?_
      obtain rfl : i = 0 := by omega
      obtain rfl : j = 0 := by omega
      rw [sc_1x1x32x128, hcd r l hr hl]
      unfold Pt.CDH
      rw [show (8 * o + h + 0) / 8 = o by omega, show (8 * o + h + 0) % 8 = h by omega, Nat.add_assoc]
    rw [← e]
    have eg : (s.set .codes (VecWindow.put (s := Bf.codes.sh) (s .codes) ![0, 8 * o + h, 32 * q, 128 * lt] S1x1x32x128.size (shapeCast S1x1x32x128 cd (by decide)))) .g = s .g := St.set_ne _ (by decide) _
    refine Eq.trans rfl (congrArg (fun z : (Bf.g.sh).Idx → Elt Ideal Bf.g.el => (k (extf .f32 (mulf (sitofp .bf16 cd : FVec Ideal S32x128 .bf16) (extf .bf16 (shapeCast S32x128 ((fun y => z ((Rect.unit (s := Bf.g.sh) ![0, 8 * o + h, 32 * q, 128 * lt] S1x1x32x128.size (inb4 (by omega) (by omega) (by omega) (by omega))).toLoadRect.idx y)) : FVec Ideal S1x1x32x128 .fp8e5m2) (by decide) : FVec Ideal S32x128 .fp8e5m2) (by decide))) (by decide))).run
      (s.set .codes (VecWindow.put (s := Bf.codes.sh) (s .codes) ![0, 8 * o + h, 32 * q, 128 * lt] S1x1x32x128.size (shapeCast S1x1x32x128 cd (by decide))))) eg)

/-- Sixteen rows of a function of row and position. -/
abbrev Strip16 (f : Nat → Nat → EReal) (row lt : Nat) (x : FVec Ideal S16x128 .f32) : Prop :=
  ∀ r l, r < 16 → l < 128 → (a2 (n0 := 16) (n1 := 128) x r l : EReal) = f (row + r) (128 * lt + l)

theorem two_strip {f : Nat → Nat → EReal} {row lt : Nat} {x y : FVec Ideal S8x128 .f32} (hx : Strip f row lt x) (hy : Strip f (row + 8) lt y) :
    Strip16 f row lt (two x y) := fun r l hr hl => by
  rw [two_at x y r l hr]
  split
  · exact hx r l (by omega) hl
  · rw [hy (r - 8) l (by omega) hl]; congr 1; omega

theorem rStep_run (I : Ready P o s) (h lt t : Nat) (hh : h < 8) (hlt : lt < 2) (ht : t < 3) (gs1 : FVec Ideal S1x128 .bf16) (c1 c2 : FVec Ideal S16x128 .f32)
    (hgs : ∀ l, l < 128 → (a2 (n0 := 1) (n1 := 128) gs1 0 l : EReal) = P.GS (8 * o + h) (128 * lt + l))
    (h1 : Strip16 (P.GI o) (96 * h + 16 * t) lt c1) (h2 : Strip16 (P.GI o) (96 * h + 48 + 16 * t) lt c2) (k : Cmd Ideal M α) :
    (rStep h lt t hh hlt ht gs1 c1 c2 k).run s = k.run (s.set .dkt (u2 (n0 := 768) (n1 := 256) (s .dkt)
      (fun i l => (In (96 * h + 16 * t) 16 i ∨ In (96 * h + 48 + 16 * t) 16 i) ∧ In (128 * lt) 128 l) (P.DK o))) := by
  let c : FVec Ideal S1x16x128 .f32 := fun y => s .cos ((Rect.unit (s := Bf.cos.sh) ![0, 16 * t, 128 * lt] S1x16x128.size (inb3 (by omega) (by omega) (by omega))).toLoadRect.idx y)
  let sn : FVec Ideal S1x16x128 .f32 := fun y => s .sin ((Rect.unit (s := Bf.sin.sh) ![0, 16 * t, 128 * lt] S1x16x128.size (inb3 (by omega) (by omega) (by omega))).toLoadRect.idx y)
  let c16 : FVec Ideal S16x128 .f32 := shapeCast S16x128 c (by decide)
  let s16 : FVec Ideal S16x128 .f32 := shapeCast S16x128 sn (by decide)
  have hc : ∀ r l, r < 16 → l < 128 → (a2 (n0 := 16) (n1 := 128) c16 r l : EReal) = P.C (16 * t + r) (128 * lt + l) := fun r l hr hl => by
    refine (sc_16x128 c _ r l).trans ((a3_idx (m0 := 1) (m1 := 16) (m2 := 128) (n0 := 1) (n1 := 48) (n2 := 256) (s .cos) _ 0 r l (by omega) hr hl).trans ?_)
    exact I.inp.cos _ _ (by omega) (by omega)
  have hs : ∀ r l, r < 16 → l < 128 → (a2 (n0 := 16) (n1 := 128) s16 r l : EReal) = P.S (16 * t + r) (128 * lt + l) := fun r l hr hl => by
    refine (sc_16x128 sn _ r l).trans ((a3_idx (m0 := 1) (m1 := 16) (m2 := 128) (n0 := 1) (n1 := 48) (n2 := 256) (s .sin) _ 0 r l (by omega) hr hl).trans ?_)
    exact I.inp.sin _ _ (by omega) (by omega)
  let lo : FVec Ideal S16x128 .bf16 := mulf (truncf .bf16 (addf (mulf c1 c16) (mulf c2 s16)) (by decide)) (broadcastTo S16x128 gs1 (by decide))
  let hi : FVec Ideal S16x128 .bf16 := mulf (truncf .bf16 (subf (mulf c2 c16) (mulf c1 s16)) (by decide)) (broadcastTo S16x128 gs1 (by decide))
  have hlo : ∀ r l, r < 16 → l < 128 → (a2 (n0 := 16) (n1 := 128) lo r l : EReal) = P.DK o (96 * h + 16 * t + r) (128 * lt + l) := fun r l hr hl => by
    refine (a2_mulf _ _ r l).trans ?_
    rw [row_16x128, hgs l hl, a2_truncf, a2_addf, a2_mulf, a2_mulf, h1 r l hr hl, h2 r l hr hl, hc r l hr hl, hs r l hr hl]
    unfold Pt.DK
    rw [if_pos (by omega), show (96 * h + 16 * t + r) % 96 = 16 * t + r by omega, show 96 * h + 16 * t + r + 48 = 96 * h + 48 + 16 * t + r by omega,
      show (96 * h + 16 * t + r) / 96 = h by omega]
  have hhi : ∀ r l, r < 16 → l < 128 → (a2 (n0 := 16) (n1 := 128) hi r l : EReal) = P.DK o (96 * h + 48 + 16 * t + r) (128 * lt + l) := fun r l hr hl => by
    refine (a2_mulf _ _ r l).trans ?_
    rw [row_16x128, hgs l hl, a2_truncf, a2_subf, a2_mulf, a2_mulf, h1 r l hr hl, h2 r l hr hl, hc r l hr hl, hs r l hr hl]
    unfold Pt.DK
    rw [if_neg (by omega), show (96 * h + 48 + 16 * t + r) % 96 - 48 = 16 * t + r by omega, show 96 * h + 48 + 16 * t + r - 48 = 96 * h + 16 * t + r by omega,
      show (96 * h + 48 + 16 * t + r) / 96 = h by omega]
  refine congrArg (fun s' => k.run s') ?_
  show ((s.set .dkt (VecWindow.put (s := Bf.dkt.sh) (s .dkt) ![96 * h + 16 * t, 128 * lt] S16x128.size (shapeCast S16x128 lo _))).set .dkt
    (VecWindow.put (s := Bf.dkt.sh) ((s.set .dkt (VecWindow.put (s := Bf.dkt.sh) (s .dkt) ![96 * h + 16 * t, 128 * lt] S16x128.size (shapeCast S16x128 lo _))) .dkt)
      ![96 * h + 48 + 16 * t, 128 * lt] S16x128.size (shapeCast S16x128 hi _))) = _
  rw [St.set_same, St.set_set, sc_self, sc_self]
  refine St.set_eq s .dkt ?_
  refine (put2 (m0 := 16) (m1 := 128) (n0 := 768) (n1 := 256) _ _ _ _ (P.DK o) hhi).trans ?_
  refine (congrArg (fun x => u2 (n0 := 768) (n1 := 256) x _ (P.DK o)) (put2 (m0 := 16) (m1 := 128) (n0 := 768) (n1 := 256) (s .dkt) _ _ _ (P.DK o) hlo)).trans ?_
  rw [u2_u2]
  exact u2_congr _ _ fun i l _ _ => by tauto

end Cert.K
-- ==== Proof.K.Head.lean ====
/-
  A head quantised at the ideal instance, and the sixteen of an oct.
-/
module

public import proofs.«01_k».proof.Proof.K.Quant

@[expose] public section

noncomputable section

namespace Cert.K

open Idealize.ShloMosaic Cmd

variable {sig : RefSig} {M : Ms sig} {α : Type}
variable {P : Pt} {o : Nat} {s : St Ideal}

/-- Sums of twelve strips. -/
theorem acc_strip {f : Nat → Nat → EReal} {h lt : Nat} {p0 p1 p2 p3 p4 p5 p6 p7 p8 p9 p10 p11 : FVec Ideal S8x128 .f32}
    (h0 : Strip f (96 * h + 8 * 0) lt p0) (h1 : Strip f (96 * h + 8 * 1) lt p1) (h2 : Strip f (96 * h + 8 * 2) lt p2) (h3 : Strip f (96 * h + 8 * 3) lt p3)
    (h4 : Strip f (96 * h + 8 * 4) lt p4) (h5 : Strip f (96 * h + 8 * 5) lt p5) (h6 : Strip f (96 * h + 8 * 6) lt p6) (h7 : Strip f (96 * h + 8 * 7) lt p7)
    (h8 : Strip f (96 * h + 8 * 8) lt p8) (h9 : Strip f (96 * h + 8 * 9) lt p9) (h10 : Strip f (96 * h + 8 * 10) lt p10) (h11 : Strip f (96 * h + 8 * 11) lt p11)
    (r l : Nat) (hr : r < 8) (hl : l < 128) :
    (a2 (n0 := 8) (n1 := 128) (addf (addf (addf (addf (addf (addf (addf (addf (addf (addf (addf p0 p1) p2) p3) p4) p5) p6) p7) p8) p9) p10) p11) r l : EReal)
      = chain12 fun j => f (96 * h + 8 * j + r) (128 * lt + l) := by
  simp only [a2_addf]
  rw [h0 r l hr hl, h1 r l hr hl, h2 r l hr hl, h3 r l hr hl, h4 r l hr hl, h5 r l hr hl, h6 r l hr hl, h7 r l hr hl, h8 r l hr hl, h9 r l hr hl, h10 r l hr hl, h11 r l hr hl]
  rfl

theorem eight_strip {f : Nat → Nat → EReal} {h lt q j : Nat} (hj : j < 4) {y : FVec Ideal S32x128 .f32}
    (hy : ∀ r l, r < 32 → l < 128 → (a2 (n0 := 32) (n1 := 128) y r l : EReal) = f (96 * h + 32 * q + r) (128 * lt + l)) :
    Strip f (96 * h + 8 * (4 * q + j)) lt (eight j hj y) := fun r l hr hl => by
  refine (slice2 (m0 := 8) (m1 := 128) (n0 := 32) (n1 := 128) y _ (by omega) (by omega) r l hr hl).trans ?_
  rw [hy _ _ (by omega) (by omega)]
  congr 1 <;> omega

/-- A head quantised. -/
theorem quant_run (ho : o < 2) (I : Ready P o s) (h lt : Nat) (hh : h < 8) (hlt : lt < 2) :
    (quant o h lt ho hh hlt : Cmd Ideal M Unit).run s = ((), ((s.set .codes (u4 (n0 := 1) (n1 := 16) (n2 := 96) (n3 := 256) (s .codes)
          (fun i H d p => In 0 1 i ∧ In (8 * o + h) 1 H ∧ In 0 96 d ∧ In (128 * lt) 128 p) (fun _ H d p => P.CDH H d p))).set .pm
        (u3 (n0 := 2) (n1 := 64) (n2 := 128) (s .pm) (fun a i l => In lt 1 a ∧ In (8 * h) 8 i ∧ In 0 128 l) (P.PM2 o))).set .dkt
        (u2 (n0 := 768) (n1 := 256) (s .dkt) (fun i l => In (96 * h) 96 i ∧ In (128 * lt) 128 l) (P.DK o))) := by
  let inv : FVec Ideal S1x128 .f32 := fun y => s .inv ((Rect.unit (s := Bf.inv.sh) ![h, 128 * lt] S1x128.size (inb2 (by omega) (by omega))).toLoadRect.idx y)
  let gs : FVec Ideal S1x1x128 .f32 := fun y => s .gs ((Rect.unit (s := Bf.gs.sh) ![0, 8 * o + h, 128 * lt] S1x1x128.size (inb3 (by omega) (by omega) (by omega))).toLoadRect.idx y)
  let gs1 : FVec Ideal S1x128 .bf16 := truncf .bf16 (shapeCast S1x128 gs (by decide) : FVec Ideal S1x128 .f32) (by decide)
  have hinv : ∀ l, l < 128 → (a2 (n0 := 1) (n1 := 128) inv 0 l : EReal) = P.INV o h (128 * lt + l) := fun l hl =>
    (a2_idx (m0 := 1) (m1 := 128) (n0 := 8) (n1 := 256) (s .inv) _ 0 l (by omega) hl).trans (I.inv _ _ (by omega) (by omega))
  have hgs : ∀ l, l < 128 → (a2 (n0 := 1) (n1 := 128) gs1 0 l : EReal) = P.GS (8 * o + h) (128 * lt + l) := fun l hl => by
    refine (a2_truncf _ _ 0 l).trans ((sc_1x128 gs _ l).trans ?_)
    refine (a3_idx (m0 := 1) (m1 := 1) (m2 := 128) (n0 := 1) (n1 := 16) (n2 := 256) (s .gs) _ 0 0 l (by omega) (by omega) hl).trans ?_
    exact I.inp.gs _ _ (by omega) (by omega)
  unfold quant
  obtain ⟨r0, g0, p0, hr0, hg0, hp0, e0⟩ := qStep_run (M := M) I h lt 0 hh hlt (by decide) inv hinv (fun r0 g0 p0 => qStep h lt 1 hh hlt (by decide) inv fun r1 g1 p1 =>
    qStep h lt 2 hh hlt (by decide) inv fun r2 g2 p2 => qStep h lt 3 hh hlt (by decide) inv fun r3 g3 p3 =>
    qStep h lt 4 hh hlt (by decide) inv fun r4 g4 p4 => qStep h lt 5 hh hlt (by decide) inv fun r5 g5 p5 =>
    qStep h lt 6 hh hlt (by decide) inv fun r6 g6 p6 => qStep h lt 7 hh hlt (by decide) inv fun r7 g7 p7 =>
    qStep h lt 8 hh hlt (by decide) inv fun r8 g8 p8 => qStep h lt 9 hh hlt (by decide) inv fun r9 g9 p9 =>
    qStep h lt 10 hh hlt (by decide) inv fun r10 g10 p10 => qStep h lt 11 hh hlt (by decide) inv fun r11 g11 p11 =>
    let acc := addf (addf (addf (addf (addf (addf (addf (addf (addf (addf (addf p0 p1) p2) p3) p4) p5) p6) p7) p8) p9) p10) p11
    cStep o h lt 0 ho hh hlt (by decide) r0 r1 r2 r3 fun a =>
    cStep o h lt 1 ho hh hlt (by decide) r4 r5 r6 r7 fun b =>
    cStep o h lt 2 ho hh hlt (by decide) r8 r9 r10 r11 fun c =>
    let s4 := addf (addf (addf (eight 0 (by decide) a) (eight 1 (by decide) a)) (eight 2 (by decide) a)) (eight 3 (by decide) a)
    let s8 := addf (addf (addf (addf s4 (eight 0 (by decide) b)) (eight 1 (by decide) b)) (eight 2 (by decide) b)) (eight 3 (by decide) b)
    let s12 := addf (addf (addf (addf s8 (eight 0 (by decide) c)) (eight 1 (by decide) c)) (eight 2 (by decide) c)) (eight 3 (by decide) c)
    ldU .pm ![lt, 8 * h, 0] S1x8x128.size (inb3 (by omega) (by omega) (by omega)) (by decide) fun _ =>
    stU .pm ![lt, 8 * h, 0] S1x8x128.size (inb3 (by omega) (by omega) (by omega)) (by decide) rfl (shapeCast S1x8x128 (subf s12 acc) (by decide)) <|
    rStep h lt 0 hh hlt (by decide) gs1 (two g0 g1) (two g6 g7) <|
    rStep h lt 1 hh hlt (by decide) gs1 (two g2 g3) (two g8 g9) <|
    rStep h lt 2 hh hlt (by decide) gs1 (two g4 g5) (two g10 g11) <|
    .ret ())
  refine e0.trans ?_
  clear e0
  obtain ⟨r1, g1, p1, hr1, hg1, hp1, e⟩ := qStep_run (M := M) I h lt 1 hh hlt (by decide) inv hinv _
  refine e.trans ?_
  clear e
  obtain ⟨r2, g2, p2, hr2, hg2, hp2, e⟩ := qStep_run (M := M) I h lt 2 hh hlt (by decide) inv hinv _
  refine e.trans ?_
  clear e
  obtain ⟨r3, g3, p3, hr3, hg3, hp3, e⟩ := qStep_run (M := M) I h lt 3 hh hlt (by decide) inv hinv _
  refine e.trans ?_
  clear e
  obtain ⟨r4, g4, p4, hr4, hg4, hp4, e⟩ := qStep_run (M := M) I h lt 4 hh hlt (by decide) inv hinv _
  refine e.trans ?_
  clear e
  obtain ⟨r5, g5, p5, hr5, hg5, hp5, e⟩ := qStep_run (M := M) I h lt 5 hh hlt (by decide) inv hinv _
  refine e.trans ?_
  clear e
  obtain ⟨r6, g6, p6, hr6, hg6, hp6, e⟩ := qStep_run (M := M) I h lt 6 hh hlt (by decide) inv hinv _
  refine e.trans ?_
  clear e
  obtain ⟨r7, g7, p7, hr7, hg7, hp7, e⟩ := qStep_run (M := M) I h lt 7 hh hlt (by decide) inv hinv _
  refine e.trans ?_
  clear e
  obtain ⟨r8, g8, p8, hr8, hg8, hp8, e⟩ := qStep_run (M := M) I h lt 8 hh hlt (by decide) inv hinv _
  refine e.trans ?_
  clear e
  obtain ⟨r9, g9, p9, hr9, hg9, hp9, e⟩ := qStep_run (M := M) I h lt 9 hh hlt (by decide) inv hinv _
  refine e.trans ?_
  clear e
  obtain ⟨r10, g10, p10, hr10, hg10, hp10, e⟩ := qStep_run (M := M) I h lt 10 hh hlt (by decide) inv hinv _
  refine e.trans ?_
  clear e
  obtain ⟨r11, g11, p11, hr11, hg11, hp11, e⟩ := qStep_run (M := M) I h lt 11 hh hlt (by decide) inv hinv _
  refine e.trans ?_
  clear e
  have Ic : ∀ x, Ready P o (s.set .codes x) := fun x => I.set .codes x (Or.inl rfl)
  obtain ⟨a, hsa, e⟩ := cStep_run (M := M) ho I h lt 0 hh hlt (by decide) r0 r1 r2 r3 hr0 hr1 hr2 hr3 _
  refine e.trans ?_
  clear e
  obtain ⟨b, hsb, e⟩ := cStep_run (M := M) (s := s.set .codes _) ho (Ic _) h lt 1 hh hlt (by decide) r4 r5 r6 r7 hr4 hr5 hr6 hr7 _
  refine e.trans ?_
  clear e
  rw [St.set_same, St.set_set, u4_u4]
  obtain ⟨c, hsc, e⟩ := cStep_run (M := M) (s := s.set .codes _) ho (Ic _) h lt 2 hh hlt (by decide) r8 r9 r10 r11 hr8 hr9 hr10 hr11 _
  refine e.trans ?_
  clear e
  rw [St.set_same, St.set_set, u4_u4]
  rw [u4_congr (R' := fun i H d p => In 0 1 i ∧ In (8 * o + h) 1 H ∧ In 0 96 d ∧ In (128 * lt) 128 p) _ _ (fun i H d p _ _ _ _ => by simp only [In]; omega)]
  generalize hs1 : s.set .codes _ = s1
  have I1 : Ready P o s1 := hs1 ▸ Ic _
  have hpm : s1 .pm = s .pm := hs1 ▸ St.set_ne _ (by decide) _
  have hdkt : s1 .dkt = s .dkt := hs1 ▸ St.set_ne _ (by decide) _
  have hv : ∀ a' i l, a' < 1 → i < 8 → l < 128 → (a3 (n0 := 1) (n1 := 8) (n2 := 128) (shapeCast S1x8x128 (subf
      (addf (addf (addf (addf (addf (addf (addf (addf (addf (addf (addf (eight 0 (by decide) a) (eight 1 (by decide) a)) (eight 2 (by decide) a)) (eight 3 (by decide) a))
        (eight 0 (by decide) b)) (eight 1 (by decide) b)) (eight 2 (by decide) b)) (eight 3 (by decide) b))
        (eight 0 (by decide) c)) (eight 1 (by decide) c)) (eight 2 (by decide) c)) (eight 3 (by decide) c))
      (addf (addf (addf (addf (addf (addf (addf (addf (addf (addf (addf p0 p1) p2) p3) p4) p5) p6) p7) p8) p9) p10) p11)) (by decide)) a' i l : EReal)
      = P.PM2 o (lt + a') (8 * h + i) (0 + l) := fun a' i l ha hi hl => by
    obtain rfl : a' = 0 := by omega
    rw [sc_1x8x128, a2_subf, acc_strip hp0 hp1 hp2 hp3 hp4 hp5 hp6 hp7 hp8 hp9 hp10 hp11 i l hi hl,
      acc_strip (f := P.CG o) (h := h) (eight_strip (q := 0) (j := 0) (by decide) hsa) (eight_strip (q := 0) (j := 1) (by decide) hsa) (eight_strip (q := 0) (j := 2) (by decide) hsa) (eight_strip (q := 0) (j := 3) (by decide) hsa)
        (eight_strip (q := 1) (j := 0) (by decide) hsb) (eight_strip (q := 1) (j := 1) (by decide) hsb) (eight_strip (q := 1) (j := 2) (by decide) hsb) (eight_strip (q := 1) (j := 3) (by decide) hsb)
        (eight_strip (q := 2) (j := 0) (by decide) hsc) (eight_strip (q := 2) (j := 1) (by decide) hsc) (eight_strip (q := 2) (j := 2) (by decide) hsc) (eight_strip (q := 2) (j := 3) (by decide) hsc) i l hi hl]
    unfold Pt.PM2
    rw [show (8 * h + i) / 8 = h by omega, show (8 * h + i) % 8 = i by omega, show lt + 0 = lt from rfl, show 0 + l = l by omega]
  have ep := (put3 (m0 := 1) (m1 := 8) (m2 := 128) (n0 := 2) (n1 := 64) (n2 := 128) (s1 .pm) lt (8 * h) 0 _ (P.PM2 o) hv)
  have I2 : ∀ x, Ready P o (s1.set .pm x) := fun x => I1.set .pm x (Or.inr (Or.inl rfl))
  have I3 : ∀ x y, Ready P o ((s1.set .pm x).set .dkt y) := fun x y => (I2 x).set .dkt y (Or.inr (Or.inr rfl))
  refine (rStep_run (M := M) (s := s1.set .pm _) (I2 _) h lt 0 hh hlt (by decide) gs1 (two g0 g1) (two g6 g7) hgs (two_strip hg0 hg1) (two_strip hg6 hg7) _).trans ?_
  refine (rStep_run (M := M) (s := (s1.set .pm _).set .dkt _) (I3 _ _) h lt 1 hh hlt (by decide) gs1 (two g2 g3) (two g8 g9) hgs (two_strip hg2 hg3) (two_strip hg8 hg9) _).trans ?_
  rw [St.set_same, St.set_set, u2_u2]
  refine (rStep_run (M := M) (s := (s1.set .pm _).set .dkt _) (I3 _ _) h lt 2 hh hlt (by decide) gs1 (two g4 g5) (two g10 g11) hgs (two_strip hg4 hg5) (two_strip hg10 hg11) _).trans ?_
  rw [St.set_same, St.set_set, u2_u2, run_ret, St.set_ne _ (by decide)]
  rw [u2_congr (R' := fun i l => In (96 * h) 96 i ∧ In (128 * lt) 128 l) _ _ (fun i l hi hl => by simp only [In]; omega), hdkt]
  refine congrArg (fun x => ((), (s1.set .pm x).set .dkt _)) (ep.trans ?_)
  rw [hpm]

/-- The heads quantised so far. -/
structure Quantd (P : Pt) (o n : Nat) (s₀ s : St Ideal) : Prop where
  /-- the codes -/
  codes : s .codes = u4 (n0 := 1) (n1 := 16) (n2 := 96) (n3 := 256) (s₀ .codes) (fun _ H _ p => H / 8 = o ∧ H % 8 + 8 * (p / 128) < n) (fun _ H d p => P.CDH H d p)
  /-- the partial sums -/
  pm : s .pm = u3 (n0 := 2) (n1 := 64) (n2 := 128) (s₀ .pm) (fun a i _ => i / 8 + 8 * a < n) (P.PM2 o)
  /-- the key gradient -/
  dkt : s .dkt = u2 (n0 := 768) (n1 := 256) (s₀ .dkt) (fun i l => i / 96 + 8 * (l / 128) < n) (P.DK o)
  /-- the other buffers -/
  rest : ∀ b, b ≠ .codes → b ≠ .pm → b ≠ .dkt → s b = s₀ b

theorem Quantd.start (P : Pt) (o : Nat) (s : St Ideal) : Quantd P o 0 s s where
  codes := by funext y; simp [u4]
  pm := by funext y; simp [u3]
  dkt := by funext y; simp [u2]
  rest _ _ _ _ := rfl

theorem Quantd.step {n : Nat} {s₀ s : St Ideal} (Q : Quantd P o n s₀ s) (ho : o < 2) (I : Ready P o s₀) (h lt : Nat) (hh : h < 8) (hlt : lt < 2)
    (hn : h + 8 * lt = n) : ∃ s', Quantd P o (n + 1) s₀ s' ∧ (quant o h lt ho hh hlt : Cmd Ideal M Unit).run s = ((), s') := by
  have I' : Ready P o s := I.of_eq Q.rest
  refine ⟨_, ?_, quant_run ho I' h lt hh hlt⟩
  constructor
  · rw [St.set_ne _ (by decide), St.set_ne _ (by decide), St.set_same, Q.codes, u4_u4]
    refine u4_congr _ _ fun i H d p hi hH hd hp => ?_
    simp only [In]; omega
  · rw [St.set_ne _ (by decide), St.set_same, Q.pm, u3_u3]
    refine u3_congr _ _ fun a i l ha hi hl => ?_
    simp only [In]; omega
  · rw [St.set_same, Q.dkt, u2_u2]
    refine u2_congr _ _ fun i l hi hl => ?_
    simp only [In]; omega
  · intro b h1 h2 h3
    rw [St.set_ne _ h3, St.set_ne _ h2, St.set_ne _ h1, Q.rest b h1 h2 h3]

end Cert.K
-- ==== Proof.K.First.lean ====
/-
  The programs of the first and of the last grid point at the ideal instance.
-/
module

public import proofs.«01_k».proof.Proof.K.Head

@[expose] public section

noncomputable section

namespace Cert.K

open Idealize.ShloMosaic Cmd

variable {sig : RefSig} {M : Ms sig} {α : Type}

/-- What the first grid point leaves in the scratch for the others. -/
structure Kept (al : Bf.al.sh.Idx → EReal) (s : St Ideal) : Prop where
  /-- the identity for the keys -/
  eb : ∀ i j, i < 128 → j < 128 → (a2 (n0 := 128) (n1 := 128) (s .eb) i j : EReal) = if i = j then 1 else 0
  /-- the identity for the gradient codes -/
  ef : ∀ i j, i < 96 → j < 96 → (a2 (n0 := 96) (n1 := 96) (s .ef) i j : EReal) = if i = j then 1 else 0
  /-- the step parameter over the lanes -/
  ac : ∀ i l, i < 80 → l < 128 → (a2 (n0 := 80) (n1 := 128) (s .ac) i l : EReal) = (a1 (n0 := 80) al i : EReal)

theorem Kept.of_eq' {al : Bf.al.sh.Idx → EReal} {s s' : St Ideal} (k : Kept al s) (h0 : s' .eb = s .eb) (h1 : s' .ef = s .ef) (h2 : s' .ac = s .ac) : Kept al s' := by
  constructor
  · rw [h0]; exact k.eb
  · rw [h1]; exact k.ef
  · rw [h2]; exact k.ac

theorem Kept.of_eq {al : Bf.al.sh.Idx → EReal} {s s' : St Ideal} (k : Kept al s) (h : ∀ b, b = .eb ∨ b = .ef ∨ b = .ac → s' b = s b) : Kept al s' := by
  constructor
  · rw [h .eb (by simp)]; exact k.eb
  · rw [h .ef (by simp)]; exact k.ef
  · rw [h .ac (by simp)]; exact k.ac

/-- An element of an identity matrix. -/
theorem eye_elt {n : Nat} (hn : n < 2 ^ 32) (i j : Nat) (hi : i < n) (hj : j < n) :
    (if BitVec.ofBool (BitVec.ofNat 32 (0 * n + i % n) == BitVec.ofNat 32 (0 * n + j % n)) = 1#1 then Ideal.ofBits .f32 0x3F800000#32 else Ideal.ofBits .f32 0x00000000#32)
      = if i = j then (1 : EReal) else 0 := by
  rw [Ideal.ofBits_one_f32, Ideal.ofBits_zero_f32, Nat.mod_eq_of_lt hi, Nat.mod_eq_of_lt hj, Nat.zero_mul, Nat.zero_add, Nat.zero_add]
  by_cases h : i = j
  · subst h; simp
  · have hb : (BitVec.ofNat 32 i == BitVec.ofNat 32 j) = false := by
      rw [beq_eq_false_iff_ne]
      intro e
      have e' := congrArg BitVec.toNat e
      rw [BitVec.toNat_ofNat, BitVec.toNat_ofNat, Nat.mod_eq_of_lt (by omega), Nat.mod_eq_of_lt (by omega)] at e'
      exact h e'
    rw [hb, if_neg h]; simp

/-- The lanes of the step parameter. -/
theorem lanes_at (x : FVec Ideal S80 .f32) (h1 h2 h3 h4) (i l : Nat) :
    (a2 (n0 := 80) (n1 := 128) (transpose S80x128 [1, 0] (broadcastTo S128x80 (shapeCast S1x80 (shapeCast S1x80 x h1) h2) h3) h4) i l : EReal) = (a1 (n0 := 80) x i : EReal) := by
  unfold a2 a1; pointwise

/-- A load of the whole step parameter. -/
theorem a1_idx (x : (⟨1, ![80]⟩ : Shape).Idx → EReal) (inb) (i : Nat) (hi : i < 80) :
    a1 (n0 := 80) (fun y => x ((Rect.unit (s := ⟨1, ![80]⟩) ![0] ![80] inb).toLoadRect.idx y)) i = a1 (n0 := 80) x i := by
  unfold a1
  refine congrArg x (funext fun a => ?_)
  match a with
  | ⟨0, _⟩ => exact Fin.ext (show 0 + 1 * (i % 80) = i % 80 by omega)

/-- The first grid point's program. -/
theorem first_run (s : St Ideal) : ∃ s', (first : Cmd Ideal M Unit).run s = ((), s') ∧ Kept (s .al) s' ∧ s' .da = (fun _ => (0 : EReal))
    ∧ ∀ b, b ≠ .eb → b ≠ .ef → b ≠ .ac → b ≠ .da → s' b = s b := by
  refine ⟨_, rfl, ?_, ?_, ?_⟩
  · constructor
    · intro i j hi hj
      rw [St.set_ne _ (by decide), St.set_ne _ (by decide), St.set_ne _ (by decide), St.set_same]
      refine (congrArg (fun x => (a2 (n0 := 128) (n1 := 128) x i j : EReal)) (put2 (m0 := 128) (m1 := 128) (n0 := 128) (n1 := 128) (s .eb) 0 0 _ (fun i j => if i = j then (1 : EReal) else 0) (fun i j hi hj => ?_))).trans ?_
      · rw [sc_self, Nat.zero_add, Nat.zero_add]
        exact eye_elt (by decide) i j hi hj
      · exact a2_u2 _ _ i j hi hj (by simp only [In]; omega)
    · intro i j hi hj
      rw [St.set_ne _ (by decide), St.set_ne _ (by decide), St.set_same]
      refine (congrArg (fun x => (a2 (n0 := 96) (n1 := 96) x i j : EReal)) (put2 (m0 := 96) (m1 := 96) (n0 := 96) (n1 := 96) _ 0 0 _ (fun i j => if i = j then (1 : EReal) else 0) (fun i j hi hj => ?_))).trans ?_
      · rw [sc_self, Nat.zero_add, Nat.zero_add]
        exact eye_elt (by decide) i j hi hj
      · exact a2_u2 _ _ i j hi hj (by simp only [In]; omega)
    · intro i l hi hl
      rw [St.set_ne _ (by decide), St.set_same]
      refine (congrArg (fun x => (a2 (n0 := 80) (n1 := 128) x i l : EReal)) (put2 (m0 := 80) (m1 := 128) (n0 := 80) (n1 := 128) _ 0 0 _ (fun i _ => (a1 (n0 := 80) (s .al) i : EReal)) (fun i l hi hl => ?_))).trans ?_
      · rw [sc_self, Nat.zero_add]
        refine (lanes_at _ _ _ _ _ i l).trans (a1_idx _ _ i hi)
      · exact a2_u2 _ _ i l hi hl (by simp only [In]; omega)
  · rw [St.set_same]
    refine (put2 (m0 := 80) (m1 := 128) (n0 := 80) (n1 := 128) _ 0 0 _ (fun _ _ => (0 : EReal)) (fun i j _ _ => ?_)).trans ?_
    · rw [sc_self]; exact Ideal.ofBits_zero_f32
    · classical
      funext y
      exact if_pos ⟨⟨Nat.zero_le _, by have := (y 0).isLt; simpa using this⟩, ⟨Nat.zero_le _, by have := (y 1).isLt; simpa using this⟩⟩
  · intro b h1 h2 h3 h4
    rw [St.set_ne _ h4, St.set_ne _ h3, St.set_ne _ h2, St.set_ne _ h1]

/-- The sum over the lanes. -/
def lastF (x : Bf.da.sh.Idx → EReal) : FVec Ideal S80 .f32 :=
  multiReduction .add [0] S80 (transpose S128x80 [1, 0] (fun y => x ((Rect.unit (s := Bf.da.sh) ![0, 0] S80x128.size (by decide)).toLoadRect.idx y) : FVec Ideal S80x128 .f32) (by decide)) 0x00000000#32 (by decide) (.inl rfl) rfl

/-- The last grid point's program. -/
theorem last_run (s : St Ideal) : (last : Cmd Ideal M Unit).run s = ((), s.set .dal (lastF (s .da))) := by
  refine congrArg (Prod.mk ()) ?_
  refine St.set_eq s .dal ?_
  funext y
  have hy : ∀ a : Fin 1, (![0] : Fin 1 → Nat) a ≤ (y a).val ∧ (y a).val < (![0] : Fin 1 → Nat) a + S80.size a := fun a =>
    match a with
    | ⟨0, _⟩ => ⟨Nat.zero_le _, by have := (y 0).isLt; show (y 0).val < 0 + 80; simpa using this⟩
  refine (dif_pos hy).trans ?_
  refine congrArg (lastF (s .da)) (funext fun a => ?_)
  match a with
  | ⟨0, _⟩ => exact Fin.ext (Nat.sub_zero _)

end Cert.K
-- ==== Proof.K.Tail.lean ====
/-
  The end of an oct at the ideal instance: the step gradients, and the key gradient turned back.
-/
module

public import proofs.«01_k».proof.Proof.K.Head

@[expose] public section

noncomputable section

namespace Cert.K

open Idealize.ShloMosaic Cmd

variable {sig : RefSig} {M : Ms sig} {α : Type}
variable {P : Pt} {o : Nat} {s : St Ideal}

/-- A step gradient of a head. -/
def Pt.D8H (P : Pt) (H p : Nat) : EReal := P.D8 (H / 8) (H % 8) p

/-- The key gradient by position and column. -/
def Pt.DKC (P : Pt) (p col : Nat) : EReal := P.DK (col / 768) (col % 768) p

/-- The step gradients of an oct. -/
def Pt.d8v (P : Pt) (o : Nat) : FVec Ideal S8x256 .f32 := fun y => P.D8 o (y 0).val (y 1).val

theorem back_run (hd : ∀ i p, i < 768 → p < 256 → (a2 (n0 := 768) (n1 := 256) (s .dkt) i p : EReal) = P.DK o i p)
    (c lt : Nat) (ho : o < 2) (hc : c < 6) (hlt : lt < 2) (k : Cmd Ideal M α) :
    (back o c lt ho hc hlt k).run s = k.run (s.set .dk (u2 (n0 := 256) (n1 := 1536) (s .dk)
      (fun p col => In (128 * lt) 128 p ∧ In (768 * o + 128 * c) 128 col) P.DKC)) := by
  refine congrArg (fun s' => k.run s') ?_
  refine St.set_eq s .dk ?_
  refine put2 (m0 := 128) (m1 := 128) (n0 := 256) (n1 := 1536) _ _ _ _ P.DKC fun i j hi hj => ?_
  refine (turn _ _ i j).trans ((a2_idx (m0 := 128) (m1 := 128) (n0 := 768) (n1 := 256) (s .dkt) _ j i hj hi).trans ?_)
  rw [hd _ _ (by omega) (by omega)]
  unfold Pt.DKC
  rw [show (768 * o + 128 * c + j) / 768 = o by omega, show (768 * o + 128 * c + j) % 768 = 128 * c + j by omega]

/-- What an oct adds to the sums of the step gradients. -/
def daStep (P : Pt) (o : Nat) (off : Fin 2 → Nat) (hoff : ∀ a, off a + S8x128.size a ≤ S80x128.size a) (x : Bf.da.sh.Idx → EReal) : Bf.da.sh.Idx → EReal :=
  VecWindow.put (s := Bf.da.sh) x off S8x128.size
    (shapeCast S8x128 (addf (fun y => x ((Rect.unit (s := Bf.da.sh) off S8x128.size hoff).toLoadRect.idx y) : FVec Ideal S8x128 .f32)
      (addf (half 0 (by decide) (P.d8v o)) (half 1 (by decide) (P.d8v o))) : FVec Ideal S8x128 .f32) (by decide))

/-- The end of an oct. -/
theorem tail_run (off : Fin 2 → Nat) (hoff : ∀ a, off a + S8x128.size a ≤ S80x128.size a) (ho : o < 2) (d : Red Ideal) (hd : RedOk P o d)
    (hpm : ∀ a i l, a < 2 → i < 64 → l < 128 → (a3 (n0 := 2) (n1 := 64) (n2 := 128) (s .pm) a i l : EReal) = P.PM2 o a i l)
    (hdk : ∀ i p, i < 768 → p < 256 → (a2 (n0 := 768) (n1 := 256) (s .dkt) i p : EReal) = P.DK o i p) :
    (tail P.c7 off hoff o ho d : Cmd Ideal M Unit).run s = ((),
      ((s.set .dtok (u3 (n0 := 1) (n1 := 16) (n2 := 256) (s .dtok) (fun a i p => In 0 1 a ∧ In (8 * o) 8 i ∧ In 0 256 p) (fun _ H p => P.D8H H p))).set .da
        (daStep P o off hoff (s .da))).set .dk (u2 (n0 := 256) (n1 := 1536) (s .dk) (fun _ col => In (768 * o) 768 col) P.DKC)) := by
  unfold tail
  obtain ⟨p0, p1, p2, p3, p4, p5, p6, p7, hp, ep⟩ := pms_run (M := M) s 0 (by decide) (P.PM2 o) hpm _
  rw [ep]
  clear ep
  obtain ⟨r0, r1, r2, r3, r4, r5, r6, r7, hr, er⟩ := pms_run (M := M) s 1 (by decide) (P.PM2 o) hpm _
  rw [er]
  clear er
  have hb : ∀ r p, r < 8 → p < 256 → (a2 (n0 := 8) (n1 := 256) (beside (tree addf ![p0, p1, p2, p3, p4, p5, p6, p7]) (tree addf ![r0, r1, r2, r3, r4, r5, r6, r7])) r p : EReal)
      = tree8 (· + ·) fun i => P.PM2 o (p / 128) (8 * r + i) (p % 128) :=
    beside_tree (· + ·) (P.PM2 o) _ _ (fun r l hr' hl => tree_add _ 0 _ hp r l hr' hl) (fun r l hr' hl => tree_add _ 1 _ hr r l hr' hl)
  have h8 : mulf (mulf (beside (tree addf ![p0, p1, p2, p3, p4, p5, p6, p7]) (tree addf ![r0, r1, r2, r3, r4, r5, r6, r7])) (shapeCast S8x256 d.gs (by decide))) (mulf d.amax (broadcast S8x256 (P.c7 : Ideal .f32))) = P.d8v o := by
    funext y
    refine (at2 (n0 := 8) (n1 := 256) _ y).trans ?_
    rw [a2_mulf, a2_mulf, a2_mulf, hb _ _ (y 0).isLt (y 1).isLt, hd.gs _ _ (y 0).isLt (y 1).isLt, hd.am _ _ (y 0).isLt (y 1).isLt]
    rfl
  simp only [h8]
  generalize hs1 : (s.set .dtok (u3 (n0 := 1) (n1 := 16) (n2 := 256) (s .dtok) (fun a i p => In 0 1 a ∧ In (8 * o) 8 i ∧ In 0 256 p) (fun _ H p => P.D8H H p))) = s1
  have e1 : s.set .dtok (VecWindow.put (s := Bf.dtok.sh) (s .dtok) ![0, 8 * o, 0] S1x8x256.size (shapeCast S1x8x256 (P.d8v o) (by decide))) = s1 := by
    rw [← hs1]
    refine St.set_eq s .dtok ?_
    refine put3 (m0 := 1) (m1 := 8) (m2 := 256) (n0 := 1) (n1 := 16) (n2 := 256) _ _ _ _ _ (fun _ H p => P.D8H H p) fun a' i p ha hi hp' => ?_
    obtain rfl : a' = 0 := by omega
    rw [sc_1x8x256]
    unfold Pt.D8H
    rw [show (8 * o + i) / 8 = o by omega, show (8 * o + i) % 8 = i by omega, show 0 + p = p by omega]
    show P.D8 o (i % 8) (p % 256) = _
    rw [Nat.mod_eq_of_lt hi, Nat.mod_eq_of_lt hp']
  have eda : s1 .da = s .da := hs1 ▸ St.set_ne _ (by decide) _
  have edk : s1 .dk = s .dk := hs1 ▸ St.set_ne _ (by decide) _
  have edkt : s1 .dkt = s .dkt := hs1 ▸ St.set_ne _ (by decide) _
  have hk : ∀ (x : Bf.da.sh.Idx → EReal) (y : Bf.dk.sh.Idx → EReal), ∀ i p, i < 768 → p < 256 → (a2 (n0 := 768) (n1 := 256) (((s1.set .da x).set .dk y) .dkt) i p : EReal) = P.DK o i p := fun x y => by
    rw [St.set_ne _ (by decide), St.set_ne _ (by decide), edkt]; exact hdk
  have hk0 : ∀ (x : Bf.da.sh.Idx → EReal), ∀ i p, i < 768 → p < 256 → (a2 (n0 := 768) (n1 := 256) ((s1.set .da x) .dkt) i p : EReal) = P.DK o i p := fun x => by
    rw [St.set_ne _ (by decide), edkt]; exact hdk
  let B : Cmd Ideal M Unit := back o 0 0 ho (by decide) (by decide) <|
    back o 0 1 ho (by decide) (by decide) <|
    back o 1 0 ho (by decide) (by decide) <|
    back o 1 1 ho (by decide) (by decide) <|
    back o 2 0 ho (by decide) (by decide) <|
    back o 2 1 ho (by decide) (by decide) <|
    back o 3 0 ho (by decide) (by decide) <|
    back o 3 1 ho (by decide) (by decide) <|
    back o 4 0 ho (by decide) (by decide) <|
    back o 4 1 ho (by decide) (by decide) <|
    back o 5 0 ho (by decide) (by decide) <|
    back o 5 1 ho (by decide) (by decide) <| .ret ()
  have key : ∀ z : St Ideal, z = s1 → B.run (z.set .da (daStep P o off hoff (z .da))) = ((), (s1.set .da (daStep P o off hoff (s .da))).set .dk (u2 (n0 := 256) (n1 := 1536) (s .dk) (fun _ col => In (768 * o) 768 col) P.DKC)) := by
    rintro z rfl
    rw [eda]
    show (back o 0 0 ho (by decide) (by decide) <|
    back o 0 1 ho (by decide) (by decide) <|
    back o 1 0 ho (by decide) (by decide) <|
    back o 1 1 ho (by decide) (by decide) <|
    back o 2 0 ho (by decide) (by decide) <|
    back o 2 1 ho (by decide) (by decide) <|
    back o 3 0 ho (by decide) (by decide) <|
    back o 3 1 ho (by decide) (by decide) <|
    back o 4 0 ho (by decide) (by decide) <|
    back o 4 1 ho (by decide) (by decide) <|
    back o 5 0 ho (by decide) (by decide) <|
    back o 5 1 ho (by decide) (by decide) <| .ret () : Cmd Ideal M Unit).run _ = _
    rw [back_run (hk0 _) 0 0 ho (by decide) (by decide),
      back_run (hk _ _) 0 1 ho (by decide) (by decide), St.set_same, St.set_set, u2_u2,
      back_run (hk _ _) 1 0 ho (by decide) (by decide), St.set_same, St.set_set, u2_u2,
      back_run (hk _ _) 1 1 ho (by decide) (by decide), St.set_same, St.set_set, u2_u2,
      back_run (hk _ _) 2 0 ho (by decide) (by decide), St.set_same, St.set_set, u2_u2,
      back_run (hk _ _) 2 1 ho (by decide) (by decide), St.set_same, St.set_set, u2_u2,
      back_run (hk _ _) 3 0 ho (by decide) (by decide), St.set_same, St.set_set, u2_u2,
      back_run (hk _ _) 3 1 ho (by decide) (by decide), St.set_same, St.set_set, u2_u2,
      back_run (hk _ _) 4 0 ho (by decide) (by decide), St.set_same, St.set_set, u2_u2,
      back_run (hk _ _) 4 1 ho (by decide) (by decide), St.set_same, St.set_set, u2_u2,
      back_run (hk _ _) 5 0 ho (by decide) (by decide), St.set_same, St.set_set, u2_u2,
      back_run (hk _ _) 5 1 ho (by decide) (by decide), St.set_same, St.set_set, u2_u2, run_ret, St.set_ne _ (by decide), edk]
    rw [u2_congr (R' := fun _ col => In (768 * o) 768 col) _ _ (fun i l hi hl => by simp only [In]; omega)]
  exact key _ e1

end Cert.K
-- ==== Proof.K.Oct.lean ====
/-
  One oct of heads at the ideal instance: what it writes and what it leaves.
-/
module

public import proofs.«01_k».proof.Proof.K.First
public import proofs.«01_k».proof.Proof.K.Tail

@[expose] public section

noncomputable section

namespace Cert.K

open Idealize.ShloMosaic Cmd

variable {sig : RefSig} {M : Ms sig} {α : Type}
variable {P : Pt} {o : Nat} {s : St Ideal}

/-- A scale of a head. -/
def Pt.SCH (P : Pt) (H p : Nat) : EReal := P.SC (H / 8) (H % 8) p

/-- What an oct leaves. -/
structure OctOk (P : Pt) (o : Nat) (off : Fin 2 → Nat) (hoff : ∀ a, off a + S8x128.size a ≤ S80x128.size a) (s s' : St Ideal) : Prop where
  /-- the codes -/
  codes : s' .codes = u4 (n0 := 1) (n1 := 16) (n2 := 96) (n3 := 256) (s .codes) (fun _ H _ _ => H / 8 = o) (fun _ H d p => P.CDH H d p)
  /-- the scales -/
  sc : s' .s = u3 (n0 := 1) (n1 := 16) (n2 := 256) (s .s) (fun _ H _ => H / 8 = o) (fun _ H p => P.SCH H p)
  /-- the step gradients -/
  dtok : s' .dtok = u3 (n0 := 1) (n1 := 16) (n2 := 256) (s .dtok) (fun _ H _ => H / 8 = o) (fun _ H p => P.D8H H p)
  /-- the key gradient -/
  dk : s' .dk = u2 (n0 := 256) (n1 := 1536) (s .dk) (fun _ col => col / 768 = o) P.DKC
  /-- the sums of the step gradients -/
  da : s' .da = daStep P o off hoff (s .da)
  /-- the other buffers, but for the scratch of the oct -/
  rest : ∀ b, b ≠ .codes → b ≠ .s → b ≠ .dtok → b ≠ .dk → b ≠ .da → b ≠ .kr → b ≠ .gt → b ≠ .pm → b ≠ .dkt → b ≠ .inv → s' b = s b

/-- An oct of heads. -/
theorem oct_run (off : Fin 2 → Nat) (hoff : ∀ a, off a + S8x128.size a ≤ S80x128.size a) (ho : o < 2) (I : Inp P o s)
    (hac : ∀ r l, r < 8 → l < 128 → (a2 (n0 := 8) (n1 := 128) (fun y => s .ac ((Rect.unit (s := Bf.ac.sh) off S8x128.size hoff).toLoadRect.idx y)) r l : EReal) = P.AL (8 * o + r)) :
    ∃ s', (oct P.c7 off hoff o ho : Cmd Ideal M Unit).run s = ((), s') ∧ OctOk P o off hoff s s' := by
  unfold oct
  obtain ⟨q, hq, e⟩ := keys_run (M := M) ho I
  rw [run_bind_of e]
  clear e
  rw [run_bind_of (grads_run ho I)]
  generalize hs0 : s.set .gt (u2 (n0 := 768) (n1 := 256) (s .gt) (fun _ _ => True) (P.GT o)) = s0
  have I1 : Inp P o s0 := hs0 ▸ I.set .gt _ (by decide)
  have R0 := Rotd.start P o s0
  obtain ⟨s1, R1, e⟩ := R0.step (M := M) I1 q hq 0 0 (by decide) (by decide) rfl
  rw [run_bind_of e]
  clear e
  obtain ⟨s2, R2, e⟩ := R1.step (M := M) I1 q hq 1 0 (by decide) (by decide) rfl
  rw [run_bind_of e]
  clear e
  obtain ⟨s3, R3, e⟩ := R2.step (M := M) I1 q hq 2 0 (by decide) (by decide) rfl
  rw [run_bind_of e]
  clear e
  obtain ⟨s4, R4, e⟩ := R3.step (M := M) I1 q hq 3 0 (by decide) (by decide) rfl
  rw [run_bind_of e]
  clear e
  obtain ⟨s5, R5, e⟩ := R4.step (M := M) I1 q hq 4 0 (by decide) (by decide) rfl
  rw [run_bind_of e]
  clear e
  obtain ⟨s6, R6, e⟩ := R5.step (M := M) I1 q hq 5 0 (by decide) (by decide) rfl
  rw [run_bind_of e]
  clear e
  obtain ⟨s7, R7, e⟩ := R6.step (M := M) I1 q hq 6 0 (by decide) (by decide) rfl
  rw [run_bind_of e]
  clear e
  obtain ⟨s8, R8, e⟩ := R7.step (M := M) I1 q hq 7 0 (by decide) (by decide) rfl
  rw [run_bind_of e]
  clear e
  obtain ⟨s9, R9, e⟩ := R8.step (M := M) I1 q hq 0 1 (by decide) (by decide) rfl
  rw [run_bind_of e]
  clear e
  obtain ⟨s10, R10, e⟩ := R9.step (M := M) I1 q hq 1 1 (by decide) (by decide) rfl
  rw [run_bind_of e]
  clear e
  obtain ⟨s11, R11, e⟩ := R10.step (M := M) I1 q hq 2 1 (by decide) (by decide) rfl
  rw [run_bind_of e]
  clear e
  obtain ⟨s12, R12, e⟩ := R11.step (M := M) I1 q hq 3 1 (by decide) (by decide) rfl
  rw [run_bind_of e]
  clear e
  obtain ⟨s13, R13, e⟩ := R12.step (M := M) I1 q hq 4 1 (by decide) (by decide) rfl
  rw [run_bind_of e]
  clear e
  obtain ⟨s14, R14, e⟩ := R13.step (M := M) I1 q hq 5 1 (by decide) (by decide) rfl
  rw [run_bind_of e]
  clear e
  obtain ⟨s15, R15, e⟩ := R14.step (M := M) I1 q hq 6 1 (by decide) (by decide) rfl
  rw [run_bind_of e]
  clear e
  obtain ⟨s16, R16, e⟩ := R15.step (M := M) I1 q hq 7 1 (by decide) (by decide) rfl
  rw [run_bind_of e]
  clear e
  have I3 : Inp P o s16 := I1.of_eq fun b hb => R16.rest b (by rintro rfl; simp at hb) (by rintro rfl; simp at hb)
  have hac' : s16 .ac = s .ac := (R16.rest .ac (by decide) (by decide)).trans (hs0 ▸ St.set_ne _ (by decide) _)
  obtain ⟨d, hd, e⟩ := reduce_run (M := M) off hoff ho I3 (fun a i l ha hi hl => by
    rw [R16.pm]; exact a3_u3 _ _ a i l ha hi hl (by omega)) (by rw [hac']; exact hac)
  rw [run_bind_of e]
  clear e
  generalize ht0 : ((s16.set .s (u3 (n0 := 1) (n1 := 16) (n2 := 256) (s16 .s) (fun a i p => In 0 1 a ∧ In (8 * o) 8 i ∧ In 0 256 p) (fun _ i p => P.SC (i / 8) (i % 8) p))).set .inv
        (u2 (n0 := 8) (n1 := 256) (s16 .inv) (fun i p => In 0 8 i ∧ In 0 256 p) (P.INV o))) = t0
  have ht : ∀ b, b ≠ .s → b ≠ .inv → t0 b = s16 b := fun b h1 h2 => by rw [← ht0, St.set_ne _ h2, St.set_ne _ h1]
  have hs : ∀ b, b ≠ .kr → b ≠ .pm → b ≠ .gt → s16 b = s b := fun b h1 h2 h3 => by rw [R16.rest b h1 h2, ← hs0, St.set_ne _ h3]
  have I2 : Ready P o t0 := by
    constructor
    · exact I3.of_eq fun b hb => ht b (by rintro rfl; simp at hb) (by rintro rfl; simp at hb)
    · intro i p hi hp
      rw [ht .kr (by decide) (by decide), R16.kr]
      exact a2_u2 _ _ i p hi hp (by omega)
    · intro i p hi hp
      rw [ht .gt (by decide) (by decide), R16.rest .gt (by decide) (by decide), ← hs0, St.set_same]
      exact a2_u2 _ _ i p hi hp trivial
    · intro h p hh hp
      rw [← ht0, St.set_same]
      exact a2_u2 _ _ h p hh hp (by simp only [In]; omega)
  have Q0 := Quantd.start P o t0
  obtain ⟨t1, Q1, e⟩ := Q0.step (M := M) ho I2 0 0 (by decide) (by decide) rfl
  rw [run_bind_of e]
  clear e
  obtain ⟨t2, Q2, e⟩ := Q1.step (M := M) ho I2 1 0 (by decide) (by decide) rfl
  rw [run_bind_of e]
  clear e
  obtain ⟨t3, Q3, e⟩ := Q2.step (M := M) ho I2 2 0 (by decide) (by decide) rfl
  rw [run_bind_of e]
  clear e
  obtain ⟨t4, Q4, e⟩ := Q3.step (M := M) ho I2 3 0 (by decide) (by decide) rfl
  rw [run_bind_of e]
  clear e
  obtain ⟨t5, Q5, e⟩ := Q4.step (M := M) ho I2 4 0 (by decide) (by decide) rfl
  rw [run_bind_of e]
  clear e
  obtain ⟨t6, Q6, e⟩ := Q5.step (M := M) ho I2 5 0 (by decide) (by decide) rfl
  rw [run_bind_of e]
  clear e
  obtain ⟨t7, Q7, e⟩ := Q6.step (M := M) ho I2 6 0 (by decide) (by decide) rfl
  rw [run_bind_of e]
  clear e
  obtain ⟨t8, Q8, e⟩ := Q7.step (M := M) ho I2 7 0 (by decide) (by decide) rfl
  rw [run_bind_of e]
  clear e
  obtain ⟨t9, Q9, e⟩ := Q8.step (M := M) ho I2 0 1 (by decide) (by decide) rfl
  rw [run_bind_of e]
  clear e
  obtain ⟨t10, Q10, e⟩ := Q9.step (M := M) ho I2 1 1 (by decide) (by decide) rfl
  rw [run_bind_of e]
  clear e
  obtain ⟨t11, Q11, e⟩ := Q10.step (M := M) ho I2 2 1 (by decide) (by decide) rfl
  rw [run_bind_of e]
  clear e
  obtain ⟨t12, Q12, e⟩ := Q11.step (M := M) ho I2 3 1 (by decide) (by decide) rfl
  rw [run_bind_of e]
  clear e
  obtain ⟨t13, Q13, e⟩ := Q12.step (M := M) ho I2 4 1 (by decide) (by decide) rfl
  rw [run_bind_of e]
  clear e
  obtain ⟨t14, Q14, e⟩ := Q13.step (M := M) ho I2 5 1 (by decide) (by decide) rfl
  rw [run_bind_of e]
  clear e
  obtain ⟨t15, Q15, e⟩ := Q14.step (M := M) ho I2 6 1 (by decide) (by decide) rfl
  rw [run_bind_of e]
  clear e
  obtain ⟨t16, Q16, e⟩ := Q15.step (M := M) ho I2 7 1 (by decide) (by decide) rfl
  rw [run_bind_of e]
  clear e
  refine ⟨_, tail_run off hoff ho d hd (fun a i l ha hi hl => by
    rw [Q16.pm]; exact a3_u3 _ _ a i l ha hi hl (by omega)) (fun i p hi hp => by rw [Q16.dkt]; exact a2_u2 _ _ i p hi hp (by omega)), ?_⟩
  have htt : ∀ b, b ≠ .codes → b ≠ .pm → b ≠ .dkt → b ≠ .s → b ≠ .inv → b ≠ .kr → b ≠ .gt → t16 b = s b := fun b h1 h2 h3 h4 h5 h6 h7 => by
    rw [Q16.rest b h1 h2 h3, ht b h4 h5, hs b h6 h2 h7]
  constructor
  · rw [St.set_ne _ (by decide), St.set_ne _ (by decide), St.set_ne _ (by decide), Q16.codes, ht .codes (by decide) (by decide), hs .codes (by decide) (by decide) (by decide)]
    exact u4_congr _ _ fun i H d p _ _ _ _ => by omega
  · rw [St.set_ne _ (by decide), St.set_ne _ (by decide), St.set_ne _ (by decide), Q16.rest .s (by decide) (by decide) (by decide), ← ht0, St.set_ne _ (by decide), St.set_same,
      hs .s (by decide) (by decide) (by decide)]
    exact u3_congr _ _ fun i H p _ _ _ => by simp only [In]; omega
  · rw [St.set_ne _ (by decide), St.set_ne _ (by decide), St.set_same, htt .dtok (by decide) (by decide) (by decide) (by decide) (by decide) (by decide) (by decide)]
    exact u3_congr _ _ fun i H p _ _ _ => by simp only [In]; omega
  · rw [St.set_same, htt .dk (by decide) (by decide) (by decide) (by decide) (by decide) (by decide) (by decide)]
    exact u2_congr _ _ fun p col _ _ => by simp only [In]; omega
  · rw [St.set_ne _ (by decide), St.set_same, htt .da (by decide) (by decide) (by decide) (by decide) (by decide) (by decide) (by decide)]
  · intro b h1 h2 h3 h4 h5 h6 h7 h8 h9 h10
    rw [St.set_ne _ h4, St.set_ne _ h5, St.set_ne _ h3, htt b h1 h8 h9 h2 h10 h6 h7]

end Cert.K
-- ==== Proof.K.Whole.lean ====
/-
  The body at a grid point at the ideal instance: what it writes and what it keeps.
-/
module

public import proofs.«01_k».proof.Proof.K.Oct

@[expose] public section

noncomputable section

namespace Cert.K

open Idealize.ShloMosaic Cmd

variable {sig : RefSig} {M : Ms sig} {α : Type}
variable {P : Pt} {s : St Ideal}

/-- What the staging buffers of the inputs hold. -/
structure Raw (P : Pt) (s : St Ideal) : Prop where
  /-- cosines -/
  cos : ∀ d p, d < 48 → p < 256 → (a3 (n0 := 1) (n1 := 48) (n2 := 256) (s .cos) 0 d p : EReal) = P.C d p
  /-- sines -/
  sin : ∀ d p, d < 48 → p < 256 → (a3 (n0 := 1) (n1 := 48) (n2 := 256) (s .sin) 0 d p : EReal) = P.S d p
  /-- keys -/
  k : ∀ p c, p < 256 → c < 1536 → (a2 (n0 := 256) (n1 := 1536) (s .k) p c : EReal) = P.K p c
  /-- gradient codes -/
  g : ∀ h d p, h < 16 → d < 96 → p < 256 → (a4 (n0 := 1) (n1 := 16) (n2 := 96) (n3 := 256) (s .g) 0 h d p : EReal) = P.G h d p
  /-- gradient scales -/
  gs : ∀ h p, h < 16 → p < 256 → (a3 (n0 := 1) (n1 := 16) (n2 := 256) (s .gs) 0 h p : EReal) = P.GS h p

theorem Raw.of_eq {s' : St Ideal} (I : Raw P s) (h : ∀ b : Bf, b = .cos ∨ b = .sin ∨ b = .k ∨ b = .g ∨ b = .gs → s' b = s b) : Raw P s' := by
  constructor
  · rw [h .cos (by simp)]; exact I.cos
  · rw [h .sin (by simp)]; exact I.sin
  · rw [h .k (by simp)]; exact I.k
  · rw [h .g (by simp)]; exact I.g
  · rw [h .gs (by simp)]; exact I.gs

theorem Raw.inp {al : Bf.al.sh.Idx → EReal} (I : Raw P s) (k : Kept al s) (o : Nat) : Inp P o s :=
  ⟨I.cos, I.sin, I.k, I.g, I.gs, k.eb, k.ef⟩

/-- The codes a grid point writes. -/
def Pt.outCodes (P : Pt) : Bf.codes.sh.Idx → BitVec 8 := fun y => P.CDH (y 1).val (y 2).val (y 3).val
/-- The scales a grid point writes. -/
def Pt.outS (P : Pt) : Bf.s.sh.Idx → EReal := fun y => P.SCH (y 1).val (y 2).val
/-- The step gradients a grid point writes. -/
def Pt.outTok (P : Pt) : Bf.dtok.sh.Idx → EReal := fun y => P.D8H (y 1).val (y 2).val
/-- The key gradient a grid point writes. -/
def Pt.outDk (P : Pt) : Bf.dk.sh.Idx → EReal := fun y => P.DKC (y 0).val (y 1).val

/-- The sums of the step gradients after a grid point. -/
def daNext (P : Pt) (off0 off1 : Fin 2 → Nat) (h0 : ∀ a, off0 a + S8x128.size a ≤ S80x128.size a) (h1 : ∀ a, off1 a + S8x128.size a ≤ S80x128.size a)
    (isFirst : Prop) [Decidable isFirst] (x : Bf.da.sh.Idx → EReal) : Bf.da.sh.Idx → EReal :=
  daStep P 1 off1 h1 (daStep P 0 off0 h0 (if isFirst then fun _ => 0 else x))

/-- What a grid point leaves. -/
structure BodyOk (P : Pt) (off0 off1 : Fin 2 → Nat) (h0 : ∀ a, off0 a + S8x128.size a ≤ S80x128.size a) (h1 : ∀ a, off1 a + S8x128.size a ≤ S80x128.size a)
    (isFirst isLast : Prop) [Decidable isFirst] [Decidable isLast] (s s' : St Ideal) : Prop where
  /-- the codes -/
  codes : s' .codes = P.outCodes
  /-- the scales -/
  sc : s' .s = P.outS
  /-- the step gradients -/
  dtok : s' .dtok = P.outTok
  /-- the key gradient -/
  dk : s' .dk = P.outDk
  /-- the sums of the step gradients -/
  da : s' .da = daNext P off0 off1 h0 h1 isFirst (s .da)
  /-- the total -/
  dal : s' .dal = if isLast then lastF (daNext P off0 off1 h0 h1 isFirst (s .da)) else s .dal
  /-- the scratch kept for the next grid point -/
  kept : Kept (s .al) s'
  /-- the inputs -/
  ins : ∀ b : Bf, b = .k ∨ b = .cos ∨ b = .sin ∨ b = .al ∨ b = .g ∨ b = .gs → s' b = s b

/-- The body at a grid point. -/
theorem body_run (off0 off1 : Fin 2 → Nat) (h0 : ∀ a, off0 a + S8x128.size a ≤ S80x128.size a) (h1 : ∀ a, off1 a + S8x128.size a ≤ S80x128.size a)
    (isFirst isLast : Prop) [Decidable isFirst] [Decidable isLast] (I : Raw P s) (hK : ¬isFirst → Kept (s .al) s)
    (r0 r1 : Nat) (e0 : off0 = ![r0, 0]) (e1 : off1 = ![r1, 0])
    (a0 : ∀ r, r < 8 → P.AL (8 * 0 + r) = (a1 (n0 := 80) (s .al) (r0 + r) : EReal)) (a1' : ∀ r, r < 8 → P.AL (8 * 1 + r) = (a1 (n0 := 80) (s .al) (r1 + r) : EReal)) :
    ∃ s', (body P.c7 off0 off1 h0 h1 isFirst isLast : Cmd Ideal M Unit).run s = ((), s') ∧ BodyOk P off0 off1 h0 h1 isFirst isLast s s' := by
  subst e0
  subst e1
  have b0 : r0 + 8 ≤ 80 := h0 0
  have b1 : r1 + 8 ≤ 80 := h1 0
  unfold body
  have hF : ∃ z, (if isFirst then first else .ret () : Cmd Ideal M Unit).run s = ((), z) ∧ Kept (s .al) z ∧ z .da = (if isFirst then fun _ => (0 : EReal) else s .da)
      ∧ ∀ b : Bf, b ≠ .eb → b ≠ .ef → b ≠ .ac → b ≠ .da → z b = s b := by
    by_cases h : isFirst
    · simp only [if_pos h]; exact first_run s
    · simp only [if_neg h]; exact ⟨s, rfl, hK h, rfl, fun _ _ _ _ _ => rfl⟩
  obtain ⟨z, e, kz, daz, hz⟩ := hF
  rw [run_bind_of e]
  clear e
  have Iz : Raw P z := I.of_eq fun b hb => hz b (by rintro rfl; simp at hb) (by rintro rfl; simp at hb) (by rintro rfl; simp at hb) (by rintro rfl; simp at hb)
  obtain ⟨z1, e, O1⟩ := oct_run (M := M) ![r0, 0] h0 (by decide) (Iz.inp kz 0) (fun r l hr hl => by
    refine (a2_idx (m0 := 8) (m1 := 128) (n0 := 80) (n1 := 128) (z .ac) _ r l hr hl).trans ?_
    rw [kz.ac _ _ (by omega) (by omega)]; exact (a0 r hr).symm)
  rw [run_bind_of e]
  clear e
  have hr : ∀ b : Bf, b = .k ∨ b = .cos ∨ b = .sin ∨ b = .al ∨ b = .g ∨ b = .gs ∨ b = .dal ∨ b = .eb ∨ b = .ef ∨ b = .ac →
      b ≠ .codes ∧ b ≠ .s ∧ b ≠ .dtok ∧ b ≠ .dk ∧ b ≠ .da ∧ b ≠ .kr ∧ b ≠ .gt ∧ b ≠ .pm ∧ b ≠ .dkt ∧ b ≠ .inv := by decide
  have w1 : ∀ b : Bf, b = .k ∨ b = .cos ∨ b = .sin ∨ b = .al ∨ b = .g ∨ b = .gs ∨ b = .dal ∨ b = .eb ∨ b = .ef ∨ b = .ac → z1 b = z b := fun b hb => by
    obtain ⟨x1, x2, x3, x4, x5, x6, x7, x8, x9, x10⟩ := hr b hb
    exact O1.rest b x1 x2 x3 x4 x5 x6 x7 x8 x9 x10
  have I1 : Raw P z1 := Iz.of_eq fun b hb => w1 b (by tauto)
  have k1 : Kept (s .al) z1 := kz.of_eq fun b hb => w1 b (by tauto)
  obtain ⟨z2, e, O2⟩ := oct_run (M := M) ![r1, 0] h1 (by decide) (I1.inp k1 1) (fun r l hr hl => by
    refine (a2_idx (m0 := 8) (m1 := 128) (n0 := 80) (n1 := 128) (z1 .ac) _ r l hr hl).trans ?_
    rw [k1.ac _ _ (by omega) (by omega)]; exact (a1' r hr).symm)
  rw [run_bind_of e]
  clear e
  have w2 : ∀ b : Bf, b = .k ∨ b = .cos ∨ b = .sin ∨ b = .al ∨ b = .g ∨ b = .gs ∨ b = .dal ∨ b = .eb ∨ b = .ef ∨ b = .ac → z2 b = z1 b := fun b hb => by
    obtain ⟨x1, x2, x3, x4, x5, x6, x7, x8, x9, x10⟩ := hr b hb
    exact O2.rest b x1 x2 x3 x4 x5 x6 x7 x8 x9 x10
  have da2 : z2 .da = daNext P ![r0, 0] ![r1, 0] h0 h1 isFirst (s .da) := by rw [O2.da, O1.da, daz]; rfl
  have hL : ∃ z3, (if isLast then last else .ret () : Cmd Ideal M Unit).run z2 = ((), z3) ∧ z3 .dal = (if isLast then lastF (z2 .da) else z2 .dal) ∧ ∀ b : Bf, b ≠ .dal → z3 b = z2 b := by
    by_cases h : isLast
    · simp only [if_pos h]; exact ⟨_, last_run z2, St.set_same _ _ _, fun b hb => St.set_ne _ hb _⟩
    · simp only [if_neg h]; exact ⟨z2, rfl, rfl, fun _ _ => rfl⟩
  obtain ⟨z3, e, d3, w3⟩ := hL
  refine ⟨z3, e, ?_⟩
  constructor
  · rw [w3 _ (by decide), O2.codes, O1.codes, u4_u4]
    classical
    funext y
    have := (y 1).isLt
    exact if_pos (by have h : (y 1).val < 16 := (y 1).isLt; omega)
  · rw [w3 _ (by decide), O2.sc, O1.sc, u3_u3]
    classical
    funext y
    exact if_pos (by have h : (y 1).val < 16 := (y 1).isLt; omega)
  · rw [w3 _ (by decide), O2.dtok, O1.dtok, u3_u3]
    classical
    funext y
    exact if_pos (by have h : (y 1).val < 16 := (y 1).isLt; omega)
  · rw [w3 _ (by decide), O2.dk, O1.dk, u2_u2]
    classical
    funext y
    exact if_pos (by have h : (y 1).val < 1536 := (y 1).isLt; omega)
  · rw [w3 _ (by decide), da2]
  · rw [d3, da2, w2 .dal (by tauto), w1 .dal (by tauto), hz .dal (by decide) (by decide) (by decide) (by decide)]
  · exact k1.of_eq fun b hb => by rw [w3 b (by rintro rfl; simp at hb), w2 b (by tauto)]
  · intro b hb
    rw [w3 b (by rintro rfl; simp at hb), w2 b (by tauto), w1 b (by tauto), hz b (by rintro rfl; simp at hb) (by rintro rfl; simp at hb) (by rintro rfl; simp at hb) (by rintro rfl; simp at hb)]

end Cert.K
-- ==== Proof.KernelIdeal.Exact.lean ====
/-
  What every grid point of KernelIdeal writes, at the ideal instance.
-/
module

public import proofs.«01_k».proof.Proof.KernelIdeal.Frame
public import proofs.«01_k».proof.Proof.K.Whole

@[expose] public section

set_option maxRecDepth 100000

noncomputable section

namespace Cert.KernelIdeal.Sb

open Cert.KernelIdeal.Gen Cert.K
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg)

local notation "𝕄" => MT nD τ sig Unit (Elt Ideal) ℕ (UR sig nD τ) ℕ

variable (m : (ℓ : Loc nD τ sig) → Buf (Elt Ideal) ℓ)

/-- The step parameters as the region finds them. -/
def alV (c : Dev nD) : Bf.al.sh.Idx → EReal := iblk m c 3 (0 : Fin 30)

/-- The inputs of a grid point. -/
def ptAt (c : Dev nD) (t : Fin cfg0.N) : Pt where
  K p col := a2 (n0 := 256) (n1 := 1536) (iblk m c 0 t) p col
  C d p := a3 (n0 := 1) (n1 := 48) (n2 := 256) (iblk m c 1 t) 0 d p
  S d p := a3 (n0 := 1) (n1 := 48) (n2 := 256) (iblk m c 2 t) 0 d p
  G h d p := a4 (n0 := 1) (n1 := 16) (n2 := 96) (n3 := 256) (iblk m c 4 t) 0 h d p
  GS h p := a3 (n0 := 1) (n1 := 16) (n2 := 256) (iblk m c 5 t) 0 h p
  AL h := a1 (n0 := 80) (alV m c) (16 * (t.val % 5) + h)
  c7 := (Named.named κ "inv7" 0x3E124925#32 : Ideal .f32)

/-- The sums of the step gradients before grid point `n`. -/
def daAt (c : Dev nD) : Nat → (Bf.da.sh.Idx → EReal)
  | 0 => fun _ => 0
  | n + 1 => if h : n < 30 then
      daNext (ptAt m c ⟨n, h⟩) (k0_off1 (grid0.coords ⟨n, h⟩) 0#32) (k0_off1 (grid0.coords ⟨n, h⟩) 8#32)
        (Facts₀.k0_off1_inb (grid0.coords ⟨n, h⟩) 0) (Facts₀.k0_off1_inb (grid0.coords ⟨n, h⟩) 1)
        (firstAt (grid0.coords ⟨n, h⟩ 0).val (grid0.coords ⟨n, h⟩ 1).val = 1#1) (daAt c n)
    else fun _ => 0

theorem daAt_succ (c : Dev nD) (t : Fin cfg0.N) : daAt m c (t.val + 1)
    = daNext (ptAt m c t) (k0_off1 (grid0.coords t) 0#32) (k0_off1 (grid0.coords t) 8#32)
        (Facts₀.k0_off1_inb (grid0.coords t) 0) (Facts₀.k0_off1_inb (grid0.coords t) 1)
        (firstAt (grid0.coords t 0).val (grid0.coords t 1).val = 1#1) (daAt m c t.val) := by
  rw [daAt]
  exact dif_pos t.isLt

/-- The scratch. -/
def scr (c : Dev nD) (s : St Ideal) : sProp 𝕄 :=
  iprop(owns (c : Thread nD τ) (Memref.whole cc0_scratch0) fullShare (s .eb) ∗ owns (c : Thread nD τ) (Memref.whole cc0_scratch1) fullShare (s .ef)
      ∗ owns (c : Thread nD τ) (Memref.whole cc0_scratch2) fullShare (s .ac) ∗ owns (c : Thread nD τ) (Memref.whole cc0_scratch3) fullShare (s .da)
      ∗ owns (c : Thread nD τ) (Memref.whole cc0_scratch4) fullShare (s .kr) ∗ owns (c : Thread nD τ) (Memref.whole cc0_scratch5) fullShare (s .gt)
      ∗ owns (c : Thread nD τ) (Memref.whole cc0_scratch6) fullShare (s .pm) ∗ owns (c : Thread nD τ) (Memref.whole cc0_scratch7) fullShare (s .dkt)
      ∗ owns (c : Thread nD τ) (Memref.whole cc0_scratch8) fullShare (s .inv))

/-- What is kept between grid points: from the first on, the two identities, the step parameter over the lanes, and
    the sums of the step gradients. -/
def PhiN (c : Dev nD) (n : Nat) : sProp 𝕄 :=
  iprop((∃ s : St Ideal, ⌜n ≠ 0 → Kept (alV m c) s ∧ s .da = daAt m c n⌝ ∗ scr c s) ∗ ∃ r, prngReg c r)

theorem phi_in (c : Dev nD) : (Pipeline.ΦA (U := UR sig nD τ) (Val := Elt Ideal) spec0 c : sProp 𝕄) ⊢ PhiN m c 0 := by
  unfold Pipeline.ΦA PhiN scr
  rw [scopedRest0_eq]
  iintro ⟨⟨⟨%z0, Z0⟩, ⟨%z1, Z1⟩, ⟨%z2, Z2⟩, ⟨%z3, Z3⟩, ⟨%z4, Z4⟩, ⟨%z5, Z5⟩, ⟨%z6, Z6⟩, ⟨%z7, Z7⟩, ⟨%z8, Z8⟩⟩, HR⟩
  isplitr [HR]
  · iexists (St.of (fun _ => (0 : EReal)) (fun _ => (0 : EReal)) (fun _ => (0 : EReal)) (fun _ => (0 : EReal)) (fun _ => (0 : EReal)) (fun _ => (0 : EReal))
      (fun _ => (0 : EReal)) (fun _ => (0 : EReal)) (fun _ => (0 : EReal)) (fun _ => (0 : BitVec 8)) (fun _ => (0 : EReal)) z0 z1 z2 z3 z4 z5 z6 z7 z8)
    isplitr
    · ipureintro; exact fun h => absurd rfl h
    simp only [owns_whole]
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  · iexact HR

theorem phi_out (c : Dev nD) (n : Nat) : PhiN m c n ⊢ (Pipeline.ΦA (U := UR sig nD τ) (Val := Elt Ideal) spec0 c : sProp 𝕄) := by
  unfold Pipeline.ΦA PhiN scr
  rw [scopedRest0_eq]
  simp only [owns_whole]
  iintro ⟨⟨%s, -, Z0, Z1, Z2, Z3, Z4, Z5, Z6, Z7, Z8⟩, HR⟩
  isplitr [HR]
  · isplitl [Z0]; · iexists _; iexact Z0
    isplitl [Z1]; · iexists _; iexact Z1
    isplitl [Z2]; · iexists _; iexact Z2
    isplitl [Z3]; · iexists _; iexact Z3
    isplitl [Z4]; · iexists _; iexact Z4
    isplitl [Z5]; · iexists _; iexact Z5
    isplitl [Z6]; · iexists _; iexact Z6
    isplitl [Z7]; · iexists _; iexact Z7
    iexists _; iexact Z8
  · iexact HR

/-- What the body leaves in the staging buffers. -/
def leaves (c : Dev nD) : (w : Fin cfg0.W) → (t : Fin cfg0.N) → (cfg0.win w).block.Idx → Elt Ideal (cfg0.win w).elt
  | 0 => fun t => iblk m c 0 t
  | 1 => fun t => iblk m c 1 t
  | 2 => fun t => iblk m c 2 t
  | 3 => fun t => iblk m c 3 t
  | 4 => fun t => iblk m c 4 t
  | 5 => fun t => iblk m c 5 t
  | 6 => fun t => (ptAt m c t).outDk
  | 7 => fun t => lastF (daAt m c (t.val + 1))
  | 8 => fun t => (ptAt m c t).outTok
  | 9 => fun t => (ptAt m c t).outCodes
  | 10 => fun t => (ptAt m c t).outS
  | ⟨_ + 11, h⟩ => absurd h (Nat.not_lt.2 (Nat.le_add_left _ _))

/-- The data of the values. -/
def vdats (_ : Fin 1) (c : Dev nD) : Dat τ (Elt Ideal) Unit ℕ (UR sig nD τ) ℕ cfg0 c where
  A w := V m c (Pipeline.arrRef spec0 w)
  after w t := leaves m c w t
  Φ t := PhiN m c t.val
  q _ := fullShare
  owed _ := 0

theorem first_zero : ∀ t : Fin cfg0.N, firstAt (grid0.coords t 0).val (grid0.coords t 1).val ≠ 1#1 → t.val ≠ 0 := by decide +kernel
theorem last_eq : ∀ t : Fin cfg0.N, k0_cond2 (grid0.coords t) ≠ 1#1 → t.val % 30 ≠ 29 := by decide +kernel
theorem off_eq0 : ∀ t : Fin cfg0.N, k0_off1 (grid0.coords t) 0#32 = ![16 * (t.val % 5), 0] := by decide +kernel
theorem off_eq1 : ∀ t : Fin cfg0.N, k0_off1 (grid0.coords t) 8#32 = ![16 * (t.val % 5) + 8, 0] := by decide +kernel
theorem al_eq (c : Dev nD) (t : Fin cfg0.N) : (iblk m c 3 t : Bf.al.sh.Idx → EReal) = alV m c := rfl

set_option maxHeartbeats 2000000 in
/-- The body's obligation. -/
theorem vobligation (c : Dev nD) : Pipeline.BodyObligationLoose (vdats m 0 c) defs₀ 𝒱₀ () Set.univ := fun t => by
  show iprop(PhiN m c t.val ∗ (vdats m 0 c).owesAt () t.castSucc ∗ bigSep Finset.univ fun w : Fin 11 => iprop(∃ d, owns (c : Thread nD τ) ((cfg0.win w).stage (cfg0.slots t w)) fullShare ((vdats m 0 c).before w t d)))
    ⊢ wp frame (wpE defs₀ 𝒱₀ (c : Thread nD τ) none) Set.univ (bodyAt0 t) _
  rw [bigSep_W0, bigSep_W0]
  simp only [before0_0_of m (vdats m 0 c) rfl (fun _ => rfl) t, before0_1_of m (vdats m 0 c) rfl (fun _ => rfl) t, before0_2_of m (vdats m 0 c) rfl (fun _ => rfl) t,
    before0_3_of m (vdats m 0 c) rfl (fun _ => rfl) t, before0_4_of m (vdats m 0 c) rfl (fun _ => rfl) t, before0_5_of m (vdats m 0 c) rfl (fun _ => rfl) t]
  unfold PhiN scr
  iintro ⟨⟨⟨%z, %hz, Z0, Z1, Z2, Z3, Z4, Z5, Z6, Z7, Z8⟩, HR⟩, HO, ⟨%_, H0⟩, ⟨%_, H1⟩, ⟨%_, H2⟩, ⟨%_, H3⟩, ⟨%_, H4⟩, ⟨%_, H5⟩, ⟨%d6, H6⟩, ⟨%d7, H7⟩, ⟨%d8, H8⟩, ⟨%d9, H9⟩, ⟨%d10, H10⟩⟩
  have hs : ∃ s : St Ideal, s = (St.of (iblk m c 0 t) (iblk m c 1 t) (iblk m c 2 t) (iblk m c 3 t) (iblk m c 4 t) (iblk m c 5 t)
    ((vdats m 0 c).before 6 t d6) ((vdats m 0 c).before 7 t d7) ((vdats m 0 c).before 8 t d8) ((vdats m 0 c).before 9 t d9) ((vdats m 0 c).before 10 t d10)
    (z .eb) (z .ef) (z .ac) (z .da) (z .kr) (z .gt) (z .pm) (z .dkt) (z .inv)) := ⟨_, rfl⟩
  obtain ⟨s, hs⟩ := hs
  have hrun := body_run (M := mem t) (P := ptAt m c t) (s := s) (k0_off1 (grid0.coords t) 0#32) (k0_off1 (grid0.coords t) 8#32)
    (Facts₀.k0_off1_inb (grid0.coords t) 0) (Facts₀.k0_off1_inb (grid0.coords t) 1)
    (firstAt (grid0.coords t 0).val (grid0.coords t 1).val = 1#1) (k0_cond2 (grid0.coords t) = 1#1)
    (by subst hs; exact ⟨fun _ _ _ _ => rfl, fun _ _ _ _ => rfl, fun _ _ _ _ => rfl, fun _ _ _ _ _ _ => rfl, fun _ _ _ _ => rfl⟩)
    (by subst hs; exact fun h => (hz (first_zero t h)).1.of_eq' rfl rfl rfl)
    (16 * (t.val % 5)) (16 * (t.val % 5) + 8) (off_eq0 t) (off_eq1 t)
    (by subst hs; intro r hr; show a1 (alV m c) _ = a1 (alV m c) _; congr 1; omega)
    (by subst hs; intro r hr; show a1 (alV m c) _ = a1 (alV m c) _; congr 1; omega)
  obtain ⟨s', e, ok⟩ := hrun
  have hda : s' .da = daAt m c (t.val + 1) := by
    rw [ok.da, daAt_succ]
    by_cases h : firstAt (grid0.coords t 0).val (grid0.coords t 1).val = 1#1
    · unfold daNext; rw [if_pos h, if_pos h]
    · rw [show s .da = daAt m c t.val from by subst hs; exact (hz (first_zero t h)).2]
  have hk : Kept (alV m c) s' := by
    have := ok.kept
    subst hs
    exact this
  have e' : ((bodyC t).run s).2 = s' := congrArg Prod.snd (show (bodyC t).run s = ((), s') from e)
  iapply (body_sound c Set.univ t s _)
  rw [e', held_eq, held_eq]
  have i0 : s' .k = iblk m c 0 t := by rw [ok.ins .k (by simp)]; subst hs; rfl
  have i1 : s' .cos = iblk m c 1 t := by rw [ok.ins .cos (by simp)]; subst hs; rfl
  have i2 : s' .sin = iblk m c 2 t := by rw [ok.ins .sin (by simp)]; subst hs; rfl
  have i3 : s' .al = iblk m c 3 t := by rw [ok.ins .al (by simp)]; subst hs; rfl
  have i4 : s' .g = iblk m c 4 t := by rw [ok.ins .g (by simp)]; subst hs; rfl
  have i5 : s' .gs = iblk m c 5 t := by rw [ok.ins .gs (by simp)]; subst hs; rfl
  isplitl [H0 H1 H2 H3 H4 H5 H6 H7 H8 H9 H10 Z0 Z1 Z2 Z3 Z4 Z5 Z6 Z7 Z8]
  · subst hs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  have hΦ : (vdats m 0 c).Φ t.succ = iprop((∃ s : St Ideal, ⌜t.val + 1 ≠ 0 → Kept (alV m c) s ∧ s .da = daAt m c (t.val + 1)⌝ ∗ scr c s) ∗ ∃ r, prngReg c r) := rfl
  rw [i0, i1, i2, i3, i4, i5, ok.dk, ok.dtok, ok.codes, ok.sc, hΦ]
  unfold scr
  iintro ⟨H0, H1, H2, H3, H4, H5, H6, H7, H8, H9, H10, Z0, Z1, Z2, Z3, Z4, Z5, Z6, Z7, Z8⟩
  isplitl [Z0 Z1 Z2 Z3 Z4 Z5 Z6 Z7 Z8 HR]
  · isplitr [HR]
    · iexists s'
      isplitr
      · ipureintro; exact fun _ => ⟨hk, hda⟩
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      iexact Z8
    · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · by_cases h : k0_cond2 (grid0.coords t) = 1#1
    · have hi : idle0 7 (grid0.coords t) = false := by show (!(k0_cond2 (grid0.coords t) == 1#1)) = false; rw [h]; rfl
      rw [show s' .dal = lastF (daAt m c (t.val + 1)) from by rw [ok.dal, if_pos h, ← hda, ok.da]]
      simp only [hi]
      iexact H7
    · have hi : idle0 7 (grid0.coords t) = true := by show (!(k0_cond2 (grid0.coords t) == 1#1)) = true; simpa using h
      have hf : (win0 7).flush t = false := by
        rw [Bool.eq_false_iff]; exact fun hh => last_eq t h ((flush0_7 t).1 hh)
      rw [show s' .dal = (vdats m 0 c).before 7 t d7 from by rw [ok.dal, if_neg h]; subst hs; rfl]
      simp only [hi, hf]
      iexists d7
      iexact H7
  isplitl [H8]; · iexact H8
  isplitl [H9]; · iexact H9
  iexact H10

/-- The run to the arrays the data name. -/
theorem value_run (ρ : Dev nD → PrngReg) :
    θ_run defs (onTc (τ := τ) (main (F := Ideal))) ⟨m, fun _ => 0, ρ⟩
      (Pipeline.FramePost cfgs (vdats m) 0 (Pipeline.afterTail₀ cfgs (vdats m) 0 (V0 m) [hostOps1])) := by
  refine Pipeline.θ_run_frame_around_track cfgs (vdats m) 0 launch0 defs₀ 𝒱₀ m ρ main (vobligation m) (fun c w => ?_) (fun _ _ => rfl)
    (V0 m) [hostOps1] sfx_sub sfx_fresh sfx_keeps (hmain m 𝒱₀) (fun _ _ => rfl) (fun c => phi_in m c) (fun c => phi_out m c _)
  unfold Dat.share; split <;> rfl

end Cert.KernelIdeal.Sb
-- ==== Proof.K.Spec.lean ====
/-
  The reference's results at one element, and that what the kernel's body computes there is the same.
-/
module

public import proofs.«01_k».proof.Proof.K.Point

@[expose] public section

noncomputable section

namespace Cert.K

open Idealize.ShloMosaic

/-- The arguments by natural-number coordinates. -/
structure Ar where
  /-- keys by batch, position and column -/
  k : Nat → Nat → Nat → EReal
  /-- cosines by batch, position and coordinate -/
  cos : Nat → Nat → Nat → EReal
  /-- sines by batch, position and coordinate -/
  sin : Nat → Nat → Nat → EReal
  /-- step parameters by head -/
  al : Nat → EReal
  /-- gradient codes by batch, position, head and coordinate -/
  g : Nat → Nat → Nat → Nat → EReal
  /-- gradient scales by batch, position and head -/
  gs : Nat → Nat → Nat → EReal

namespace Ar

variable (A : Ar) (b s : Nat)

/-- The rotated key. -/
def kr (H d : Nat) : EReal :=
  if d < 48 then A.k b s (96 * H + d) * A.cos b s d - A.k b s (96 * H + (d + 48)) * A.sin b s d
  else A.k b s (96 * H + d) * A.cos b s (d - 48) + A.k b s (96 * H + (d - 48)) * A.sin b s (d - 48)

/-- The largest absolute value of a head's rotated key. -/
def am (H : Nat) : EReal := (Finset.univ : Finset (Fin 96)).fold max ⊥ fun d => eabs (A.kr b s H d.val)

/-- The scale. -/
def sc (H : Nat) : EReal := if A.am b s H = 0 then 1 else Ideal.div (A.al H * A.am b s H) 7

/-- The scaled key. -/
def r (H d : Nat) : EReal := Ideal.div (A.kr b s H d) (A.sc b s H)

/-- The code before it is made an integer. -/
def q (H d : Nat) : EReal := min 7 (max (-7) (Ideal.liftRound Ideal.roundHalfEven (A.r b s H d)))

/-- The gradient of the scaled key, times the scale. -/
def gq (H d : Nat) : EReal := if eabs (A.r b s H d) ≤ 7 then A.g b s H d * A.gs b s H else 0

/-- The key gradient. -/
def dk (H d : Nat) : EReal :=
  if d < 48 then A.gq b s H d * A.cos b s d + A.gq b s H (d + 48) * A.sin b s d
  else A.gq b s H d * A.cos b s (d - 48) - A.gq b s H (d - 48) * A.sin b s (d - 48)

end Ar

/-- A point reads the arguments at batch `b`, its position `p` being position `s` there and its heads starting at `16 * jj`. -/
structure Reads (P : Pt) (A : Ar) (b s jj p : Nat) : Prop where
  k : ∀ c < 1536, P.K p c = A.k b s (1536 * jj + c)
  cos : ∀ d < 48, P.C d p = A.cos b s d
  sin : ∀ d < 48, P.S d p = A.sin b s d
  al : ∀ h < 16, P.AL h = A.al (16 * jj + h)
  g : ∀ h < 16, ∀ d < 96, P.G h d p = A.g b s (16 * jj + h) d
  gs : ∀ h < 16, P.GS h p = A.gs b s (16 * jj + h)

theorem ofBits_seven : Ideal.ofBits .f32 0x40E00000#32 = 7 := by
  simp [Ideal.ofBits, Ideal.ieee]
  rw [← EReal.coe_mul, show (14680064 * ((2 : ℝ) ^ 21)⁻¹) = 7 from by norm_num]; norm_cast

theorem ofBits_neg_seven : Ideal.ofBits .f32 0xC0E00000#32 = -7 := by
  simp [Ideal.ofBits, Ideal.ieee]
  rw [← EReal.coe_mul, show (14680064 * ((2 : ℝ) ^ 21)⁻¹) = 7 from by norm_num]; norm_cast

/-! ### Rounding and clipping -/

theorem round_le {x : ℝ} (h : x ≤ 7) : Ideal.roundHalfEven x ≤ 7 := by
  have hf : (⌊x⌋ : ℝ) ≤ x := Int.floor_le x
  have h7 : ⌊x⌋ ≤ 7 := by exact_mod_cast hf.trans h
  unfold Ideal.roundHalfEven
  dsimp only
  by_cases e : ⌊x⌋ = 7
  · have : x - (⌊x⌋ : ℝ) < 1 / 2 := by rw [e]; push_cast; linarith
    rw [if_pos this]; exact h7
  · split_ifs <;> omega

theorem le_round {x : ℝ} {n : ℤ} (h : (n : ℝ) ≤ x) : n ≤ Ideal.roundHalfEven x := by
  have hf : n ≤ ⌊x⌋ := Int.le_floor.2 h
  unfold Ideal.roundHalfEven
  dsimp only
  split_ifs <;> omega

/-- Rounding after clipping is clipping after rounding. -/
theorem round_clip (r : EReal) :
    Ideal.liftRound Ideal.roundHalfEven (min 7 (max (-7) r)) = min 7 (max (-7) (Ideal.liftRound Ideal.roundHalfEven r)) := by
  have e7 : (7 : EReal) = ((7 : ℝ) : EReal) := by norm_cast
  have en7 : (-7 : EReal) = ((-7 : ℝ) : EReal) := by rw [e7]; norm_cast
  have r7 : Ideal.roundHalfEven (7 : ℝ) = 7 := le_antisymm (round_le le_rfl) (le_round (n := 7) (by norm_num))
  have rn7 : Ideal.roundHalfEven (-7 : ℝ) = -7 := by unfold Ideal.roundHalfEven; norm_num [show ⌊(-7 : ℝ)⌋ = -7 from by norm_num]
  rw [en7, e7]
  have l7 : Ideal.liftRound Ideal.roundHalfEven ((7 : ℝ) : EReal) = ((7 : ℝ) : EReal) := by
    show (((Ideal.roundHalfEven 7 : ℤ) : ℝ) : EReal) = _; rw [r7]; norm_num
  have ln7 : Ideal.liftRound Ideal.roundHalfEven ((-7 : ℝ) : EReal) = ((-7 : ℝ) : EReal) := by
    show (((Ideal.roundHalfEven (-7) : ℤ) : ℝ) : EReal) = _; rw [rn7]; norm_num
  induction r with
  | bot =>
    rw [max_eq_left bot_le, min_eq_right (EReal.coe_le_coe_iff.2 (by norm_num)), ln7]
    show _ = min _ (max _ ⊥)
    rw [max_eq_left bot_le, min_eq_right (EReal.coe_le_coe_iff.2 (by norm_num))]
  | top =>
    rw [max_eq_right le_top, min_eq_left le_top, l7]
    show _ = min _ (max _ ⊤)
    rw [max_eq_right le_top, min_eq_left le_top]
  | coe x =>
    show _ = min _ (max _ (((Ideal.roundHalfEven x : ℤ) : ℝ) : EReal))
    rcases le_total x (-7) with h | h
    · have : Ideal.roundHalfEven x ≤ -7 := by
        have hf : (⌊x⌋ : ℝ) ≤ x := Int.floor_le x
        have hx : ⌊x⌋ ≤ -7 := by exact_mod_cast hf.trans h
        unfold Ideal.roundHalfEven
        dsimp only
        by_cases e : ⌊x⌋ = -7
        · have : x - (⌊x⌋ : ℝ) < 1 / 2 := by rw [e]; push_cast; linarith
          rw [if_pos this]; exact hx
        · split_ifs <;> omega
      have this' : ((Ideal.roundHalfEven x : ℤ) : ℝ) ≤ -7 := by exact_mod_cast this
      rw [max_eq_left (EReal.coe_le_coe_iff.2 h), min_eq_right (EReal.coe_le_coe_iff.2 (by norm_num)), ln7,
        max_eq_left (EReal.coe_le_coe_iff.2 this'), min_eq_right (EReal.coe_le_coe_iff.2 (by norm_num))]
    · have h1 : -7 ≤ Ideal.roundHalfEven x := le_round (n := -7) (by push_cast; exact h)
      have h1' : (-7 : ℝ) ≤ ((Ideal.roundHalfEven x : ℤ) : ℝ) := by exact_mod_cast h1
      rw [max_eq_right (EReal.coe_le_coe_iff.2 h), max_eq_right (EReal.coe_le_coe_iff.2 h1')]
      rcases le_total x 7 with h' | h'
      · have h2 : ((Ideal.roundHalfEven x : ℤ) : ℝ) ≤ 7 := by exact_mod_cast round_le h'
        rw [min_eq_right (EReal.coe_le_coe_iff.2 h'), min_eq_right (EReal.coe_le_coe_iff.2 h2)]
        rfl
      · have h2 : (7 : ℝ) ≤ ((Ideal.roundHalfEven x : ℤ) : ℝ) := by exact_mod_cast le_round (n := 7) (by exact_mod_cast h')
        rw [min_eq_left (EReal.coe_le_coe_iff.2 h'), min_eq_left (EReal.coe_le_coe_iff.2 h2), l7]

/-- A value is what clipping makes of it where its absolute value is at most seven. -/
theorem eq_clip_iff (r : EReal) : r = min 7 (max (-7) r) ↔ eabs r ≤ 7 := by
  have h7 : (-7 : EReal) ≤ 7 := by
    have e7 : (7 : EReal) = ((7 : ℝ) : EReal) := by norm_cast
    rw [e7]; norm_cast
  unfold eabs
  rw [max_le_iff, EReal.neg_le]
  constructor
  · intro h
    refine ⟨h.trans_le (min_le_left _ _), ?_⟩
    rw [h]
    exact le_min h7 (le_max_left _ _)
  · rintro ⟨h1, h2⟩
    rw [max_eq_right h2, min_eq_right h1]

/-! ### The divisions -/

theorem div_seven (x : EReal) : Ideal.div x 7 = x * ((1 / 7 : ℝ) : EReal) := by
  have e7 : (7 : EReal) = ((7 : ℝ) : EReal) := by norm_cast
  unfold Ideal.div
  rw [if_neg (by rw [e7]; norm_cast), e7, ← EReal.coe_inv]
  norm_num

theorem mul_inv_div (x : EReal) {s : EReal} (h : s ≠ 0) : x * Ideal.div 1 s = Ideal.div x s := by
  unfold Ideal.div
  rw [if_neg h, if_neg h, one_mul]

/-! ### The kernel's maximum -/

theorem tree8_max_le {v : Nat → EReal} {x : EReal} : tree8 max v ≤ x ↔ ∀ i < 8, v i ≤ x := by
  unfold tree8
  simp only [max_le_iff]
  constructor
  · rintro ⟨⟨⟨h0, h1⟩, h2, h3⟩, ⟨h4, h5⟩, h6, h7⟩ i hi
    interval_cases i <;> assumption
  · intro h
    exact ⟨⟨⟨h 0 (by omega), h 1 (by omega)⟩, h 2 (by omega), h 3 (by omega)⟩, ⟨h 4 (by omega), h 5 (by omega)⟩, h 6 (by omega), h 7 (by omega)⟩

theorem max12_le {a b : Nat → EReal} {x : EReal} : max12 a b ≤ x ↔ ∀ j < 6, a j ≤ x ∧ b j ≤ x := by
  unfold max12
  simp only [max_le_iff]
  constructor
  · rintro ⟨⟨⟨⟨⟨⟨⟨⟨⟨⟨⟨h0, g0⟩, h1⟩, g1⟩, h2⟩, g2⟩, h3⟩, g3⟩, h4⟩, g4⟩, h5⟩, g5⟩ i hi
    interval_cases i <;> exact ⟨by assumption, by assumption⟩
  · intro h
    have h0 := h 0 (by omega)
    have h1 := h 1 (by omega)
    have h2 := h 2 (by omega)
    have h3 := h 3 (by omega)
    have h4 := h 4 (by omega)
    have h5 := h 5 (by omega)
    exact ⟨⟨⟨⟨⟨⟨⟨⟨⟨⟨⟨h0.1, h0.2⟩, h1.1⟩, h1.2⟩, h2.1⟩, h2.2⟩, h3.1⟩, h3.2⟩, h4.1⟩, h4.2⟩, h5.1⟩, h5.2⟩

theorem AM_le (P : Pt) (o h p : Nat) {x : EReal} : P.AM o h p ≤ x ↔ ∀ d < 96, eabs (P.KR o (96 * h + d) p) ≤ x := by
  unfold Pt.AM
  rw [tree8_max_le]
  unfold Pt.PM1
  simp only [max12_le, Nat.div_add_mod]
  constructor
  · intro H d hd
    have := H (d % 8) (by omega) (d % 48 / 8) (by omega)
    rw [show (8 * h + d % 8) / 8 = h from by omega, show (8 * h + d % 8) % 8 = d % 8 from by omega] at this
    rcases Nat.lt_or_ge d 48 with h' | h'
    · have e : 96 * h + d = 96 * h + 8 * (d % 48 / 8) + d % 8 := by omega
      rw [e]; exact this.1
    · have e : 96 * h + d = 96 * h + 48 + 8 * (d % 48 / 8) + d % 8 := by omega
      rw [e]; exact this.2
  · intro H i hi j hj
    rw [show (8 * h + i) / 8 = h from by omega, show (8 * h + i) % 8 = i from by omega]
    refine ⟨?_, ?_⟩
    · have := H (8 * j + i) (by omega)
      rwa [← Nat.add_assoc] at this
    · have := H (48 + (8 * j + i)) (by omega)
      rwa [← Nat.add_assoc, ← Nat.add_assoc] at this

/-! ### The kernel's values are the reference's -/

section

variable {P : Pt} {A : Ar} {b s jj p : Nat} (I : Reads P A b s jj p) (hc : P.c7 = ((1 / 7 : ℝ) : EReal))
include I

theorem X_eq {o hh : Nat} (ho : o < 2) (hhh : hh < 8) {d : Nat} (hd : d < 96) :
    P.X o (96 * hh + d) p = A.k b s (96 * (16 * jj + 8 * o + hh) + d) := by
  unfold Pt.X
  rw [I.k _ (by omega)]
  congr 1; omega

theorem KR_eq {o hh : Nat} (ho : o < 2) (hhh : hh < 8) {d : Nat} (hd : d < 96) :
    P.KR o (96 * hh + d) p = A.kr b s (16 * jj + 8 * o + hh) d := by
  unfold Pt.KR Ar.kr
  rw [show (96 * hh + d) % 96 = d from by omega]
  by_cases h : d < 48
  · rw [if_pos h, if_pos h, X_eq I ho hhh hd, show 96 * hh + d + 48 = 96 * hh + (d + 48) from by omega, X_eq I ho hhh (by omega), I.cos _ h, I.sin _ h]
  · rw [if_neg h, if_neg h, X_eq I ho hhh hd, show 96 * hh + d - 48 = 96 * hh + (d - 48) from by omega, X_eq I ho hhh (by omega),
      I.cos _ (by omega), I.sin _ (by omega)]

theorem AM_eq {o hh : Nat} (ho : o < 2) (hhh : hh < 8) : P.AM o hh p = A.am b s (16 * jj + 8 * o + hh) := by
  refine eq_of_forall_ge_iff fun x => ?_
  rw [AM_le, Ar.am, Finset.fold_max_le]
  constructor
  · intro H
    exact ⟨bot_le, fun d _ => by have := H d.val d.isLt; rwa [KR_eq I ho hhh d.isLt] at this⟩
  · rintro ⟨-, H⟩ d hd
    rw [KR_eq I ho hhh hd]
    exact H ⟨d, hd⟩ (Finset.mem_univ _)

include hc

theorem SC_eq {o hh : Nat} (ho : o < 2) (hhh : hh < 8) : P.SC o hh p = A.sc b s (16 * jj + 8 * o + hh) := by
  unfold Pt.SC Ar.sc
  rw [AM_eq I ho hhh, hc, div_seven, I.al _ (by omega), ← Nat.add_assoc]

/-- The scale is not zero where the step parameter is not. -/
theorem sc_ne {H : Nat} (h : A.al H ≠ 0) : A.sc b s H ≠ 0 := by
  unfold Ar.sc
  by_cases h0 : A.am b s H = 0
  · rw [if_pos h0]; exact one_ne_zero
  · rw [if_neg h0, div_seven]
    refine mul_ne_zero (mul_ne_zero h h0) ?_
    norm_cast; norm_num

theorem R_eq {o hh : Nat} (ho : o < 2) (hhh : hh < 8) (ha : A.al (16 * jj + 8 * o + hh) ≠ 0) {d : Nat} (hd : d < 96) :
    P.R o (96 * hh + d) p = A.r b s (16 * jj + 8 * o + hh) d := by
  unfold Pt.R Pt.INV Ar.r
  rw [KR_eq I ho hhh hd, show (96 * hh + d) / 96 = hh from by omega, SC_eq I hc ho hhh, mul_inv_div _ (sc_ne I hc ha)]

theorem RC_eq {o hh : Nat} (ho : o < 2) (hhh : hh < 8) (ha : A.al (16 * jj + 8 * o + hh) ≠ 0) {d : Nat} (hd : d < 96) :
    P.RC o (96 * hh + d) p = min 7 (max (-7) (A.r b s (16 * jj + 8 * o + hh) d)) := by
  unfold Pt.RC
  rw [R_eq I hc ho hhh ha hd, ofBits_seven, ofBits_neg_seven]

theorem CD_eq {o hh : Nat} (ho : o < 2) (hhh : hh < 8) (ha : A.al (16 * jj + 8 * o + hh) ≠ 0) {d : Nat} (hd : d < 96) :
    P.CD o (96 * hh + d) p = FloatOps.fptosi (F := Ideal) (φ := .f32) 8 (A.q b s (16 * jj + 8 * o + hh) d) := by
  unfold Pt.CD
  rw [RC_eq I hc ho hhh ha hd]
  exact congrArg _ (round_clip _)

theorem GI_eq {o hh : Nat} (ho : o < 2) (hhh : hh < 8) (ha : A.al (16 * jj + 8 * o + hh) ≠ 0) {d : Nat} (hd : d < 96) :
    P.GI o (96 * hh + d) p * P.GS (8 * o + hh) p = A.gq b s (16 * jj + 8 * o + hh) d := by
  unfold Pt.GI Pt.GT Ar.gq
  rw [R_eq I hc ho hhh ha hd, RC_eq I hc ho hhh ha hd, show (96 * hh + d) / 96 = hh from by omega,
    show (96 * hh + d) % 96 = d from by omega, I.g _ (by omega) _ hd, I.gs _ (by omega), ← Nat.add_assoc]
  by_cases h : eabs (A.r b s (16 * jj + 8 * o + hh) d) ≤ 7
  · rw [if_pos h, if_pos ((eq_clip_iff _).2 h)]
  · rw [if_neg h, if_neg (fun e => h ((eq_clip_iff _).1 e)), zero_mul]

theorem DK_eq {o hh : Nat} (ho : o < 2) (hhh : hh < 8) (ha : A.al (16 * jj + 8 * o + hh) ≠ 0)
    (h0 : 0 ≤ A.gs b s (16 * jj + 8 * o + hh)) (h1 : A.gs b s (16 * jj + 8 * o + hh) ≠ ⊤) {d : Nat} (hd : d < 96) :
    P.DK o (96 * hh + d) p = A.dk b s (16 * jj + 8 * o + hh) d := by
  have hg : P.GS (8 * o + hh) p = A.gs b s (16 * jj + 8 * o + hh) := by rw [I.gs _ (by omega), ← Nat.add_assoc]
  have h0' : 0 ≤ P.GS (8 * o + hh) p := hg ▸ h0
  have h1' : P.GS (8 * o + hh) p ≠ ⊤ := hg ▸ h1
  have sw : ∀ x y z : EReal, x * y * z = x * z * y := fun x y z => mul_right_comm x y z
  unfold Pt.DK Ar.dk
  rw [show (96 * hh + d) % 96 = d from by omega, show (96 * hh + d) / 96 = hh from by omega]
  by_cases h : d < 48
  · rw [if_pos h, if_pos h, EReal.right_distrib_of_nonneg_of_ne_top h0' h1', sw, sw (P.GI o (96 * hh + d + 48) p), show 96 * hh + d + 48 = 96 * hh + (d + 48) from by omega,
      GI_eq I hc ho hhh ha hd, GI_eq I hc ho hhh ha (by omega), I.cos _ h, I.sin _ h]
  · rw [if_neg h, if_neg h, sub_eq_add_neg, EReal.right_distrib_of_nonneg_of_ne_top h0' h1', EReal.neg_mul, sw, sw (P.GI o (96 * hh + d - 48) p),
      show 96 * hh + d - 48 = 96 * hh + (d - 48) from by omega,
      GI_eq I hc ho hhh ha hd, GI_eq I hc ho hhh ha (by omega), I.cos _ (by omega), I.sin _ (by omega), ← sub_eq_add_neg]

end

end Cert.K
-- ==== Proof.KernelIdeal.Value.lean ====
/-
  What the kernel leaves in its results, in the notation of the specification.
-/
module

public import proofs.«01_k».proof.Proof.KernelIdeal.Exact
public import proofs.«01_k».proof.Proof.K.Spec
public import Idealize.ShloMosaic.Lib.StableHlo.RunRead
public import Idealize.ShloMosaic.Lib.Pipeline.ValueKit

@[expose] public section

set_option maxRecDepth 100000

noncomputable section

namespace Cert.KernelIdeal.Sb

open Cert.KernelIdeal.Gen Cert.K
open Idealize.ShloMosaic Idealize.ShloMosaic.TcCoe Idealize.SL.Sem
open Idealize.ShloMosaic.Pipeline (Dat)

/-! ### Where the blocks lie -/

theorem tlt (t : Fin cfg0.N) : t.val < 30 := t.isLt

theorem idx : ∀ t : Fin cfg0.N, win0_0.index t = ![t.val / 5, t.val % 5]
    ∧ win0_1.index t = ![t.val / 15, 0, t.val / 5 % 3] ∧ win0_2.index t = ![t.val / 15, 0, t.val / 5 % 3]
    ∧ win0_3.index t = ![0]
    ∧ win0_4.index t = ![t.val / 15, t.val % 5, 0, t.val / 5 % 3] ∧ win0_5.index t = ![t.val / 15, t.val % 5, t.val / 5 % 3]
    ∧ win0_6.index t = ![t.val / 5, t.val % 5]
    ∧ win0_9.index t = ![t.val / 15, t.val % 5, 0, t.val / 5 % 3] ∧ win0_10.index t = ![t.val / 15, t.val % 5, t.val / 5 % 3]
    ∧ t.val < 30 :=
  (by decide +kernel : ∀ t : Fin grid0.N, _)

section

variable {c₀ : Dev nD} (W : (b : Ref sig .tc) → Buf (Elt Ideal) ((c₀ : Thread nD τ).loc b)) (t : Fin cfg0.N)

theorem blk0 (p : Fin 256) (col : Fin 1536) :
    (((cfg0.win 0).blk t).view.read (Elt Ideal) (W (Pipeline.arrRef spec0 0)) : FVec Ideal S256x1536 .bf16) (ix2 p col)
      = (W main_v0 : FVec Ideal S1536x7680 .bf16) (ix2 ⟨256 * (t.val / 5) + p.val, by have := tlt t; omega⟩ ⟨1536 * (t.val % 5) + col.val, by omega⟩) := by
  blk_ext! [idx t]

theorem blk1 (d : Fin 48) (p : Fin 256) :
    (((cfg0.win 1).blk t).view.read (Elt Ideal) (W (Pipeline.arrRef spec0 1)) : FVec Ideal S1x48x256 .f32) (ix3 0 d p)
      = (W main_v1 : FVec Ideal S2x48x768 .f32) (ix3 ⟨t.val / 15, by have := tlt t; omega⟩ d ⟨256 * (t.val / 5 % 3) + p.val, by omega⟩) := by
  blk_ext! [idx t]

theorem blk2 (d : Fin 48) (p : Fin 256) :
    (((cfg0.win 2).blk t).view.read (Elt Ideal) (W (Pipeline.arrRef spec0 2)) : FVec Ideal S1x48x256 .f32) (ix3 0 d p)
      = (W main_v2 : FVec Ideal S2x48x768 .f32) (ix3 ⟨t.val / 15, by have := tlt t; omega⟩ d ⟨256 * (t.val / 5 % 3) + p.val, by omega⟩) := by
  blk_ext! [idx t]

theorem blk3 (h : Fin 80) :
    (((cfg0.win 3).blk t).view.read (Elt Ideal) (W (Pipeline.arrRef spec0 3)) : FVec Ideal S80 .f32) (ix1 h)
      = (W main_arg3 : FVec Ideal S80 .f32) (ix1 h) := by
  blk_ext! [idx t]

theorem blk4 (h : Fin 16) (d : Fin 96) (p : Fin 256) :
    (((cfg0.win 4).blk t).view.read (Elt Ideal) (W (Pipeline.arrRef spec0 4)) : FVec Ideal S1x16x96x256 .fp8e5m2) (ix4 0 h d p)
      = (W main_v3 : FVec Ideal S2x80x96x768 .fp8e5m2) (ix4 ⟨t.val / 15, by have := tlt t; omega⟩ ⟨16 * (t.val % 5) + h.val, by omega⟩ d ⟨256 * (t.val / 5 % 3) + p.val, by omega⟩) := by
  blk_ext! [idx t]

theorem blk5 (h : Fin 16) (p : Fin 256) :
    (((cfg0.win 5).blk t).view.read (Elt Ideal) (W (Pipeline.arrRef spec0 5)) : FVec Ideal S1x16x256 .f32) (ix3 0 h p)
      = (W main_v4 : FVec Ideal S2x80x768 .f32) (ix3 ⟨t.val / 15, by have := tlt t; omega⟩ ⟨16 * (t.val % 5) + h.val, by omega⟩ ⟨256 * (t.val / 5 % 3) + p.val, by omega⟩) := by
  blk_ext! [idx t]

end

/-! ### The lines before the call -/

section

variable (m : (ℓ : Loc nD τ sig) → Buf (Elt Ideal) ℓ) (c : Dev nD)

/-- The arguments. -/
abbrev x0 : FVec Ideal S2x768x7680 .bf16 := m ((c : Thread nD τ).loc main_arg0)
abbrev x1 : FVec Ideal S2x768x48 .f32 := m ((c : Thread nD τ).loc main_arg1)
abbrev x2 : FVec Ideal S2x768x48 .f32 := m ((c : Thread nD τ).loc main_arg2)
abbrev x3 : FVec Ideal S80 .f32 := m ((c : Thread nD τ).loc main_arg3)
abbrev x4 : FVec Ideal S2x768x80x96 .fp8e5m2 := m ((c : Thread nD τ).loc main_arg4)
abbrev x5 : FVec Ideal S2x768x80 .f32 := m ((c : Thread nD τ).loc main_arg5)

theorem v0_at (r : Fin 1536) (col : Fin 7680) : (V m c main_v0 : FVec Ideal S1536x7680 .bf16) (ix2 r col)
    = x0 m c (ix3 ⟨r.val / 768, by omega⟩ ⟨r.val % 768, by omega⟩ col) := by
  have e : (V m c main_v0 : FVec Ideal S1536x7680 .bf16) = shapeCast S1536x7680 (x0 m c) shapeCasts_S2x768x7680_S1536x7680 := by
    show StableHlo.after _ _ (Proc.devRef .tc main_v0) = _
    after_reads_simp
    try rfl
  rw [e]
  generalize x0 m c = X
  pointwise []

theorem v1_at (b : Fin 2) (d : Fin 48) (s : Fin 768) : (V m c main_v1 : FVec Ideal S2x48x768 .f32) (ix3 b d s) = x1 m c (ix3 b s d) := by
  have e : (V m c main_v1 : FVec Ideal S2x48x768 .f32) = transpose S2x48x768 [0, 2, 1] (x1 m c) transposes_S2x768x48_S2x48x768_0_2_1 := by
    show StableHlo.after _ _ (Proc.devRef .tc main_v1) = _
    after_reads_simp
    try rfl
  rw [e]
  generalize x1 m c = X
  pointwise []

theorem v2_at (b : Fin 2) (d : Fin 48) (s : Fin 768) : (V m c main_v2 : FVec Ideal S2x48x768 .f32) (ix3 b d s) = x2 m c (ix3 b s d) := by
  have e : (V m c main_v2 : FVec Ideal S2x48x768 .f32) = transpose S2x48x768 [0, 2, 1] (x2 m c) transposes_S2x768x48_S2x48x768_0_2_1 := by
    show StableHlo.after _ _ (Proc.devRef .tc main_v2) = _
    after_reads_simp
    try rfl
  rw [e]
  generalize x2 m c = X
  pointwise []

theorem v3_at (b : Fin 2) (h : Fin 80) (d : Fin 96) (s : Fin 768) : (V m c main_v3 : FVec Ideal S2x80x96x768 .fp8e5m2) (ix4 b h d s) = x4 m c (ix4 b s h d) := by
  have e : (V m c main_v3 : FVec Ideal S2x80x96x768 .fp8e5m2) = transpose S2x80x96x768 [0, 2, 3, 1] (x4 m c) transposes_S2x768x80x96_S2x80x96x768_0_2_3_1 := by
    show StableHlo.after _ _ (Proc.devRef .tc main_v3) = _
    after_reads_simp
    try rfl
  rw [e]
  generalize x4 m c = X
  pointwise []

theorem v4_at (b : Fin 2) (h : Fin 80) (s : Fin 768) : (V m c main_v4 : FVec Ideal S2x80x768 .f32) (ix3 b h s) = x5 m c (ix3 b s h) := by
  have e : (V m c main_v4 : FVec Ideal S2x80x768 .f32) = transpose S2x80x768 [0, 2, 1] (x5 m c) transposes_S2x768x80_S2x80x768_0_2_1 := by
    show StableHlo.after _ _ (Proc.devRef .tc main_v4) = _
    after_reads_simp
    try rfl
  rw [e]
  generalize x5 m c = X
  pointwise []

end

/-- The arguments by natural-number coordinates. -/
def arOf (X0 : FVec Ideal S2x768x7680 .bf16) (X1 X2 : FVec Ideal S2x768x48 .f32) (X3 : FVec Ideal S80 .f32)
    (X4 : FVec Ideal S2x768x80x96 .fp8e5m2) (X5 : FVec Ideal S2x768x80 .f32) : Ar where
  k b s c := a3 (n0 := 2) (n1 := 768) (n2 := 7680) X0 b s c
  cos b s d := a3 (n0 := 2) (n1 := 768) (n2 := 48) X1 b s d
  sin b s d := a3 (n0 := 2) (n1 := 768) (n2 := 48) X2 b s d
  al H := a1 (n0 := 80) X3 H
  g b s H d := a4 (n0 := 2) (n1 := 768) (n2 := 80) (n3 := 96) X4 b s H d
  gs b s H := a3 (n0 := 2) (n1 := 768) (n2 := 80) X5 b s H

theorem a1_mk {α : Type} {n0 : Nat} [NeZero n0] (x : (⟨1, ![n0]⟩ : Shape).Idx → α) (i : Nat) (hi : i < n0) :
    a1 x i = x (ix1 ⟨i, hi⟩) := by
  unfold a1; rw [ofNat_mk hi]
theorem a2_mk {α : Type} {n0 n1 : Nat} [NeZero n0] [NeZero n1] (x : (⟨2, ![n0, n1]⟩ : Shape).Idx → α) (i j : Nat) (hi : i < n0) (hj : j < n1) :
    a2 x i j = x (ix2 ⟨i, hi⟩ ⟨j, hj⟩) := by
  unfold a2; rw [ofNat_mk hi, ofNat_mk hj]
theorem a3_mk {α : Type} {n0 n1 n2 : Nat} [NeZero n0] [NeZero n1] [NeZero n2] (x : (⟨3, ![n0, n1, n2]⟩ : Shape).Idx → α) (i j k : Nat)
    (hi : i < n0) (hj : j < n1) (hk : k < n2) : a3 x i j k = x (ix3 ⟨i, hi⟩ ⟨j, hj⟩ ⟨k, hk⟩) := by
  unfold a3; rw [ofNat_mk hi, ofNat_mk hj, ofNat_mk hk]
theorem a4_mk {α : Type} {n0 n1 n2 n3 : Nat} [NeZero n0] [NeZero n1] [NeZero n2] [NeZero n3] (x : (⟨4, ![n0, n1, n2, n3]⟩ : Shape).Idx → α) (i j k l : Nat)
    (hi : i < n0) (hj : j < n1) (hk : k < n2) (hl : l < n3) : a4 x i j k l = x (ix4 ⟨i, hi⟩ ⟨j, hj⟩ ⟨k, hk⟩ ⟨l, hl⟩) := by
  unfold a4; rw [ofNat_mk hi, ofNat_mk hj, ofNat_mk hk, ofNat_mk hl]

section

variable (m : (ℓ : Loc nD τ sig) → Buf (Elt Ideal) ℓ) (c : Dev nD)

/-- The arguments of the run. -/
abbrev ar₀ : Ar := arOf (x0 m c) (x1 m c) (x2 m c) (x3 m c) (x4 m c) (x5 m c)

theorem in0 (t : Fin cfg0.N) (p : Fin 256) (col : Fin 1536) : (iblk m c 0 t : FVec Ideal S256x1536 .bf16) (ix2 p col)
    = x0 m c (ix3 ⟨t.val / 15, by have := tlt t; omega⟩ ⟨256 * (t.val / 5 % 3) + p.val, by omega⟩ ⟨1536 * (t.val % 5) + col.val, by omega⟩) := by
  unfold iblk
  refine (blk0 (V m c) t p col).trans ((v0_at m c _ _).trans (congrArg (x0 m c) ?_))
  have := tlt t
  congr 1 <;> (apply Fin.ext; dsimp only; omega)

theorem in1 (t : Fin cfg0.N) (d : Fin 48) (p : Fin 256) : (iblk m c 1 t : FVec Ideal S1x48x256 .f32) (ix3 0 d p)
    = x1 m c (ix3 ⟨t.val / 15, by have := tlt t; omega⟩ ⟨256 * (t.val / 5 % 3) + p.val, by omega⟩ d) := by
  unfold iblk
  exact (blk1 (V m c) t d p).trans (v1_at m c _ _ _)

theorem in2 (t : Fin cfg0.N) (d : Fin 48) (p : Fin 256) : (iblk m c 2 t : FVec Ideal S1x48x256 .f32) (ix3 0 d p)
    = x2 m c (ix3 ⟨t.val / 15, by have := tlt t; omega⟩ ⟨256 * (t.val / 5 % 3) + p.val, by omega⟩ d) := by
  unfold iblk
  exact (blk2 (V m c) t d p).trans (v2_at m c _ _ _)

theorem in3 (t : Fin cfg0.N) (h : Fin 80) : (iblk m c 3 t : FVec Ideal S80 .f32) (ix1 h) = x3 m c (ix1 h) := by
  unfold iblk
  exact (blk3 (V m c) t h).trans (congrFun (V_main_arg3 m c) _)

theorem in4 (t : Fin cfg0.N) (h : Fin 16) (d : Fin 96) (p : Fin 256) : (iblk m c 4 t : FVec Ideal S1x16x96x256 .fp8e5m2) (ix4 0 h d p)
    = x4 m c (ix4 ⟨t.val / 15, by have := tlt t; omega⟩ ⟨256 * (t.val / 5 % 3) + p.val, by omega⟩ ⟨16 * (t.val % 5) + h.val, by omega⟩ d) := by
  unfold iblk
  exact (blk4 (V m c) t h d p).trans (v3_at m c _ _ _ _)

theorem in5 (t : Fin cfg0.N) (h : Fin 16) (p : Fin 256) : (iblk m c 5 t : FVec Ideal S1x16x256 .f32) (ix3 0 h p)
    = x5 m c (ix3 ⟨t.val / 15, by have := tlt t; omega⟩ ⟨256 * (t.val / 5 % 3) + p.val, by omega⟩ ⟨16 * (t.val % 5) + h.val, by omega⟩) := by
  unfold iblk
  exact (blk5 (V m c) t h p).trans (v4_at m c _ _ _)

/-- What a grid point reads. -/
theorem reads (t : Fin cfg0.N) (p : Nat) (hp : p < 256) :
    Reads (ptAt m c t) (ar₀ m c) (t.val / 15) (256 * (t.val / 5 % 3) + p) (t.val % 5) p := by
  have ht := tlt t
  constructor
  · intro col hcol
    exact (a2_mk _ p col hp hcol).trans ((in0 m c t ⟨p, hp⟩ ⟨col, hcol⟩).trans (a3_mk (x0 m c) _ _ _ (by omega) (by omega) (by omega)).symm)
  · intro d hd
    exact (a3_mk _ 0 d p (by omega) hd hp).trans ((in1 m c t ⟨d, hd⟩ ⟨p, hp⟩).trans (a3_mk (x1 m c) _ _ _ (by omega) (by omega) (by omega)).symm)
  · intro d hd
    exact (a3_mk _ 0 d p (by omega) hd hp).trans ((in2 m c t ⟨d, hd⟩ ⟨p, hp⟩).trans (a3_mk (x2 m c) _ _ _ (by omega) (by omega) (by omega)).symm)
  · intro h hh
    exact (a1_mk (alV m c) _ (by omega)).trans ((in3 m c _ _).trans (a1_mk (x3 m c) _ (by omega)).symm)
  · intro h hh d hd
    exact (a4_mk _ 0 h d p (by omega) hh hd hp).trans ((in4 m c t ⟨h, hh⟩ ⟨d, hd⟩ ⟨p, hp⟩).trans (a4_mk (x4 m c) _ _ _ _ (by omega) (by omega) (by omega) (by omega)).symm)
  · intro h hh
    exact (a3_mk _ 0 h p (by omega) hh hp).trans ((in5 m c t ⟨h, hh⟩ ⟨p, hp⟩).trans (a3_mk (x5 m c) _ _ _ (by omega) (by omega) (by omega)).symm)

theorem seventh (t : Fin cfg0.N) : (ptAt m c t).c7 = ((1/7 : ℝ) : EReal) := by
  show (Named.named κ "inv7" 0x3E124925#32 : Ideal .f32) = _
  rfl

end

end Cert.KernelIdeal.Sb
-- ==== Proof.KernelIdeal.Arrays.lean ====
/-
  The kernel's result arrays after the run, in the notation of the specification.
-/
module

public import proofs.«01_k».proof.Proof.KernelIdeal.Value

@[expose] public section

set_option maxRecDepth 100000

noncomputable section

namespace Cert.KernelIdeal.Sb

open Cert.KernelIdeal.Gen Cert.K
open Idealize.ShloMosaic Idealize.ShloMosaic.TcCoe Idealize.SL.Sem
open Idealize.ShloMosaic.Pipeline (Dat)

variable (m : (ℓ : Loc nD τ sig) → Buf (Elt Ideal) ℓ) (c : Dev nD)

/-- What is asked of the arguments. -/
structure Ok (A : Ar) : Prop where
  al : ∀ H < 80, A.al H ≠ 0
  gs0 : ∀ b < 2, ∀ s < 768, ∀ H < 80, 0 ≤ A.gs b s H
  gs1 : ∀ b < 2, ∀ s < 768, ∀ H < 80, A.gs b s H ≠ ⊤

/-- The key gradients, codes and scales as the arrays of the kernel hold them. -/
def gDk (A : Ar) : FVec Ideal S1536x7680 .bf16 := fun y => A.dk ((y 0).val / 768) ((y 0).val % 768) ((y 1).val / 96) ((y 1).val % 96)
def gCodes (A : Ar) : IVec S2x80x96x768 8 := fun y => FloatOps.fptosi (F := Ideal) (φ := .f32) 8 (A.q (y 0).val (y 3).val (y 1).val (y 2).val)
def gS (A : Ar) : FVec Ideal S2x80x768 .f32 := fun y => A.sc (y 0).val (y 2).val (y 1).val

theorem dkPt (hA : Ok (ar₀ m c)) (t : Fin cfg0.N) (p col : Nat) (hp : p < 256) (hcol : col < 1536) :
    (ptAt m c t).DKC p col = (ar₀ m c).dk ((256 * (t.val / 5) + p) / 768) ((256 * (t.val / 5) + p) % 768) ((1536 * (t.val % 5) + col) / 96) ((1536 * (t.val % 5) + col) % 96) := by
  have ht := tlt t
  have e := DK_eq (reads m c t p hp) (seventh m c t) (o := col / 768) (hh := col % 768 / 96) (by omega) (by omega) (hA.al _ (by omega))
    (hA.gs0 _ (by omega) _ (by omega) _ (by omega)) (hA.gs1 _ (by omega) _ (by omega) _ (by omega)) (d := col % 96) (by omega)
  unfold Pt.DKC
  rw [show col % 768 = 96 * (col % 768 / 96) + col % 96 from by omega, e]
  congr 1 <;> omega

theorem cdPt (hA : Ok (ar₀ m c)) (t : Fin cfg0.N) (h d p : Nat) (hh : h < 16) (hd : d < 96) (hp : p < 256) :
    (ptAt m c t).CDH h d p = FloatOps.fptosi (F := Ideal) (φ := .f32) 8 ((ar₀ m c).q (t.val / 15) (256 * (t.val / 5 % 3) + p) (16 * (t.val % 5) + h) d) := by
  have ht := tlt t
  have e := CD_eq (reads m c t p hp) (seventh m c t) (o := h / 8) (hh := h % 8) (by omega) (by omega) (hA.al _ (by omega)) hd
  unfold Pt.CDH
  rw [e]
  congr 2; omega

theorem scPt (t : Fin cfg0.N) (h p : Nat) (hh : h < 16) (hp : p < 256) :
    (ptAt m c t).SCH h p = (ar₀ m c).sc (t.val / 15) (256 * (t.val / 5 % 3) + p) (16 * (t.val % 5) + h) := by
  have ht := tlt t
  have e := SC_eq (reads m c t p hp) (seventh m c t) (o := h / 8) (hh := h % 8) (by omega) (by omega)
  unfold Pt.SCH
  rw [e]
  congr 1; omega

theorem arr6 (hA : Ok (ar₀ m c)) : (vdats m 0 c).arrAt 6 (cfgs 0).N = gDk (ar₀ m c) := by
  refine (vdats m 0 c).arrAt_eq_of_covers 6 (gDk (ar₀ m c)) (by decide +kernel) fun t hf y => ?_
  have e : (vdats m 0 c).after 6 t = (ptAt m c t).outDk := rfl
  blk_simp
  rw [e]
  unfold gDk Pt.outDk
  blk_simp [idx t]
  refine (dkPt m c hA t _ _ (y 0).isLt (y 1).isLt).trans ?_
  simp only [Nat.mul_comm]

theorem arr9 (hA : Ok (ar₀ m c)) : (vdats m 0 c).arrAt 9 (cfgs 0).N = gCodes (ar₀ m c) := by
  refine (vdats m 0 c).arrAt_eq_of_covers 9 (gCodes (ar₀ m c)) (by decide +kernel) fun t hf y => ?_
  have e : (vdats m 0 c).after 9 t = (ptAt m c t).outCodes := rfl
  blk_simp
  rw [e]
  unfold gCodes Pt.outCodes
  blk_simp [idx t]
  refine (cdPt m c hA t _ _ _ (y 1).isLt (y 2).isLt (y 3).isLt).trans ?_
  simp only [Nat.mul_comm]

theorem arr10 : (vdats m 0 c).arrAt 10 (cfgs 0).N = gS (ar₀ m c) := by
  refine (vdats m 0 c).arrAt_eq_of_covers 10 (gS (ar₀ m c)) (by decide +kernel) fun t hf y => ?_
  have e : (vdats m 0 c).after 10 t = (ptAt m c t).outS := rfl
  blk_simp
  rw [e]
  unfold gS Pt.outS
  blk_simp [idx t]
  refine (scPt m c t _ _ (y 1).isLt (y 2).isLt).trans ?_
  simp only [Nat.mul_comm]

/-! ### The lines after the call -/

theorem w6_of (V : Valuation τ sig (Elt Ideal)) : StableHlo.after (List.flatten [hostOps1]) V (Proc.devRef .tc main_v6)
    = (shapeCast S2x768x7680 (V (Proc.devRef .tc main_v5_0) : FVec Ideal S1536x7680 .bf16) shapeCasts_S1536x7680_S2x768x7680 : FVec Ideal S2x768x7680 .bf16) := by
  after_reads_simp
  try rfl

theorem w8_of (V : Valuation τ sig (Elt Ideal)) : StableHlo.after (List.flatten [hostOps1]) V (Proc.devRef .tc main_v8)
    = (transpose S2x768x80x96 [0, 3, 1, 2] (V (Proc.devRef .tc main_v5_3) : IVec S2x80x96x768 8) transposes_S2x80x96x768_S2x768x80x96_0_3_1_2 : IVec S2x768x80x96 8) := by
  after_reads_simp
  try rfl

theorem w9_of (V : Valuation τ sig (Elt Ideal)) : StableHlo.after (List.flatten [hostOps1]) V (Proc.devRef .tc main_v9)
    = (transpose S2x768x80 [0, 2, 1] (V (Proc.devRef .tc main_v5_4) : FVec Ideal S2x80x768 .f32) transposes_S2x80x768_S2x768x80_0_2_1 : FVec Ideal S2x768x80 .f32) := by
  after_reads_simp
  try rfl

theorem dk_read (X : FVec Ideal S1536x7680 .bf16) (b : Fin 2) (s : Fin 768) (col : Fin 7680) :
    shapeCast S2x768x7680 X shapeCasts_S1536x7680_S2x768x7680 (ix3 b s col) = X (ix2 ⟨768 * b.val + s.val, by omega⟩ col) := by
  pointwise []
  simp only [Nat.mul_comm]

theorem cd_read (X : IVec S2x80x96x768 8) (b : Fin 2) (s : Fin 768) (H : Fin 80) (d : Fin 96) :
    transpose S2x768x80x96 [0, 3, 1, 2] X transposes_S2x80x96x768_S2x768x80x96_0_3_1_2 (ix4 b s H d) = X (ix4 b H d s) := by
  pointwise []

theorem sc_read (X : FVec Ideal S2x80x768 .f32) (b : Fin 2) (s : Fin 768) (H : Fin 80) :
    transpose S2x768x80 [0, 2, 1] X transposes_S2x80x768_S2x768x80_0_2_1 (ix3 b s H) = X (ix3 b H s) := by
  pointwise []

/-- Each result's contents at one element. -/
structure Res (A : Ar) (dk : FVec Ideal S2x768x7680 .bf16) (cd : IVec S2x768x80x96 8) (sc : FVec Ideal S2x768x80 .f32) : Prop where
  dk : ∀ (b : Fin 2) (s : Fin 768) (col : Fin 7680), dk (ix3 b s col) = A.dk b.val s.val (col.val / 96) (col.val % 96)
  cd : ∀ (b : Fin 2) (s : Fin 768) (H : Fin 80) (d : Fin 96), cd (ix4 b s H d) = FloatOps.fptosi (F := Ideal) (φ := .f32) 8 (A.q b.val s.val H.val d.val)
  sc : ∀ (b : Fin 2) (s : Fin 768) (H : Fin 80), sc (ix3 b s H) = A.sc b.val s.val H.val

theorem res_of (A : Ar) : Res A (shapeCast S2x768x7680 (gDk A) shapeCasts_S1536x7680_S2x768x7680)
    (transpose S2x768x80x96 [0, 3, 1, 2] (gCodes A) transposes_S2x80x96x768_S2x768x80x96_0_3_1_2)
    (transpose S2x768x80 [0, 2, 1] (gS A) transposes_S2x80x768_S2x768x80_0_2_1) := by
  refine ⟨fun b s col => (dk_read _ b s col).trans ?_, fun b s H d => cd_read _ b s H d, fun b s H => sc_read _ b s H⟩
  show A.dk ((768 * b.val + s.val) / 768) ((768 * b.val + s.val) % 768) (col.val / 96) (col.val % 96) = _
  rw [show (768 * b.val + s.val) / 768 = b.val from by omega, show (768 * b.val + s.val) % 768 = s.val from by omega]

/-- The kernel's run. -/
theorem run (ρ : Dev nD → PrngReg) (hA : ∀ c, Ok (ar₀ m c)) :
    θ_run defs (onTc (τ := τ) (main (F := Ideal))) ⟨m, fun _ => 0, ρ⟩ (fun r => ∀ c : Dev nD,
      Res (ar₀ m c) (r.2.mem ((c.tc : Thread nD τ).loc main_v6)) (r.2.mem ((c.tc : Thread nD τ).loc main_v8)) (r.2.mem ((c.tc : Thread nD τ).loc main_v9))) := by
  refine (θ_run defs _ _).mono (fun r h c => ?_) (value_run m ρ)
  have e6 : r.2.mem ((c.tc : Thread nD τ).loc main_v6) = shapeCast S2x768x7680 (gDk (ar₀ m c)) shapeCasts_S1536x7680_S2x768x7680 := by
    refine ((h c).2 main_v6 (Pipeline.mem_restRefs_of main_v6 (by decide) (by decide))).trans ?_
    unfold Pipeline.afterTail₀
    rw [w6_of]
    have e : Pipeline.withArrays spec0 c (V0 m c) (fun w => (vdats m 0 c).arrAt w (cfgs 0).N) (Proc.devRef .tc main_v5_0) = gDk (ar₀ m c) :=
      (Pipeline.withArrays_arr spec0 launch0.win.arr_inj c (V0 m c) _ 6).trans (arr6 m c (hA c))
    erw [e]
  have e8 : r.2.mem ((c.tc : Thread nD τ).loc main_v8) = transpose S2x768x80x96 [0, 3, 1, 2] (gCodes (ar₀ m c)) transposes_S2x80x96x768_S2x768x80x96_0_3_1_2 := by
    refine ((h c).2 main_v8 (Pipeline.mem_restRefs_of main_v8 (by decide) (by decide))).trans ?_
    unfold Pipeline.afterTail₀
    rw [w8_of]
    have e : Pipeline.withArrays spec0 c (V0 m c) (fun w => (vdats m 0 c).arrAt w (cfgs 0).N) (Proc.devRef .tc main_v5_3) = gCodes (ar₀ m c) :=
      (Pipeline.withArrays_arr spec0 launch0.win.arr_inj c (V0 m c) _ 9).trans (arr9 m c (hA c))
    erw [e]
  have e9 : r.2.mem ((c.tc : Thread nD τ).loc main_v9) = transpose S2x768x80 [0, 2, 1] (gS (ar₀ m c)) transposes_S2x80x768_S2x768x80_0_2_1 := by
    refine ((h c).2 main_v9 (Pipeline.mem_restRefs_of main_v9 (by decide) (by decide))).trans ?_
    unfold Pipeline.afterTail₀
    rw [w9_of]
    have e : Pipeline.withArrays spec0 c (V0 m c) (fun w => (vdats m 0 c).arrAt w (cfgs 0).N) (Proc.devRef .tc main_v5_4) = gS (ar₀ m c) :=
      (Pipeline.withArrays_arr spec0 launch0.win.arr_inj c (V0 m c) _ 10).trans (arr10 m c)
    erw [e]
  rw [e6, e8, e9]
  exact res_of _

end Cert.KernelIdeal.Sb
-- ==== Proof.ReferenceIdeal.Value.lean ====
/-
  What the reference leaves in its results, as vectors over its arguments, and what each is at one element.
-/
module

public import proofs.«01_k».proof.Proof.Gen.ReferenceIdeal.Frame
public import proofs.«01_k».proof.Proof.K.Spec
public import Idealize.ShloMosaic.Lib.StableHlo.RunRead
public import Idealize.ShloMosaic.Lib.Pipeline.ValueKit

@[expose] public section

set_option maxRecDepth 100000

noncomputable section

namespace Cert.ReferenceIdeal.Value

open Cert.ReferenceIdeal Cert.ReferenceIdeal.Gen Cert.K
open Idealize.ShloMosaic Idealize.ShloMosaic.TcCoe Idealize.SL.Sem
open Idealize.ShloMosaic.Pipeline (Dat)

/-- Two halves along the last axis. -/
def cat (a b : FVec Ideal S2x768x80x48 .f32) : FVec Ideal S2x768x80x96 .f32 :=
  concatenate S2x768x80x96 3 [⟨S2x768x80x48, a⟩, ⟨S2x768x80x48, b⟩] concatenates_S2x768x80x48_S2x768x80x48_S2x768x80x96_d3

/-- A rotation table, over the heads. -/
def tab (x : FVec Ideal S2x768x48 .f32) : FVec Ideal S2x768x80x48 .f32 :=
  broadcastInDim S2x768x80x48 ![0, 1, 2, 3] bcast_S2x768x1x48_S2x768x80x48_0_1_2_3
    (broadcastInDim S2x768x1x48 ![0, 1, 3] bcast_S2x768x48_S2x768x1x48_0_1_3 x)

/-- The first half. -/
def lo (x : FVec Ideal S2x768x80x96 .f32) : FVec Ideal S2x768x80x48 .f32 :=
  extractStridedSlice S2x768x80x48 ![0, 0, 0, 0] x slices_S2x768x80x96_S2x768x80x48_0_0_0_0

/-- The second half. -/
def hi (x : FVec Ideal S2x768x80x96 .f32) : FVec Ideal S2x768x80x48 .f32 :=
  extractStridedSlice S2x768x80x48 ![0, 0, 0, 48] x slices_S2x768x80x96_S2x768x80x48_0_0_0_48

/-- A per-head value over the coordinates. -/
def per (x : FVec Ideal S2x768x80 .f32) : FVec Ideal S2x768x80x96 .f32 :=
  broadcastInDim S2x768x80x96 ![0, 1, 2, 3] bcast_S2x768x80x1_S2x768x80x96_0_1_2_3
    (broadcastInDim S2x768x80x1 ![0, 1, 2] bcast_S2x768x80_S2x768x80x1_0_1_2 x)

/-- A constant over the heads, and over the coordinates. -/
def c3 (w : BitVec 32) : FVec Ideal S2x768x80 .f32 := broadcastInDim S2x768x80 ![] bcast_S_S2x768x80 (constant S_ .f32 w)
/-- A constant over the coordinates. -/
def c4 (w : BitVec 32) : FVec Ideal S2x768x80x96 .f32 := broadcastInDim S2x768x80x96 ![] bcast_S_S2x768x80x96 (constant S_ .f32 w)

/-- The keys by head. -/
def keys (X0 : FVec Ideal S2x768x7680 .bf16) : FVec Ideal S2x768x80x96 .f32 :=
  shapeCast S2x768x80x96 (extf .f32 X0 bitsLt_bf16_f32) shapeCasts_S2x768x7680_S2x768x80x96

/-- The rotated keys. -/
def krV (X0 : FVec Ideal S2x768x7680 .bf16) (X1 X2 : FVec Ideal S2x768x48 .f32) : FVec Ideal S2x768x80x96 .f32 :=
  cat (subf (mulf (lo (keys X0)) (tab X1)) (mulf (hi (keys X0)) (tab X2)))
    (addf (mulf (hi (keys X0)) (tab X1)) (mulf (lo (keys X0)) (tab X2)))

/-- The largest absolute values. -/
def amV (kr : FVec Ideal S2x768x80x96 .f32) : FVec Ideal S2x768x80 .f32 :=
  Host.reduce FloatOps.maximumf (Host.absf kr) (constant S_ .f32 0xFF800000#32) reducesTo_S2x768x80x96_S2x768x80_d3 h_S_

/-- The scales. -/
def scV (am : FVec Ideal S2x768x80 .f32) (X3 : FVec Ideal S80 .f32) : FVec Ideal S2x768x80 .f32 :=
  select (cmpf .oeq am (c3 0x00000000#32)) (c3 0x3F800000#32)
    (Host.divf (mulf (broadcastInDim S2x768x80 ![0, 1, 2] bcast_S1x1x80_S2x768x80_0_1_2 (broadcastInDim S1x1x80 ![2] bcast_S80_S1x1x80_2 X3)) am)
      (c3 0x40E00000#32))

/-- The codes before they are made integers. -/
def qV (r : FVec Ideal S2x768x80x96 .f32) : FVec Ideal S2x768x80x96 .f32 :=
  minimumf (c4 0x40E00000#32) (maximumf (c4 0xC0E00000#32) (Host.roundeven r))

/-- The gradients of the scaled keys, times the scales. -/
def gqV (r g : FVec Ideal S2x768x80x96 .f32) (X5 : FVec Ideal S2x768x80 .f32) : FVec Ideal S2x768x80x96 .f32 :=
  select (cmpf .ole (Host.absf r) (c4 0x40E00000#32)) (mulf g (per X5)) (c4 0x00000000#32)

/-- The key gradients. -/
def dkV (gq : FVec Ideal S2x768x80x96 .f32) (X1 X2 : FVec Ideal S2x768x48 .f32) : FVec Ideal S2x768x7680 .bf16 :=
  truncf .bf16 (shapeCast S2x768x7680 (cat (addf (mulf (lo gq) (tab X1)) (mulf (hi gq) (tab X2)))
    (subf (mulf (hi gq) (tab X1)) (mulf (lo gq) (tab X2)))) shapeCasts_S2x768x80x96_S2x768x7680) bitsLt_bf16_f32

/-! ### At one element -/

theorem tab_at (x : FVec Ideal S2x768x48 .f32) (b : Fin 2) (s : Fin 768) (H : Fin 80) (d : Fin 48) : tab x (ix4 b s H d) = x (ix3 b s d) := by
  unfold tab
  pointwise []

theorem per_at (x : FVec Ideal S2x768x80 .f32) (b : Fin 2) (s : Fin 768) (H : Fin 80) (d : Fin 96) : per x (ix4 b s H d) = x (ix3 b s H) := by
  unfold per
  pointwise []

theorem lo_at (x : FVec Ideal S2x768x80x96 .f32) (b : Fin 2) (s : Fin 768) (H : Fin 80) (d : Fin 48) :
    lo x (ix4 b s H d) = x (ix4 b s H ⟨d.val, by omega⟩) := by
  unfold lo
  pointwise []

theorem hi_at (x : FVec Ideal S2x768x80x96 .f32) (b : Fin 2) (s : Fin 768) (H : Fin 80) (d : Fin 48) :
    hi x (ix4 b s H d) = x (ix4 b s H ⟨d.val + 48, by omega⟩) := by
  unfold hi
  pointwise []
  simp only [Nat.add_comm]

theorem keys_at (X0 : FVec Ideal S2x768x7680 .bf16) (b : Fin 2) (s : Fin 768) (H : Fin 80) (d : Fin 96) :
    keys X0 (ix4 b s H d) = X0 (ix3 b s ⟨96 * H.val + d.val, by omega⟩) := by
  unfold keys
  pointwise []
  simp only [Nat.mul_comm]

theorem cat_at (x y : FVec Ideal S2x768x80x48 .f32) (b : Fin 2) (s : Fin 768) (H : Fin 80) (d : Fin 96) :
    cat x y (ix4 b s H d) = if h : d.val < 48 then x (ix4 b s H ⟨d.val, h⟩) else y (ix4 b s H ⟨d.val - 48, by omega⟩) := by
  unfold cat
  pointwise []

theorem flat_at (x : FVec Ideal S2x768x80x96 .f32) (b : Fin 2) (s : Fin 768) (c : Fin 7680) :
    shapeCast S2x768x7680 x shapeCasts_S2x768x80x96_S2x768x7680 (ix3 b s c)
      = x (ix4 b s ⟨c.val / 96, by omega⟩ ⟨c.val % 96, by omega⟩) := by
  pointwise []

theorem am_at (kr : FVec Ideal S2x768x80x96 .f32) (b : Fin 2) (s : Fin 768) (H : Fin 80) :
    amV kr (ix3 b s H) = (Finset.univ : Finset (Fin 96)).fold max ⊥ fun d => eabs (kr (ix4 b s H d)) := by
  have hr : S2x768x80x96.Reduces [3] S2x768x80 := ⟨reducesTo_S2x768x80x96_S2x768x80_d3.1, by decide, reducesTo_S2x768x80x96_S2x768x80_d3.2⟩
  unfold amV
  rw [Host.reduce_eq_fold_single FloatOps.maximumf _ _ reducesTo_S2x768x80x96_S2x768x80_d3 hr h_S_]
  have hb : (constant (F := Ideal) S_ .f32 0xFF800000#32) (Shape.Idx.first h_S_) = (⊥ : EReal) := by
    show Ideal.ofBits .f32 0xFF800000#32 = ⊥; simp [Ideal.ofBits, Ideal.ieee]
  rw [hb]
  refine congrArg (fun f => Finset.fold max (⊥ : EReal) f (Finset.univ : Finset (Fin 96))) (funext fun d => ?_)
  show eabs (kr _) = _
  congr 2
  funext a; apply Fin.ext
  fin_cases a <;> rfl

/-! ### The host lines -/

section

variable (m : (ℓ : Loc nD τ sig) → Buf (Elt Ideal) ℓ) (c : Dev nD)

/-- The arguments. -/
abbrev x0 : FVec Ideal S2x768x7680 .bf16 := m ((c : Thread nD τ).loc main_arg0)
abbrev x1 : FVec Ideal S2x768x48 .f32 := m ((c : Thread nD τ).loc main_arg1)
abbrev x2 : FVec Ideal S2x768x48 .f32 := m ((c : Thread nD τ).loc main_arg2)
abbrev x3 : FVec Ideal S80 .f32 := m ((c : Thread nD τ).loc main_arg3)
abbrev x4 : FVec Ideal S2x768x80x96 .fp8e5m2 := m ((c : Thread nD τ).loc main_arg4)
abbrev x5 : FVec Ideal S2x768x80 .f32 := m ((c : Thread nD τ).loc main_arg5)

/-- The reference's scales, scaled keys and rotated keys over the arguments. -/
abbrev kr₀ := krV (x0 m c) (x1 m c) (x2 m c)
abbrev sc₀ := scV (amV (kr₀ m c)) (x3 m c)
abbrev r₀ := Host.divf (kr₀ m c) (per (sc₀ m c))

theorem cat_def (a b : FVec Ideal S2x768x80x48 .f32) :
    concatenate S2x768x80x96 3 [⟨S2x768x80x48, a⟩, ⟨S2x768x80x48, b⟩] concatenates_S2x768x80x48_S2x768x80x48_S2x768x80x96_d3 = cat a b := rfl

theorem v0_eq : V0 m c (Proc.devRef .tc main_v0) = broadcastInDim S2x768x1x48 ![0, 1, 3] bcast_S2x768x48_S2x768x1x48_0_1_3 (x1 m c) := by
  unfold V0
  after_reads_simp
  try rfl

theorem v1_eq : V0 m c (Proc.devRef .tc main_v1) = broadcastInDim S2x768x1x48 ![0, 1, 3] bcast_S2x768x48_S2x768x1x48_0_1_3 (x2 m c) := by
  unfold V0
  after_reads_simp
  try rfl

/-- The contents after the first stretch of host lines. -/
abbrev U : Valuation τ sig (Elt Ideal) := StableHlo.after hostOps0 (fun b => m (c, b))

theorem u16_eq : U m c (Proc.devRef .tc main_v16) = kr₀ m c := by
  after_reads_simp
  simp only [cat_def]
  after_reads_simp
  rfl

theorem u18_eq : U m c (Proc.devRef .tc main_v18) = amV (kr₀ m c) := by
  after_reads_simp
  simp only [cat_def]
  after_reads_simp
  rfl

theorem u20_eq : U m c (Proc.devRef .tc main_v20) = cmpf .oeq (amV (kr₀ m c)) (c3 0x00000000#32) := by
  after_reads_simp
  simp only [cat_def]
  after_reads_simp
  rfl

theorem u25_eq : U m c (Proc.devRef .tc main_v25)
    = Host.divf (mulf (broadcastInDim S2x768x80 ![0, 1, 2] bcast_S1x1x80_S2x768x80_0_1_2 (broadcastInDim S1x1x80 ![2] bcast_S80_S1x1x80_2 (x3 m c))) (amV (kr₀ m c)))
      (c3 0x40E00000#32) := by
  after_reads_simp
  simp only [cat_def]
  after_reads_simp
  rfl

theorem ucst_eq : U m c (Proc.devRef .tc main_cst_2) = (constant S_ .f32 0x3F800000#32 : FVec Ideal S_ .f32) := by
  after_reads_simp

theorem V0_eq : V0 m c = StableHlo.after (List.flatten [hostOps0_1, hostOps0_2, hostOps0_3, hostOps0_4, hostOps0_5, hostOps0_6]) (U m c) := by
  unfold V0 U
  rw [← StableHlo.after_append]
  rfl

theorem w26_of (V : Valuation τ sig (Elt Ideal)) :
    StableHlo.after (List.flatten [hostOps0_1, hostOps0_2, hostOps0_3, hostOps0_4, hostOps0_5, hostOps0_6]) V (Proc.devRef .tc main_v26)
      = (select (V (Proc.devRef .tc main_v20)) (broadcastInDim S2x768x80 ![] bcast_S_S2x768x80 (V (Proc.devRef .tc main_cst_2)) : FVec Ideal S2x768x80 .f32)
          (V (Proc.devRef .tc main_v25)) : FVec Ideal S2x768x80 .f32) := by
  after_reads_simp
  rfl

theorem w34_of (V : Valuation τ sig (Elt Ideal)) :
    StableHlo.after (List.flatten [hostOps0_1, hostOps0_2, hostOps0_3, hostOps0_4, hostOps0_5, hostOps0_6]) V (Proc.devRef .tc main_v34)
      = (Host.divf (V (Proc.devRef .tc main_v16) : FVec Ideal S2x768x80x96 .f32) (per (select (V (Proc.devRef .tc main_v20)) (broadcastInDim S2x768x80 ![] bcast_S_S2x768x80 (V (Proc.devRef .tc main_cst_2)) : FVec Ideal S2x768x80 .f32)
          (V (Proc.devRef .tc main_v25)) : FVec Ideal S2x768x80 .f32)) : FVec Ideal S2x768x80x96 .f32) := by
  after_reads_simp
  rfl

theorem w31_of (V : Valuation τ sig (Elt Ideal)) :
    StableHlo.after (List.flatten [hostOps0_1, hostOps0_2, hostOps0_3, hostOps0_4, hostOps0_5, hostOps0_6]) V (Proc.devRef .tc main_v31)
      = qV (Host.divf (V (Proc.devRef .tc main_v16) : FVec Ideal S2x768x80x96 .f32) (per (select (V (Proc.devRef .tc main_v20)) (broadcastInDim S2x768x80 ![] bcast_S_S2x768x80 (V (Proc.devRef .tc main_cst_2)) : FVec Ideal S2x768x80 .f32)
          (V (Proc.devRef .tc main_v25)) : FVec Ideal S2x768x80 .f32)) : FVec Ideal S2x768x80x96 .f32) := by
  after_reads_simp
  rfl

theorem v26_eq : V0 m c (Proc.devRef .tc main_v26) = sc₀ m c := by
  rw [V0_eq, w26_of, u20_eq, u25_eq, ucst_eq]
  rfl

theorem v34_eq : V0 m c (Proc.devRef .tc main_v34) = r₀ m c := by
  rw [V0_eq, w34_of, u16_eq, u20_eq, u25_eq, ucst_eq]
  rfl

theorem v31_eq : V0 m c (Proc.devRef .tc main_v31) = qV (r₀ m c) := by
  rw [V0_eq, w31_of, u16_eq, u20_eq, u25_eq, ucst_eq]
  rfl

end

/-- The lines after the call, from any contents. -/
theorem v65_of (V : Valuation τ sig (Elt Ideal)) (X1 X2 : FVec Ideal S2x768x48 .f32)
    (h1 : V (Proc.devRef .tc main_v0) = broadcastInDim S2x768x1x48 ![0, 1, 3] bcast_S2x768x48_S2x768x1x48_0_1_3 X1)
    (h2 : V (Proc.devRef .tc main_v1) = broadcastInDim S2x768x1x48 ![0, 1, 3] bcast_S2x768x48_S2x768x1x48_0_1_3 X2) :
    StableHlo.after (List.flatten [hostOps1, hostOps1_1, hostOps1_2, hostOps1_3, hostOps1_4]) V (Proc.devRef .tc main_v65)
      = dkV (gqV (V (Proc.devRef .tc main_v34)) (V (Proc.devRef .tc main_v35_2)) (V (Proc.devRef .tc main_arg5))) X1 X2 := by
  after_reads_simp
  simp only [cat_def]
  after_reads_simp
  rw [h1, h2]
  rfl

theorem v26_of (V : Valuation τ sig (Elt Ideal)) :
    StableHlo.after (List.flatten [hostOps1, hostOps1_1, hostOps1_2, hostOps1_3, hostOps1_4]) V (Proc.devRef .tc main_v26)
      = V (Proc.devRef .tc main_v26) := by
  after_reads_simp

/-! ### The run -/

section

variable (m : (ℓ : Loc nD τ sig) → Buf (Elt Ideal) ℓ) (ρ : Dev nD → PrngReg)

theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] :=
  (by decide +kernel : ∀ t : Fin grid0.N, _)

theorem whole0 {c₀ : Dev nD} (W : (b : Ref sig .tc) → Buf (Elt Ideal) ((c₀ : Thread nD τ).loc b)) :
    (((cfg0.win 0).blk t0_0).view.read (Elt Ideal) (W (Pipeline.arrRef spec0 0)) : FVec Ideal S2x768x80x96 .f32) = W main_v31 := by
  blk_ext! [idx t0_0]

theorem codes_arr (c : Dev nD) : (dats m 0 c).arrAt 2 (cfgs 0).N = (fptosi 8 (qV (r₀ m c)) : IVec S2x768x80x96 8) := by
  refine (dats m 0 c).arrAt_eq_of_after_last 2 t0_0 (by decide +kernel) _ fun j => ?_
  blk_simp
  rw [after0_2]
  frame_out
  have e : (iblk m c 0 t0_0 : FVec Ideal S2x768x80x96 .f32) = qV (r₀ m c) := by
    have e1 : (iblk m c 0 t0_0 : FVec Ideal S2x768x80x96 .f32) = V m c main_v31 := by
      unfold iblk
      generalize V m c = W
      exact whole0 W
    have e2 : V m c main_v31 = qV (r₀ m c) := v31_eq m c
    rw [e1, e2]
  rw [e]
  unfold k0_pay1
  rw [shapeCast_self]

theorem g_arr (c : Dev nD) : (dats m 0 c).arrAt 4 (cfgs 0).N = (extf .f32 (x4 m c) bitsLt_fp8e5m2_f32 : FVec Ideal S2x768x80x96 .f32) := by
  refine (dats m 0 c).arrAt_eq_of_after_last 4 t0_0 (by decide +kernel) _ fun j => ?_
  blk_simp
  rw [after0_4]
  frame_out
  have e : (iblk m c 1 t0_0 : FVec Ideal S2x768x80x96 .fp8e5m2) = x4 m c := by
    refine Eq.trans ?_ (V_main_arg4 m c)
    blk_ext! [iblk, idx t0_0]
  rw [e]
  rfl

/-- The reference's run: its key gradients, codes and scales over its arguments, which are unchanged. -/
theorem run : θ_run defs (onTc (τ := τ) (main (F := Ideal))) ⟨m, fun _ => 0, ρ⟩ (fun r => ∀ c : Dev nD,
      r.2.mem ((c.tc : Thread nD τ).loc main_v65) = dkV (gqV (r₀ m c) (extf .f32 (x4 m c) bitsLt_fp8e5m2_f32) (x5 m c)) (x1 m c) (x2 m c)
      ∧ r.2.mem ((c.tc : Thread nD τ).loc main_v35_0) = (fptosi 8 (qV (r₀ m c)) : IVec S2x768x80x96 8)
      ∧ r.2.mem ((c.tc : Thread nD τ).loc main_v26) = sc₀ m c) := by
  refine (θ_run defs _ _).mono (fun r h c => ⟨?_, ?_, ?_⟩) (run_main m ρ)
  · refine ((h c).2 main_v65 (Pipeline.mem_restRefs_of main_v65 (by decide) (by decide))).trans ?_
    unfold Pipeline.afterTail₀
    rw [v65_of _ (x1 m c) (x2 m c)
      ((Pipeline.withArrays_of_ne _ c (V0 m c) _ main_v0 (by exact (by decide : ∀ w, Pipeline.arrRef spec0 w ≠ main_v0))).trans (v0_eq m c))
      ((Pipeline.withArrays_of_ne _ c (V0 m c) _ main_v1 (by exact (by decide : ∀ w, Pipeline.arrRef spec0 w ≠ main_v1))).trans (v1_eq m c))]
    rw [Pipeline.withArrays_of_ne _ c (V0 m c) _ main_v34 (by exact (by decide : ∀ w, Pipeline.arrRef spec0 w ≠ main_v34)),
      Pipeline.withArrays_of_ne _ c (V0 m c) _ main_arg5 (by exact (by decide : ∀ w, Pipeline.arrRef spec0 w ≠ main_arg5))]
    have e5 : V0 m c (Proc.devRef .tc main_arg5) = x5 m c := V_main_arg5 m c
    have e35 : Pipeline.withArrays spec0 c (V0 m c) (fun w => (dats m 0 c).arrAt w (cfgs 0).N) (Proc.devRef .tc main_v35_2)
        = (extf .f32 (x4 m c) bitsLt_fp8e5m2_f32 : FVec Ideal S2x768x80x96 .f32) :=
      (Pipeline.withArrays_arr spec0 winFacts0.arr_inj c (V0 m c) _ 4).trans (g_arr m c)
    rw [v34_eq, e5]
    erw [e35]
  · exact ((h c).1 2).trans (codes_arr m c)
  · refine ((h c).2 main_v26 (Pipeline.mem_restRefs_of main_v26 (by decide) (by decide))).trans ?_
    unfold Pipeline.afterTail₀
    rw [v26_of, Pipeline.withArrays_of_ne _ c (V0 m c) _ main_v26 (by exact (by decide : ∀ w, Pipeline.arrRef spec0 w ≠ main_v26))]
    exact v26_eq m c

end

end Cert.ReferenceIdeal.Value
-- ==== Proof.ReferenceIdeal.Element.lean ====
/-
  Each result of the reference at one element, in the notation of the kernel's specification.
-/
module

public import proofs.«01_k».proof.Proof.Gen.ReferenceIdeal.Frame
public import proofs.«01_k».proof.Proof.K.Spec
public import proofs.«01_k».proof.Proof.ReferenceIdeal.Value
public import Idealize.ShloMosaic.Lib.Pipeline.ValueKit

@[expose] public section

set_option maxRecDepth 100000

noncomputable section

namespace Cert.ReferenceIdeal.Value

open Cert.ReferenceIdeal Cert.ReferenceIdeal.Gen Cert.K
open Idealize.ShloMosaic Idealize.ShloMosaic.TcCoe Idealize.SL.Sem
open Idealize.ShloMosaic.Pipeline (Dat)

/-! ### The results at one element -/

section

variable (X0 : FVec Ideal S2x768x7680 .bf16) (X1 X2 : FVec Ideal S2x768x48 .f32) (X3 : FVec Ideal S80 .f32)
  (X4 : FVec Ideal S2x768x80x96 .fp8e5m2) (X5 : FVec Ideal S2x768x80 .f32)

/-- The arguments by natural-number coordinates. -/
def arOf : Ar where
  k b s c := a3 (n0 := 2) (n1 := 768) (n2 := 7680) X0 b s c
  cos b s d := a3 (n0 := 2) (n1 := 768) (n2 := 48) X1 b s d
  sin b s d := a3 (n0 := 2) (n1 := 768) (n2 := 48) X2 b s d
  al H := a1 (n0 := 80) X3 H
  g b s H d := a4 (n0 := 2) (n1 := 768) (n2 := 80) (n3 := 96) X4 b s H d
  gs b s H := a3 (n0 := 2) (n1 := 768) (n2 := 80) X5 b s H

variable (b : Fin 2) (s : Fin 768) (H : Fin 80)

theorem at3 {α : Type} {n0 n1 n2 : Nat} [NeZero n0] [NeZero n1] [NeZero n2] (x : (⟨3, ![n0, n1, n2]⟩ : Shape).Idx → α) (i : Fin n0) (j : Fin n1) (k : Nat) (h : k < n2) :
    a3 x i.val j.val k = x (ix3 i j ⟨k, h⟩) := by
  unfold a3; rw [ofNat_val, ofNat_val, ofNat_mk h]

theorem kr_at (d : Fin 96) : krV X0 X1 X2 (ix4 b s H d) = (arOf X0 X1 X2 X3 X4 X5).kr b.val s.val H.val d.val := by
  unfold krV Ar.kr arOf
  dsimp only
  rw [cat_at]
  by_cases h : d.val < 48
  · rw [dif_pos h, if_pos h, at3 X0 b s _ (by omega), at3 X0 b s _ (by omega), at3 X1 b s _ h, at3 X2 b s _ h]
    show lo (keys X0) _ * tab X1 _ - hi (keys X0) _ * tab X2 _ = _
    rw [lo_at, hi_at, tab_at, tab_at, keys_at, keys_at]
  · rw [dif_neg h, if_neg h, at3 X0 b s _ (by omega), at3 X0 b s _ (by omega), at3 X1 b s _ (by omega), at3 X2 b s _ (by omega)]
    show hi (keys X0) _ * tab X1 _ + lo (keys X0) _ * tab X2 _ = _
    rw [lo_at, hi_at, tab_at, tab_at, keys_at, keys_at]
    congr 3
    congr 2
    show 96 * H.val + (d.val - 48 + 48) = 96 * H.val + d.val
    omega

theorem c3_at (w : BitVec 32) : c3 w (ix3 b s H) = Ideal.ofBits .f32 w := by
  unfold c3
  pointwise []

theorem c4_at (w : BitVec 32) (d : Fin 96) : c4 w (ix4 b s H d) = Ideal.ofBits .f32 w := by
  unfold c4
  pointwise []

theorem div_at {S : Shape} (x y : FVec Ideal S .f32) (i : S.Idx) : (Host.divf x y i : EReal) = Ideal.div (x i) (y i) := rfl
theorem q_of {S : Shape} (x y z : FVec Ideal S .f32) (i : S.Idx) : (minimumf x (maximumf y (Host.roundeven z)) i : EReal)
    = min (x i : EReal) (max (y i) (Ideal.liftRound Ideal.roundHalfEven (z i))) := rfl
theorem sel_eq {S : Shape} (x y a b : FVec Ideal S .f32) (i : S.Idx) : (select (cmpf .oeq x y) a b i : EReal)
    = if (x i : EReal) = y i then (a i : EReal) else b i := by
  show (if BitVec.ofBool (decide ((x i : EReal) = y i)) = 1#1 then (a i : EReal) else b i) = _
  by_cases h : (x i : EReal) = y i
  · rw [if_pos h, decide_eq_true h]; rfl
  · rw [if_neg h, decide_eq_false h]; rfl
theorem sel_le {S : Shape} (x y a b : FVec Ideal S .f32) (i : S.Idx) : (select (cmpf .ole (Host.absf x) y) a b i : EReal)
    = if eabs (x i) ≤ (y i : EReal) then (a i : EReal) else b i := by
  show (if BitVec.ofBool (decide (eabs (x i) ≤ (y i : EReal))) = 1#1 then (a i : EReal) else b i) = _
  by_cases h : eabs (x i) ≤ (y i : EReal)
  · rw [if_pos h, decide_eq_true h]; rfl
  · rw [if_neg h, decide_eq_false h]; rfl
theorem mul_at {S : Shape} (x y : FVec Ideal S .f32) (i : S.Idx) : (mulf x y i : EReal) = (x i : EReal) * y i := rfl
theorem trunc_at {S : Shape} (x : FVec Ideal S .f32) (i : S.Idx) : (truncf .bf16 x bitsLt_bf16_f32 i : EReal) = x i := rfl
theorem ext_at (x : FVec Ideal S2x768x80x96 .fp8e5m2) (i : S2x768x80x96.Idx) : (extf .f32 x bitsLt_fp8e5m2_f32 i : EReal) = x i := rfl

theorem sc_at : scV (amV (krV X0 X1 X2)) X3 (ix3 b s H) = (arOf X0 X1 X2 X3 X4 X5).sc b.val s.val H.val := by
  have ha : amV (krV X0 X1 X2) (ix3 b s H) = (arOf X0 X1 X2 X3 X4 X5).am b.val s.val H.val := by
    rw [am_at]; unfold Ar.am
    refine congrArg (fun f => Finset.fold max (⊥ : EReal) f (Finset.univ : Finset (Fin 96))) (funext fun d => ?_)
    rw [kr_at X0 X1 X2 X3 X4 X5]
  have hal : (broadcastInDim S2x768x80 ![0, 1, 2] bcast_S1x1x80_S2x768x80_0_1_2 (broadcastInDim S1x1x80 ![2] bcast_S80_S1x1x80_2 X3) : FVec Ideal S2x768x80 .f32) (ix3 b s H)
      = (arOf X0 X1 X2 X3 X4 X5).al H.val := by
    show _ = a1 X3 H.val
    unfold a1
    rw [ofNat_val]
    pointwise []
  unfold scV Ar.sc
  rw [sel_eq, div_at, mul_at, hal, ha, c3_at, c3_at, c3_at, Ideal.ofBits_one_f32, Ideal.ofBits_zero_f32, ofBits_seven]

theorem r_at (d : Fin 96) : (Host.divf (krV X0 X1 X2) (per (scV (amV (krV X0 X1 X2)) X3)) : FVec Ideal S2x768x80x96 .f32) (ix4 b s H d)
    = (arOf X0 X1 X2 X3 X4 X5).r b.val s.val H.val d.val := by
  rw [div_at, per_at, sc_at X0 X1 X2 X3 X4 X5, kr_at X0 X1 X2 X3 X4 X5]
  rfl

theorem q_at (d : Fin 96) : (qV (Host.divf (krV X0 X1 X2) (per (scV (amV (krV X0 X1 X2)) X3))) : FVec Ideal S2x768x80x96 .f32) (ix4 b s H d)
    = (arOf X0 X1 X2 X3 X4 X5).q b.val s.val H.val d.val := by
  unfold qV
  rw [q_of, r_at X0 X1 X2 X3 X4 X5, c4_at, c4_at, ofBits_seven, ofBits_neg_seven]
  rfl

theorem gq_at (d : Fin 96) : (gqV (Host.divf (krV X0 X1 X2) (per (scV (amV (krV X0 X1 X2)) X3))) (extf .f32 X4 bitsLt_fp8e5m2_f32) X5 : FVec Ideal S2x768x80x96 .f32) (ix4 b s H d)
    = (arOf X0 X1 X2 X3 X4 X5).gq b.val s.val H.val d.val := by
  unfold gqV
  rw [sel_le, mul_at, ext_at, r_at X0 X1 X2 X3 X4 X5, c4_at, c4_at, per_at, ofBits_seven, Ideal.ofBits_zero_f32]
  unfold Ar.gq
  have hg : (arOf X0 X1 X2 X3 X4 X5).g b.val s.val H.val d.val = X4 (ix4 b s H d) := by
    show a4 X4 _ _ _ _ = _
    unfold a4; rw [ofNat_val, ofNat_val, ofNat_val, ofNat_val]
  have hgs : (arOf X0 X1 X2 X3 X4 X5).gs b.val s.val H.val = X5 (ix3 b s H) := by
    show a3 X5 _ _ _ = _
    unfold a3; rw [ofNat_val, ofNat_val, ofNat_val]
  rw [hg, hgs]

theorem add_at {S : Shape} (x y : FVec Ideal S .f32) (i : S.Idx) : (addf x y i : EReal) = (x i : EReal) + y i := rfl
theorem sub_at {S : Shape} (x y : FVec Ideal S .f32) (i : S.Idx) : (subf x y i : EReal) = (x i : EReal) - y i := rfl

/-- The un-rotation of any gradients at one element. -/
theorem dk_of (gq : FVec Ideal S2x768x80x96 .f32) (c : Fin 7680) : (dkV gq X1 X2 : FVec Ideal S2x768x7680 .bf16) (ix3 b s c)
    = if h : c.val % 96 < 48
      then (gq (ix4 b s ⟨c.val / 96, by omega⟩ ⟨c.val % 96, by omega⟩) : EReal) * X1 (ix3 b s ⟨c.val % 96, h⟩)
        + gq (ix4 b s ⟨c.val / 96, by omega⟩ ⟨c.val % 96 + 48, by omega⟩) * X2 (ix3 b s ⟨c.val % 96, h⟩)
      else (gq (ix4 b s ⟨c.val / 96, by omega⟩ ⟨c.val % 96, by omega⟩) : EReal) * X1 (ix3 b s ⟨c.val % 96 - 48, by omega⟩)
        - gq (ix4 b s ⟨c.val / 96, by omega⟩ ⟨c.val % 96 - 48, by omega⟩) * X2 (ix3 b s ⟨c.val % 96 - 48, by omega⟩) := by
  unfold dkV
  rw [trunc_at, flat_at, cat_at]
  by_cases h : c.val % 96 < 48
  · rw [dif_pos h, dif_pos h, add_at, mul_at, mul_at, lo_at, hi_at, tab_at, tab_at]
  · rw [dif_neg h, dif_neg h, sub_at, mul_at, mul_at, lo_at, hi_at, tab_at, tab_at]
    simp only [show c.val % 96 - 48 + 48 = c.val % 96 from by omega]

theorem dk_at (c : Fin 7680) : (dkV (gqV (Host.divf (krV X0 X1 X2) (per (scV (amV (krV X0 X1 X2)) X3))) (extf .f32 X4 bitsLt_fp8e5m2_f32) X5) X1 X2 : FVec Ideal S2x768x7680 .bf16) (ix3 b s c)
    = (arOf X0 X1 X2 X3 X4 X5).dk b.val s.val (c.val / 96) (c.val % 96) := by
  have hq := gq_at X0 X1 X2 X3 X4 X5 b s
  generalize (gqV (Host.divf (krV X0 X1 X2) (per (scV (amV (krV X0 X1 X2)) X3))) (extf .f32 X4 bitsLt_fp8e5m2_f32) X5) = gq at hq ⊢
  rw [dk_of]
  have hc : ∀ d (h : d < 48), (arOf X0 X1 X2 X3 X4 X5).cos b.val s.val d = X1 (ix3 b s ⟨d, h⟩) := fun d h => at3 X1 b s d h
  have hs : ∀ d (h : d < 48), (arOf X0 X1 X2 X3 X4 X5).sin b.val s.val d = X2 (ix3 b s ⟨d, h⟩) := fun d h => at3 X2 b s d h
  generalize arOf X0 X1 X2 X3 X4 X5 = A at hq hc hs ⊢
  unfold Ar.dk
  by_cases h : c.val % 96 < 48
  · rw [dif_pos h, if_pos h, hc _ h, hs _ h, hq, hq]
  · rw [dif_neg h, if_neg h, hc (c.val % 96 - 48) (by omega), hs (c.val % 96 - 48) (by omega), hq, hq]

end

end Cert.ReferenceIdeal.Value
-- ==== Proof.Value.lean ====
/-
  The value claim: the kernel and the reference leave the same key gradients, codes and scales.
-/
module

public import proofs.«01_k».proof.Defs
public import proofs.«01_k».proof.Proof.Gen.Pre_pre
public import proofs.«01_k».proof.Proof.Gen.On_on
public import proofs.«01_k».proof.Proof.KernelIdeal.Arrays
public import proofs.«01_k».proof.Proof.ReferenceIdeal.Element

@[expose] public section

set_option maxRecDepth 100000

noncomputable section

namespace Cert.Proof

open Idealize.ShloMosaic Idealize.ShloMosaic.TcCoe Idealize.SL.Sem
open Cert.K
open Cert.KernelIdeal.Sb (Ok Res ar₀)

/-! ### The precondition -/

theorem une_at {S : Shape} (x y : FVec Ideal S .f32) (i : S.Idx) (h : cmpf .une x y i = 1#1) : (x i : EReal) ≠ y i := by
  have h' : BitVec.ofBool (decide ((x i : EReal) ≠ y i)) = 1#1 := h
  by_contra e
  rw [decide_eq_false (not_not.2 e)] at h'
  exact absurd h' (by decide)

theorem oge_at {S : Shape} (x y : FVec Ideal S .f32) (i : S.Idx) (h : cmpf .oge x y i = 1#1) : (y i : EReal) ≤ x i := by
  have h' : BitVec.ofBool (decide ((y i : EReal) ≤ x i)) = 1#1 := h
  by_contra e
  rw [decide_eq_false e] at h'
  exact absurd h' (by decide)

theorem olt_at {S : Shape} (x y : FVec Ideal S .f32) (i : S.Idx) (h : cmpf .olt x y i = 1#1) : (x i : EReal) < y i := by
  have h' : BitVec.ofBool (decide ((x i : EReal) < y i)) = 1#1 := h
  by_contra e
  rw [decide_eq_false e] at h'
  exact absurd h' (by decide)

theorem inf_bits : Ideal.ofBits .f32 0x7F800000#32 = ⊤ := by simp [Ideal.ofBits, Ideal.ieee]

theorem ok_of (m : (ℓ : Loc Cert.KernelIdeal.nD Cert.KernelIdeal.τ Cert.KernelIdeal.sig) → Buf (Elt Ideal) ℓ) (h : Pre_KernelIdeal_pre m)
    (c : Dev Cert.KernelIdeal.nD) : Ok (ar₀ m c) := by
  obtain ⟨h1, h2, h3⟩ := h c
  refine ⟨fun H hH => ?_, fun b hb s hs H hH => ?_, fun b hb s hs H hH => ?_⟩
  · have e := une_at _ _ (ix1 ⟨H, hH⟩) (congrFun h1 _)
    show a1 (n0 := 80) _ H ≠ 0
    rw [Cert.KernelIdeal.Sb.a1_mk _ H hH]
    refine fun e' => e (e'.trans ?_)
    exact Ideal.ofBits_zero_f32.symm
  · have e := oge_at _ _ (ix3 ⟨b, hb⟩ ⟨s, hs⟩ ⟨H, hH⟩) (congrFun h2 _)
    show 0 ≤ a3 (n0 := 2) (n1 := 768) (n2 := 80) _ b s H
    rw [Cert.KernelIdeal.Sb.a3_mk _ b s H hb hs hH]
    exact (le_of_eq Ideal.ofBits_zero_f32.symm).trans e
  · have e := olt_at _ _ (ix3 ⟨b, hb⟩ ⟨s, hs⟩ ⟨H, hH⟩) (congrFun h3 _)
    show a3 (n0 := 2) (n1 := 768) (n2 := 80) _ b s H ≠ ⊤
    rw [Cert.KernelIdeal.Sb.a3_mk _ b s H hb hs hH]
    exact ne_of_lt (lt_of_lt_of_eq e inf_bits)

/-! ### The reference's results -/

theorem codes_at {S : Shape} (x : FVec Ideal S .f32) (i : S.Idx) : (fptosi 8 x : IVec S 8) i = FloatOps.fptosi (F := Ideal) (φ := .f32) 8 (x i) := rfl

theorem reference_res (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        Res (Cert.ReferenceIdeal.Value.arOf (Cert.ReferenceIdeal.Value.x0 m c) (Cert.ReferenceIdeal.Value.x1 m c) (Cert.ReferenceIdeal.Value.x2 m c)
            (Cert.ReferenceIdeal.Value.x3 m c) (Cert.ReferenceIdeal.Value.x4 m c) (Cert.ReferenceIdeal.Value.x5 m c))
          (r.2.mem ((c.tc : Thread Cert.ReferenceIdeal.nD Cert.ReferenceIdeal.τ).loc Cert.ReferenceIdeal.main_v65))
          (r.2.mem ((c.tc : Thread Cert.ReferenceIdeal.nD Cert.ReferenceIdeal.τ).loc Cert.ReferenceIdeal.main_v35_0))
          (r.2.mem ((c.tc : Thread Cert.ReferenceIdeal.nD Cert.ReferenceIdeal.τ).loc Cert.ReferenceIdeal.main_v26))) := by
  refine (θ_run _ _ _).mono (fun r h c => ?_) (Cert.ReferenceIdeal.Value.run m ρ)
  obtain ⟨h1, h2, h3⟩ := h c
  rw [h1, h2, h3]
  unfold Cert.ReferenceIdeal.Value.r₀ Cert.ReferenceIdeal.Value.sc₀ Cert.ReferenceIdeal.Value.kr₀
  generalize Cert.ReferenceIdeal.Value.x0 m c = X0
  generalize Cert.ReferenceIdeal.Value.x1 m c = X1
  generalize Cert.ReferenceIdeal.Value.x2 m c = X2
  generalize Cert.ReferenceIdeal.Value.x3 m c = X3
  generalize Cert.ReferenceIdeal.Value.x4 m c = X4
  generalize Cert.ReferenceIdeal.Value.x5 m c = X5
  exact ⟨fun b s col => Cert.ReferenceIdeal.Value.dk_at X0 X1 X2 X3 X4 X5 b s col,
    fun b s H d => (codes_at _ _).trans <| congrArg (FloatOps.fptosi (F := Ideal) (φ := .f32) 8) (Cert.ReferenceIdeal.Value.q_at X0 X1 X2 X3 X4 X5 b s H d),
    fun b s H => Cert.ReferenceIdeal.Value.sc_at X0 X1 X2 X3 X4 X5 b s H⟩

/-! ### The results as arrays -/

def vDk (A : Ar) : FVec Ideal ⟨3, ![2, 768, 7680]⟩ .bf16 := fun i => A.dk (i 0).val (i 1).val ((i 2).val / 96) ((i 2).val % 96)
def vCodes (A : Ar) : IVec ⟨4, ![2, 768, 80, 96]⟩ 8 := fun i => FloatOps.fptosi (F := Ideal) (φ := .f32) 8 (A.q (i 0).val (i 1).val (i 2).val (i 3).val)
def vS (A : Ar) : FVec Ideal ⟨3, ![2, 768, 80]⟩ .f32 := fun i => A.sc (i 0).val (i 1).val (i 2).val

theorem ix3_eta {n0 n1 n2 : Nat} (i : (⟨3, ![n0, n1, n2]⟩ : Shape).Idx) : i = ix3 (n0 := n0) (n1 := n1) (n2 := n2) (i 0) (i 1) (i 2) := by
  funext a; fin_cases a <;> rfl
theorem ix4_eta {n0 n1 n2 n3 : Nat} (i : (⟨4, ![n0, n1, n2, n3]⟩ : Shape).Idx) : i = ix4 (n0 := n0) (n1 := n1) (n2 := n2) (n3 := n3) (i 0) (i 1) (i 2) (i 3) := by
  funext a; fin_cases a <;> rfl

theorem res_eq {A : Ar} {dk : FVec Ideal ⟨3, ![2, 768, 7680]⟩ .bf16} {cd : IVec ⟨4, ![2, 768, 80, 96]⟩ 8} {sc : FVec Ideal ⟨3, ![2, 768, 80]⟩ .f32}
    (h : Res A dk cd sc) : dk = vDk A ∧ cd = vCodes A ∧ sc = vS A := by
  refine ⟨funext fun i => ?_, funext fun i => ?_, funext fun i => ?_⟩
  · rw [ix3_eta i]; exact h.dk _ _ _
  · rw [ix4_eta i]; exact h.cd _ _ _ _
  · rw [ix3_eta i]; exact h.sc _ _ _

theorem algebraic : algebraic_KernelIdeal_ReferenceIdeal_on_on_pre_pre := by
  intro m g m' g' hpre hag
  refine ⟨fun c => vDk (ar₀ m c), fun _ _ => (0 : EReal), fun _ _ => (0 : EReal), fun c => vCodes (ar₀ m c), fun c => vS (ar₀ m c), ?_, ?_⟩
  · refine (θ_run _ _ _).mono (fun r h c => ?_) (θ_run_and (Cert.KernelIdeal.Sb.run m g (ok_of m hpre))
      (Cert.KernelIdeal.Gen.frame_of m g (Cert.KernelIdeal.Sb.vdats m) (fun _ _ => rfl) (Cert.KernelIdeal.Sb.value_run m g)))
    obtain ⟨e1, e2, e3⟩ := res_eq (h.1 c)
    refine ⟨fun i _ => congrFun e1 i, fun i hi => absurd hi ?_, fun i hi => absurd hi ?_, fun i _ => congrFun e2 i, fun i _ => congrFun e3 i, h.2 c⟩
    · show ¬ ((0#1 : BitVec 1) = 1#1); decide
    · show ¬ ((0#1 : BitVec 1) = 1#1); decide
  · refine (θ_run _ _ _).mono (fun r h c => ?_) (θ_run_and (reference_res m' g') (Cert.ReferenceIdeal.Gen.unchanged m' g'))
    have e : Cert.ReferenceIdeal.Value.arOf (Cert.ReferenceIdeal.Value.x0 m' c) (Cert.ReferenceIdeal.Value.x1 m' c) (Cert.ReferenceIdeal.Value.x2 m' c)
            (Cert.ReferenceIdeal.Value.x3 m' c) (Cert.ReferenceIdeal.Value.x4 m' c) (Cert.ReferenceIdeal.Value.x5 m' c) = ar₀ m c := by
      obtain ⟨a0, a1, a2, a3, a4, a5⟩ := hag c
      unfold Cert.ReferenceIdeal.Value.x0 Cert.ReferenceIdeal.Value.x1 Cert.ReferenceIdeal.Value.x2 Cert.ReferenceIdeal.Value.x3
        Cert.ReferenceIdeal.Value.x4 Cert.ReferenceIdeal.Value.x5
      rw [a0, a1, a2, a3, a4, a5]
      rfl
    obtain ⟨e1, e2, e3⟩ := res_eq (e ▸ h.1 c)
    refine ⟨fun i _ => congrFun e1 i, fun i hi => absurd hi ?_, fun i hi => absurd hi ?_, fun i _ => congrFun e2 i, fun i _ => congrFun e3 i, h.2 c⟩
    · show ¬ ((0#1 : BitVec 1) = 1#1); decide
    · show ¬ ((0#1 : BitVec 1) = 1#1); decide

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Gen.On_on
public import proofs.«01_k».proof.Proof.Kernel.Frame
public import proofs.«01_k».proof.Proof.KernelIdeal.Frame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pre.Gen.facts,
  Cert.On_on.Gen.facts,
  fun m g _ => Cert.Kernel.Sb.frame_run m g, fun m g _ => Cert.KernelIdeal.Sb.frame_run m g, fun m g _ => Cert.KernelIdeal.Sb.frame_run m g,
  fun m g _ => Cert.ReferenceIdeal.Gen.frame m g, fun m g _ => Cert.ReferenceIdeal.Gen.frame m g,
  IdealRules.named_const.statement _ _ _ _ _ rfl, algebraic⟩

end Cert.Proof

end
